-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)) (v3 : (c : Dev Cert.KernelIdeal.nD) → Buf (Elt Ideal) ((c.tc : Thread Cert.KernelIdeal.nD Cert.KernelIdeal.τ).loc Cert.KernelIdeal.main_v31_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_v31_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v52_0)) (v1 : (c : Dev Cert.Kernel4Ideal.nD) → Buf (Elt Ideal) ((c.tc : Thread Cert.Kernel4Ideal.nD Cert.Kernel4Ideal.τ).loc Cert.Kernel4Ideal.main_v52_1)) (v2 : (c : Dev Cert.Kernel4Ideal.nD) → Buf (Elt Ideal) ((c.tc : Thread Cert.Kernel4Ideal.nD Cert.Kernel4Ideal.τ).loc Cert.Kernel4Ideal.main_v52_2)) (v3 : (c : Dev Cert.Kernel4Ideal.nD) → Buf (Elt Ideal) ((c.tc : Thread Cert.Kernel4Ideal.nD Cert.Kernel4Ideal.τ).loc Cert.Kernel4Ideal.main_v52_3)) (v4 : (c : Dev Cert.Kernel4Ideal.nD) → Buf (Elt Ideal) ((c.tc : Thread Cert.Kernel4Ideal.nD Cert.Kernel4Ideal.τ).loc Cert.Kernel4Ideal.main_v52_4)) (v5 : (c : Dev Cert.Kernel4Ideal.nD) → Buf (Elt Ideal) ((c.tc : Thread Cert.Kernel4Ideal.nD Cert.Kernel4Ideal.τ).loc Cert.Kernel4Ideal.main_v52_5)) (v6 : (c : Dev Cert.Kernel4Ideal.nD) → Buf (Elt Ideal) ((c.tc : Thread Cert.Kernel4Ideal.nD Cert.Kernel4Ideal.τ).loc Cert.Kernel4Ideal.main_v52_6)) (v7 : (c : Dev Cert.Kernel4Ideal.nD) → Buf (Elt Ideal) ((c.tc : Thread Cert.Kernel4Ideal.nD Cert.Kernel4Ideal.τ).loc Cert.Kernel4Ideal.main_v52_7)) (v8 : (c : Dev Cert.Kernel4Ideal.nD) → Buf (Elt Ideal) ((c.tc : Thread Cert.Kernel4Ideal.nD Cert.Kernel4Ideal.τ).loc Cert.Kernel4Ideal.main_v52_8)) (v9 : (c : Dev Cert.Kernel4Ideal.nD) → Buf (Elt Ideal) ((c.tc : Thread Cert.Kernel4Ideal.nD Cert.Kernel4Ideal.τ).loc Cert.Kernel4Ideal.main_v52_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52_0) = v0 c
          ∧ r.2.mem ((c.tc : Thread Cert.Kernel4Ideal.nD Cert.Kernel4Ideal.τ).loc Cert.Kernel4Ideal.main_v52_1) = v1 c
          ∧ r.2.mem ((c.tc : Thread Cert.Kernel4Ideal.nD Cert.Kernel4Ideal.τ).loc Cert.Kernel4Ideal.main_v52_2) = v2 c
          ∧ r.2.mem ((c.tc : Thread Cert.Kernel4Ideal.nD Cert.Kernel4Ideal.τ).loc Cert.Kernel4Ideal.main_v52_3) = v3 c
          ∧ r.2.mem ((c.tc : Thread Cert.Kernel4Ideal.nD Cert.Kernel4Ideal.τ).loc Cert.Kernel4Ideal.main_v52_4) = v4 c
          ∧ r.2.mem ((c.tc : Thread Cert.Kernel4Ideal.nD Cert.Kernel4Ideal.τ).loc Cert.Kernel4Ideal.main_v52_5) = v5 c
          ∧ r.2.mem ((c.tc : Thread Cert.Kernel4Ideal.nD Cert.Kernel4Ideal.τ).loc Cert.Kernel4Ideal.main_v52_6) = v6 c
          ∧ r.2.mem ((c.tc : Thread Cert.Kernel4Ideal.nD Cert.Kernel4Ideal.τ).loc Cert.Kernel4Ideal.main_v52_7) = v7 c
          ∧ r.2.mem ((c.tc : Thread Cert.Kernel4Ideal.nD Cert.Kernel4Ideal.τ).loc Cert.Kernel4Ideal.main_v52_8) = v8 c
          ∧ r.2.mem ((c.tc : Thread Cert.Kernel4Ideal.nD Cert.Kernel4Ideal.τ).loc Cert.Kernel4Ideal.main_v52_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v155) = v0 c
          ∧ r.2.mem ((c.tc : Thread Cert.Reference4Ideal.nD Cert.Reference4Ideal.τ).loc Cert.Reference4Ideal.main_v156) = v1 c
          ∧ r.2.mem ((c.tc : Thread Cert.Reference4Ideal.nD Cert.Reference4Ideal.τ).loc Cert.Reference4Ideal.main_v157) = v2 c
          ∧ r.2.mem ((c.tc : Thread Cert.Reference4Ideal.nD Cert.Reference4Ideal.τ).loc Cert.Reference4Ideal.main_v158) = v3 c
          ∧ r.2.mem ((c.tc : Thread Cert.Reference4Ideal.nD Cert.Reference4Ideal.τ).loc Cert.Reference4Ideal.main_v160) = v4 c
          ∧ r.2.mem ((c.tc : Thread Cert.Reference4Ideal.nD Cert.Reference4Ideal.τ).loc Cert.Reference4Ideal.main_v161) = v5 c
          ∧ r.2.mem ((c.tc : Thread Cert.Reference4Ideal.nD Cert.Reference4Ideal.τ).loc Cert.Reference4Ideal.main_v163) = v6 c
          ∧ r.2.mem ((c.tc : Thread Cert.Reference4Ideal.nD Cert.Reference4Ideal.τ).loc Cert.Reference4Ideal.main_v164) = v7 c
          ∧ r.2.mem ((c.tc : Thread Cert.Reference4Ideal.nD Cert.Reference4Ideal.τ).loc Cert.Reference4Ideal.main_v153) = v8 c
          ∧ r.2.mem ((c.tc : Thread Cert.Reference4Ideal.nD Cert.Reference4Ideal.τ).loc Cert.Reference4Ideal.main_v165) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x2048x2048 : Shape := ⟨3, ![4, 2048, 2048]⟩
abbrev S1x2048 : Shape := ⟨2, ![1, 2048]⟩
abbrev S1x2048x8784 : Shape := ⟨3, ![1, 2048, 8784]⟩
abbrev S1x8 : Shape := ⟨2, ![1, 8]⟩
abbrev S1x1024 : Shape := ⟨2, ![1, 1024]⟩
abbrev S_ : Shape := ⟨0, ![]⟩

class Facts : Prop where
  bcast_S_S4x2048x2048 : S_.BroadcastsInDim S4x2048x2048 (![] : Fin 0 → Fin S4x2048x2048.rank)
  bcast_S_S1x2048 : S_.BroadcastsInDim S1x2048 (![] : Fin 0 → Fin S1x2048.rank)
  bcast_S_S1x2048x8784 : S_.BroadcastsInDim S1x2048x8784 (![] : Fin 0 → Fin S1x2048x8784.rank)
  bcast_S_S1x8 : S_.BroadcastsInDim S1x8 (![] : Fin 0 → Fin S1x8.rank)

variable [Facts]

def fn {F : FTy → Type} [FloatOps F] (main_arg0 : FVec F S4x2048x2048 .f32) (main_arg1 : FVec F S1x2048 .f32) (main_arg2 : FVec F S1x2048x8784 .f32) (main_arg3 : FVec F S1x8 .f32) (main_arg4 : FVec F S1x1024 .f32) : IVec S4x2048x2048 1 × IVec S1x2048 1 × IVec S1x2048x8784 1 × IVec S1x8 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x8784 .f32 := Host.absf main_arg2
  let main_cst_1 : FVec F S_ .f32 := constant S_ .f32 0x7F800000#32
  let main_v7 : FVec F S1x2048x8784 .f32 := broadcastInDim S1x2048x8784 ![] bcast_S_S1x2048x8784 main_cst_1
  let main_v8 : IVec S1x2048x8784 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  (main_v2, main_v5, main_v8, main_v11)
-- ==== Pre_finite2.lean ====
abbrev S4x2048x2048 : Shape := ⟨3, ![4, 2048, 2048]⟩
abbrev S8192x1024 : Shape := ⟨2, ![8192, 1024]⟩
abbrev S8192x512 : Shape := ⟨2, ![8192, 512]⟩
abbrev S4096x128 : Shape := ⟨2, ![4096, 128]⟩
abbrev S1x2048x2048 : Shape := ⟨3, ![1, 2048, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S4096x128 : S_.BroadcastsInDim S4096x128 (![] : Fin 0 → Fin S4096x128.rank)

variable [Facts]

def fn {F : FTy → Type} [FloatOps F] (main_arg0 : FVec F S4x2048x2048 .f32) (main_arg1 : FVec F S8192x1024 .bf16) (main_arg2 : FVec F S8192x512 .bf16) (main_arg3 : FVec F S8192x512 .bf16) (main_arg4 : FVec F S8192x512 .f32) (main_arg5 : FVec F S4096x128 .f32) (main_arg6 : FVec F S4096x128 .f32) (main_arg7 : FVec F S1x2048x2048 .f32) (main_arg8 : FVec F S1x2048 .f32) : IVec S8192x512 1 × IVec S4096x128 1 :=
  let main_v0 : FVec F S8192x512 .f32 := (extf .f32 · bitsLt_bf16_f32) main_arg3
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S4096x128 .f32 := Host.absf main_arg5
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  (main_v3, main_v6)
-- ==== Kernel.lean ====
abbrev S4x2048x2048 : Shape := ⟨3, ![4, 2048, 2048]⟩
abbrev S1x2048 : Shape := ⟨2, ![1, 2048]⟩
abbrev S1x2048x8784 : Shape := ⟨3, ![1, 2048, 8784]⟩
abbrev S1x8 : Shape := ⟨2, ![1, 8]⟩
abbrev S1x1024 : Shape := ⟨2, ![1, 1024]⟩
abbrev S2048x8784 : Shape := ⟨2, ![2048, 8784]⟩
abbrev S8784x2048 : Shape := ⟨2, ![8784, 2048]⟩
abbrev S2560x2048 : Shape := ⟨2, ![2560, 2048]⟩
abbrev S1024x2048 : Shape := ⟨2, ![1024, 2048]⟩
abbrev S64x2048 : Shape := ⟨2, ![64, 2048]⟩
abbrev S4x2048 : Shape := ⟨2, ![4, 2048]⟩
abbrev S8x2048 : Shape := ⟨2, ![8, 2048]⟩
abbrev S_ : Shape := ⟨0, ![]⟩
abbrev S48x2048 : Shape := ⟨2, ![48, 2048]⟩
abbrev S128x2048 : Shape := ⟨2, ![128, 2048]⟩
abbrev S2048x128 : Shape := ⟨2, ![2048, 128]⟩
abbrev S8192x2048 : Shape := ⟨2, ![8192, 2048]⟩
abbrev S2048 : Shape := ⟨1, ![2048]⟩
abbrev S8 : Shape := ⟨1, ![8]⟩
abbrev S1024 : Shape := ⟨1, ![1024]⟩
abbrev S1x128 : Shape := ⟨2, ![1, 128]⟩
abbrev S1 : Shape := ⟨1, ![1]⟩
abbrev S2 : Shape := ⟨1, ![2]⟩
abbrev S16x1 : Shape := ⟨2, ![16, 1]⟩
abbrev S8192x1024 : Shape := ⟨2, ![8192, 1024]⟩
abbrev S4x4x256x256 : Shape := ⟨4, ![4, 4, 256, 256]⟩
abbrev S4x4x256 : Shape := ⟨3, ![4, 4, 256]⟩
abbrev S4x8x128 : Shape := ⟨3, ![4, 8, 128]⟩
abbrev S256x2048 : Shape := ⟨2, ![256, 2048]⟩
abbrev S5120x2048 : Shape := ⟨2, ![5120, 2048]⟩
abbrev S256x1024 : Shape := ⟨2, ![256, 1024]⟩
abbrev S1x4x256x256 : Shape := ⟨4, ![1, 4, 256, 256]⟩
abbrev S1x4x256 : Shape := ⟨3, ![1, 4, 256]⟩
abbrev S1x8x128 : Shape := ⟨3, ![1, 8, 128]⟩
abbrev S256x3072 : Shape := ⟨2, ![256, 3072]⟩
abbrev S256x128 : Shape := ⟨2, ![256, 128]⟩
abbrev S16x256 : Shape := ⟨2, ![16, 256]⟩
abbrev S4x256x256 : Shape := ⟨3, ![4, 256, 256]⟩
abbrev S4x256 : Shape := ⟨2, ![4, 256]⟩
abbrev S8x128 : Shape := ⟨2, ![8, 128]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x1 : Shape := ⟨2, ![1, 1]⟩
abbrev S1x256 : Shape := ⟨2, ![1, 256]⟩
abbrev S16x2048 : Shape := ⟨2, ![16, 2048]⟩

abbrev nBuf : Space → Nat
  | .hbm => 47
  | .vmem => 31
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x8784, .f32⟩
  | .hbm, ⟨3, _⟩ => ⟨S1x8, .f32⟩
  | .hbm, ⟨4, _⟩ => ⟨S1x1024, .f32⟩
  | .hbm, ⟨5, _⟩ => ⟨S2048x8784, .f32⟩
  | .hbm, ⟨6, _⟩ => ⟨S8784x2048, .f32⟩
  | .hbm, ⟨7, _⟩ => ⟨S8784x2048, .bf16⟩
  | .hbm, ⟨8, _⟩ => ⟨S2560x2048, .f32⟩
  | .hbm, ⟨9, _⟩ => ⟨S2560x2048, .bf16⟩
  | .hbm, ⟨10, _⟩ => ⟨S1024x2048, .f32⟩
  | .hbm, ⟨11, _⟩ => ⟨S1024x2048, .bf16⟩
  | .hbm, ⟨12, _⟩ => ⟨S64x2048, .f32⟩
  | .hbm, ⟨13, _⟩ => ⟨S4x2048, .f32⟩
  | .hbm, ⟨14, _⟩ => ⟨S4x2048, .f32⟩
  | .hbm, ⟨15, _⟩ => ⟨S8x2048, .f32⟩
  | .hbm, ⟨16, _⟩ => ⟨S_, .f32⟩
  | .hbm, ⟨17, _⟩ => ⟨S48x2048, .f32⟩
  | .hbm, ⟨18, _⟩ => ⟨S128x2048, .f32⟩
  | .hbm, ⟨19, _⟩ => ⟨S128x2048, .bf16⟩
  | .hbm, ⟨20, _⟩ => ⟨S2048x128, .bf16⟩
  | .hbm, ⟨21, _⟩ => ⟨S8192x2048, .f32⟩
  | .hbm, ⟨22, _⟩ => ⟨S2048, .f32⟩
  | .hbm, ⟨23, _⟩ => ⟨S8, .f32⟩
  | .hbm, ⟨24, _⟩ => ⟨S1024, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S_, .f32⟩
  | .hbm, ⟨34, _⟩ => ⟨S16x1, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S16x1, .f32⟩
  | .hbm, ⟨41, _⟩ => ⟨S1x2048, .f32⟩
  | .hbm, ⟨42, _⟩ => ⟨S1x1024, .f32⟩
  | .hbm, ⟨43, _⟩ => ⟨S8192x1024, .bf16⟩
  | .hbm, ⟨44, _⟩ => ⟨S4x4x256x256, .f32⟩
  | .hbm, ⟨45, _⟩ => ⟨S4x4x256, .f32⟩
  | .hbm, ⟨46, _⟩ => ⟨S4x8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S5120x2048, .bf16⟩
  | .local _ .vmem, ⟨4, _⟩ => ⟨S2048x128, .bf16⟩
  | .local _ .vmem, ⟨5, _⟩ => ⟨S128x2048, .bf16⟩
  | .local _ .vmem, ⟨6, _⟩ => ⟨S1x128, .f32⟩
  | .local _ .vmem, ⟨7, _⟩ => ⟨S16x1, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S1x4x256x256, .f32⟩
  | .local _ .vmem, ⟨12, _⟩ => ⟨S1x4x256x256, .f32⟩
  | .local _ .vmem, ⟨13, _⟩ => ⟨S1x4x256, .f32⟩
  | .local _ .vmem, ⟨14, _⟩ => ⟨S1x4x256, .f32⟩
  | .local _ .vmem, ⟨15, _⟩ => ⟨S1x8x128, .f32⟩
  | .local _ .vmem, ⟨16, _⟩ => ⟨S1x8x128, .f32⟩
  | .local _ .vmem, ⟨17, _⟩ => ⟨S256x2048, .bf16⟩
  | .local _ .vmem, ⟨18, _⟩ => ⟨S256x3072, .bf16⟩
  | .local _ .vmem, ⟨19, _⟩ => ⟨S256x3072, .bf16⟩
  | .local _ .vmem, ⟨20, _⟩ => ⟨S256x1024, .f32⟩
  | .local _ .vmem, ⟨21, _⟩ => ⟨S256x1024, .f32⟩
  | .local _ .vmem, ⟨22, _⟩ => ⟨S256x128, .f32⟩
  | .local _ .vmem, ⟨23, _⟩ => ⟨S256x128, .f32⟩
  | .local _ .vmem, ⟨24, _⟩ => ⟨S16x256, .f32⟩
  | .local _ .vmem, ⟨25, _⟩ => ⟨S16x256, .f32⟩
  | .local _ .vmem, ⟨26, _⟩ => ⟨S4x256x256, .f32⟩
  | .local _ .vmem, ⟨27, _⟩ => ⟨S4x256, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_scratch13 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c2_i32 : BitVec 32 := 2#32
  let v11 : BitVec 32 := Scalar.remsi arg0 c2_i32
  let c0_i32_5 : BitVec 32 := 0#32
  let v12 : BitVec 1 := Scalar.cmpi .eq v11 c0_i32_5
  let v13 : BitVec 32 := Scalar.extui v12
  let c0_i32_6 : BitVec 32 := 0#32
  let v14 : BitVec 1 := Scalar.cmpi .ne v13 c0_i32_6
  v14

def k0_cond4 (i : grid0.Coords) : BitVec 1 :=
  let arg0 : BitVec 32 := BitVec.ofNat 32 (i 0).val
  let c2_i32_7 : BitVec 32 := 2#32
  let v15 : BitVec 32 := Scalar.remsi arg0 c2_i32_7
  let c1_i32_8 : BitVec 32 := 1#32
  let v16 : BitVec 1 := Scalar.cmpi .eq v15 c1_i32_8
  let v17 : BitVec 32 := Scalar.extui v16
  let c0_i32_9 : BitVec 32 := 0#32
  let v18 : BitVec 1 := Scalar.cmpi .ne v17 c0_i32_9
  v18

def k0_cond5 (i : grid0.Coords) : BitVec 1 :=
  let arg0 : BitVec 32 := BitVec.ofNat 32 (i 0).val
  let c1_i32_10 : BitVec 32 := 1#32
  let v19 : BitVec 1 := Scalar.cmpi .sge arg0 c1_i32_10
  let c1_i32_11 : BitVec 32 := 1#32
  let v20 : BitVec 32 := Scalar.subi arg0 c1_i32_11
  let c0_i32_12 : BitVec 32 := 0#32
  let v21 : BitVec 32 := Scalar.maxsi v20 c0_i32_12
  let c8_i32_13 : BitVec 32 := 8#32
  let v22 : BitVec 32 := Scalar.remsi v21 c8_i32_13
  let c7_i32 : BitVec 32 := 7#32
  let v23 : BitVec 1 := Scalar.cmpi .eq v22 c7_i32
  let v24 : BitVec 1 := Scalar.andi v19 v23
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  let c0_i32_9 : BitVec 32 := 0#32
  ![v18.toNat, c0_i32_6.toNat, c0_i32_7.toNat, c0_i32_8.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x2048x2048 : Shape := ⟨3, ![4, 2048, 2048]⟩
abbrev S1x2048 : Shape := ⟨2, ![1, 2048]⟩
abbrev S1x2048x8784 : Shape := ⟨3, ![1, 2048, 8784]⟩
abbrev S1x8 : Shape := ⟨2, ![1, 8]⟩
abbrev S1x1024 : Shape := ⟨2, ![1, 1024]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x8784 : Shape := ⟨2, ![2048, 8784]⟩
abbrev S4x2048x8784 : Shape := ⟨3, ![4, 2048, 8784]⟩
abbrev S8 : Shape := ⟨1, ![8]⟩
abbrev S4x2048x1024 : Shape := ⟨3, ![4, 2048, 1024]⟩
abbrev S4x2048x4x256 : Shape := ⟨4, ![4, 2048, 4, 256]⟩
abbrev S4x2048x4 : Shape := ⟨3, ![4, 2048, 4]⟩
abbrev S4 : Shape := ⟨1, ![4]⟩
abbrev S1x1x4 : Shape := ⟨3, ![1, 1, 4]⟩
abbrev S4x4x2048x256 : Shape := ⟨4, ![4, 4, 2048, 256]⟩
abbrev S4x4x2048 : Shape := ⟨3, ![4, 4, 2048]⟩
abbrev S2048x2048 : Shape := ⟨2, ![2048, 2048]⟩
abbrev S4x4x2048x1 : Shape := ⟨4, ![4, 4, 2048, 1]⟩
abbrev S4x4x1x2048 : Shape := ⟨4, ![4, 4, 1, 2048]⟩
abbrev S4x4x2048x2048 : Shape := ⟨4, ![4, 4, 2048, 2048]⟩
abbrev S4x4x1 : Shape := ⟨3, ![4, 4, 1]⟩
abbrev S4x4 : Shape := ⟨2, ![4, 4]⟩
abbrev S4x4x256x256 : Shape := ⟨4, ![4, 4, 256, 256]⟩
abbrev S4x4x256 : Shape := ⟨3, ![4, 4, 256]⟩
abbrev S1024 : Shape := ⟨1, ![1024]⟩
abbrev S1x1x1024 : Shape := ⟨3, ![1, 1, 1024]⟩
abbrev S4x8x128 : Shape := ⟨3, ![4, 8, 128]⟩
abbrev S4x4x128 : Shape := ⟨3, ![4, 4, 128]⟩
abbrev S1 : Shape := ⟨1, ![1]⟩
abbrev S8192x1024 : Shape := ⟨2, ![8192, 1024]⟩

abbrev nBuf : Space → Nat
  | .hbm => 175
  | .vmem => 0
  | .smem => 0
  | _ => 0

abbrev hbmTy0_0 (i : Nat) : BufTy := match i % 128 with
  | 0 => ⟨S4x2048x2048, .f32⟩
  | 1 => ⟨S1x2048, .f32⟩
  | 2 => ⟨S1x2048x8784, .f32⟩
  | 3 => ⟨S1x8, .f32⟩
  | 4 => ⟨S1x1024, .f32⟩
  | 5 => ⟨S2048, .f32⟩
  | 6 => ⟨S4x2048x2048, .f32⟩
  | 7 => ⟨S_, .f32⟩
  | 8 => ⟨S4x2048, .f32⟩
  | 9 => ⟨S4x2048x1, .f32⟩
  | 10 => ⟨S_, .f32⟩
  | 11 => ⟨S4x2048x1, .f32⟩
  | 12 => ⟨S4x2048x1, .f32⟩
  | 13 => ⟨S_, .f32⟩
  | 14 => ⟨S4x2048x1, .f32⟩
  | 15 => ⟨S4x2048x1, .f32⟩
  | 16 => ⟨S4x2048x1, .f32⟩
  | 17 => ⟨S4x2048x2048, .f32⟩
  | 18 => ⟨S4x2048x2048, .f32⟩
  | 19 => ⟨S1x1x2048, .f32⟩
  | 20 => ⟨S4x2048x2048, .f32⟩
  | 21 => ⟨S4x2048x2048, .f32⟩
  | 22 => ⟨S2048x8784, .f32⟩
  | 23 => ⟨S4x2048x8784, .f32⟩
  | 24 => ⟨S8, .f32⟩
  | 25 => ⟨S4x2048x1024, .f32⟩
  | 26 => ⟨S4x2048x4x256, .f32⟩
  | 27 => ⟨S4x2048x1024, .f32⟩
  | 28 => ⟨S4x2048x4x256, .f32⟩
  | 29 => ⟨S_, .f32⟩
  | 30 => ⟨S4x2048x4x256, .f32⟩
  | 31 => ⟨S4x2048x4x256, .f32⟩
  | 32 => ⟨S4x2048x1024, .f32⟩
  | 33 => ⟨S4x2048x4x256, .f32⟩
  | 34 => ⟨S4x2048x1024, .f32⟩
  | 35 => ⟨S4x2048x1024, .f32⟩
  | 36 => ⟨S4x2048x4, .f32⟩
  | 37 => ⟨S4, .f32⟩
  | 38 => ⟨S1x1x4, .f32⟩
  | 39 => ⟨S4x2048x4, .f32⟩
  | 40 => ⟨S4x2048x4, .f32⟩
  | 41 => ⟨S4x2048x4, .f32⟩
  | 42 => ⟨S4, .f32⟩
  | 43 => ⟨S1x1x4, .f32⟩
  | 44 => ⟨S4x2048x4, .f32⟩
  | 45 => ⟨S4x2048x4, .f32⟩
  | 46 => ⟨S4x2048x4, .f32⟩
  | 47 => ⟨S_, .f32⟩
  | 48 => ⟨S4x2048x4, .f32⟩
  | 49 => ⟨S4x2048x4, .f32⟩
  | 50 => ⟨S4x2048x4, .f32⟩
  | 51 => ⟨S4x2048x4, .f32⟩
  | 52 => ⟨S4x2048x4, .i1⟩
  | 53 => ⟨S4x2048x4, .f32⟩
  | 54 => ⟨S4x2048x4, .f32⟩
  | 55 => ⟨S4x2048x4, .f32⟩
  | 56 => ⟨S4x2048x4, .f32⟩
  | 57 => ⟨S4x2048x4, .f32⟩
  | 58 => ⟨S4x2048x4, .f32⟩
  | 59 => ⟨S4x2048x4, .f32⟩
  | 60 => ⟨S4x2048x4, .f32⟩
  | 61 => ⟨S4x2048x4, .f32⟩
  | 62 => ⟨S4x4x2048x256, .f32⟩
  | 63 => ⟨S4x4x2048x256, .f32⟩
  | 64 => ⟨S4x4x2048x256, .f32⟩
  | 65 => ⟨S4x4x2048, .f32⟩
  | 66 => ⟨S4x4x2048, .f32⟩
  | 67 => ⟨S_, .i1⟩
  | 68 => ⟨S2048x2048, .i1⟩
  | 69 => ⟨S2048x2048, .i32⟩
  | 70 => ⟨S_, .i32⟩
  | 71 => ⟨S2048x2048, .i32⟩
  | 72 => ⟨S2048x2048, .i32⟩
  | 73 => ⟨S2048x2048, .i32⟩
  | 74 => ⟨S2048x2048, .i1⟩
  | 75 => ⟨S_, .i1⟩
  | 76 => ⟨S2048x2048, .i1⟩
  | 77 => ⟨S2048x2048, .i1⟩
  | 78 => ⟨S_, .f32⟩
  | 79 => ⟨S_, .f32⟩
  | 80 => ⟨S4x4x2048, .f32⟩
  | 81 => ⟨S4x4x2048x1, .f32⟩
  | 82 => ⟨S4x4x1x2048, .f32⟩
  | 83 => ⟨S4x4x2048x2048, .f32⟩
  | 84 => ⟨S4x4x2048x2048, .f32⟩
  | 85 => ⟨S4x4x2048x2048, .f32⟩
  | 86 => ⟨S4x4x1x2048, .f32⟩
  | 87 => ⟨S4x4x2048x2048, .f32⟩
  | 88 => ⟨S4x4x2048x2048, .f32⟩
  | 89 => ⟨S_, .f32⟩
  | 90 => ⟨S_, .f32⟩
  | 91 => ⟨S4x4x2048x2048, .i1⟩
  | 92 => ⟨S4x4x2048x2048, .f32⟩
  | 93 => ⟨S4x4x2048x2048, .f32⟩
  | 94 => ⟨S_, .f32⟩
  | 95 => ⟨S4x4x2048, .f32⟩
  | 96 => ⟨S4x4x2048, .f32⟩
  | 97 => ⟨S4x4x2048x1, .f32⟩
  | 98 => ⟨S4x4x2048x2048, .f32⟩
  | 99 => ⟨S4x4x2048x2048, .f32⟩
  | 100 => ⟨S4x4x2048x2048, .f32⟩
  | 101 => ⟨S4x4x2048x2048, .f32⟩
  | 102 => ⟨S4x4x2048x2048, .f32⟩
  | 103 => ⟨S4x4x2048x256, .f32⟩
  | 104 => ⟨S_, .f32⟩
  | 105 => ⟨S4x4x2048, .f32⟩
  | 106 => ⟨S4x4x2048, .f32⟩
  | 107 => ⟨S4x4x2048, .f32⟩
  | 108 => ⟨S4x4x2048, .f32⟩
  | 109 => ⟨S4x4x2048, .f32⟩
  | 110 => ⟨S4x4x2048x1, .f32⟩
  | 111 => ⟨S4x4x2048x256, .f32⟩
  | 112 => ⟨S4x4x2048x256, .f32⟩
  | 113 => ⟨S4x4x1, .f32⟩
  | 114 => ⟨S4x4, .f32⟩
  | 115 => ⟨S4x4x1, .f32⟩
  | 116 => ⟨S4x4x2048, .f32⟩
  | 117 => ⟨S4x4x2048, .f32⟩
  | 118 => ⟨S4x4x2048, .f32⟩
  | 119 => ⟨S4x4x1, .f32⟩
  | 120 => ⟨S4x4x2048, .f32⟩
  | 121 => ⟨S4x4x2048, .f32⟩
  | 122 => ⟨S4x4x2048, .f32⟩
  | 123 => ⟨S4x4x2048x1, .f32⟩
  | 124 => ⟨S4x4x2048x256, .f32⟩
  | 125 => ⟨S4x4x2048x256, .f32⟩
  | 126 => ⟨S4x4x256x256, .f32⟩
  | 127 => ⟨S4x4x256, .f32⟩
  | _ => ⟨S4x2048x2048, .f32⟩

abbrev hbmTy0_1 (i : Nat) : BufTy := match i % 128 with
  | 0 => ⟨S4x4x2048x256, .f32⟩
  | 1 => ⟨S_, .f32⟩
  | 2 => ⟨S4x4x2048, .f32⟩
  | 3 => ⟨S4x4x2048x1, .f32⟩
  | 4 => ⟨S_, .f32⟩
  | 5 => ⟨S4x4x2048x1, .f32⟩
  | 6 => ⟨S4x4x2048x1, .f32⟩
  | 7 => ⟨S_, .f32⟩
  | 8 => ⟨S4x4x2048x1, .f32⟩
  | 9 => ⟨S4x4x2048x1, .f32⟩
  | 10 => ⟨S4x4x2048x1, .f32⟩
  | 11 => ⟨S4x4x2048x256, .f32⟩
  | 12 => ⟨S4x4x2048x256, .f32⟩
  | 13 => ⟨S4x2048x4x256, .f32⟩
  | 14 => ⟨S4x2048x1024, .f32⟩
  | 15 => ⟨S1024, .f32⟩
  | 16 => ⟨S1x1x1024, .f32⟩
  | 17 => ⟨S4x2048x1024, .f32⟩
  | 18 => ⟨S4x2048x1024, .f32⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S_, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S_, .f32⟩
  | 31 => ⟨S4x2048x1024, .f32⟩
  | 32 => ⟨S4x2048x1024, .f32⟩
  | 33 => ⟨S_, .f32⟩
  | 34 => ⟨S4x2048x1024, .f32⟩
  | 35 => ⟨S4x2048x1024, .f32⟩
  | 36 => ⟨S4x2048x1024, .f32⟩
  | 37 => ⟨S4x2048x1024, .f32⟩
  | 38 => ⟨S_, .f32⟩
  | 39 => ⟨S4x8x128, .f32⟩
  | 40 => ⟨S4x4x1, .f32⟩
  | 41 => ⟨S4x4x128, .f32⟩
  | 42 => ⟨S_, .i32⟩
  | 43 => ⟨S1, .i32⟩
  | 44 => ⟨S4x8x128, .f32⟩
  | 45 => ⟨S8192x1024, .f32⟩
  | 46 => ⟨S8192x1024, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c : Ref sig .tc := ⟨.hbm, 67, rfl⟩
abbrev main_v43 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_0 : Ref sig .tc := ⟨.hbm, 75, rfl⟩
abbrev main_call1_v5 : Ref sig .tc := ⟨.hbm, 76, rfl⟩
abbrev main_v44 : Ref sig .tc := ⟨.hbm, 77, rfl⟩
abbrev main_call2_call0_cst : Ref sig .tc := ⟨.hbm, 78, rfl⟩
abbrev main_call2_call0_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_3 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v54 : Ref sig .tc := ⟨.hbm, 93, rfl⟩
abbrev main_cst_4 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_5 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_6 : Ref sig .tc := ⟨.hbm, 129, rfl⟩
abbrev main_v88 : Ref sig .tc := ⟨.hbm, 130, rfl⟩
abbrev main_v89 : Ref sig .tc := ⟨.hbm, 131, rfl⟩
abbrev main_cst_7 : Ref sig .tc := ⟨.hbm, 132, rfl⟩
abbrev main_v90 : Ref sig .tc := ⟨.hbm, 133, rfl⟩
abbrev main_v91 : Ref sig .tc := ⟨.hbm, 134, rfl⟩
abbrev main_cst_8 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_9 : Ref sig .tc := ⟨.hbm, 149, rfl⟩
abbrev main_v105 : Ref sig .tc := ⟨.hbm, 150, rfl⟩
abbrev main_v106 : Ref sig .tc := ⟨.hbm, 151, rfl⟩
abbrev main_cst_10 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call4_v0 : Ref sig .tc := ⟨.hbm, 156, rfl⟩
abbrev main_call4_v1 : Ref sig .tc := ⟨.hbm, 157, rfl⟩
abbrev main_call4_cst : Ref sig .tc := ⟨.hbm, 158, rfl⟩
abbrev main_call4_v2 : Ref sig .tc := ⟨.hbm, 159, rfl⟩
abbrev main_call4_v3 : Ref sig .tc := ⟨.hbm, 160, rfl⟩
abbrev main_call4_cst_0 : Ref sig .tc := ⟨.hbm, 161, rfl⟩
abbrev main_call4_v4 : Ref sig .tc := ⟨.hbm, 162, rfl⟩
abbrev main_call4_v5 : Ref sig .tc := ⟨.hbm, 163, rfl⟩
abbrev main_v110 : Ref sig .tc := ⟨.hbm, 164, rfl⟩
abbrev main_v111 : Ref sig .tc := ⟨.hbm, 165, rfl⟩
abbrev main_cst_11 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_12 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩

abbrev nD : Nat := 1
abbrev τ : Topo := Topo.v7x

variable {F : FTy → Type} [FloatOps F]
-- ==== Kernel2.lean ====
abbrev S4x2048x2048 : Shape := ⟨3, ![4, 2048, 2048]⟩
abbrev S8192x1024 : Shape := ⟨2, ![8192, 1024]⟩
abbrev S8192x512 : Shape := ⟨2, ![8192, 512]⟩
abbrev S4096x128 : Shape := ⟨2, ![4096, 128]⟩
abbrev S1x2048x2048 : Shape := ⟨3, ![1, 2048, 2048]⟩
abbrev S1x2048 : Shape := ⟨2, ![1, 2048]⟩
abbrev S8192x2048 : Shape := ⟨2, ![8192, 2048]⟩
abbrev S2048x2048 : Shape := ⟨2, ![2048, 2048]⟩
abbrev S2048 : Shape := ⟨1, ![2048]⟩
abbrev S1024x2048 : Shape := ⟨2, ![1024, 2048]⟩
abbrev S512x2048 : Shape := ⟨2, ![512, 2048]⟩
abbrev S512x1024 : Shape := ⟨2, ![512, 1024]⟩
abbrev S512x512 : Shape := ⟨2, ![512, 512]⟩
abbrev S1024x128 : Shape := ⟨2, ![1024, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S4096x128, .f32⟩
  | .hbm, ⟨6, _⟩ => ⟨S4096x128, .f32⟩
  | .hbm, ⟨7, _⟩ => ⟨S1x2048x2048, .f32⟩
  | .hbm, ⟨8, _⟩ => ⟨S1x2048, .f32⟩
  | .hbm, ⟨9, _⟩ => ⟨S8192x2048, .f32⟩
  | .hbm, ⟨10, _⟩ => ⟨S2048x2048, .f32⟩
  | .hbm, ⟨11, _⟩ => ⟨S2048, .f32⟩
  | .hbm, ⟨12, _⟩ => ⟨S2048x2048, .bf16⟩
  | .hbm, ⟨13, _⟩ => ⟨S1024x2048, .bf16⟩
  | .hbm, ⟨14, _⟩ => ⟨S512x2048, .bf16⟩
  | .hbm, ⟨15, _⟩ => ⟨S512x2048, .bf16⟩
  | .hbm, ⟨16, _⟩ => ⟨S1x2048, .f32⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x2048x2048 : Shape := ⟨3, ![4, 2048, 2048]⟩
abbrev S8192x1024 : Shape := ⟨2, ![8192, 1024]⟩
abbrev S8192x512 : Shape := ⟨2, ![8192, 512]⟩
abbrev S4096x128 : Shape := ⟨2, ![4096, 128]⟩
abbrev S1x2048x2048 : Shape := ⟨3, ![1, 2048, 2048]⟩
abbrev S1x2048 : Shape := ⟨2, ![1, 2048]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8192x2048 : Shape := ⟨2, ![8192, 2048]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S4096x128, .f32⟩
  | .hbm, ⟨6, _⟩ => ⟨S4096x128, .f32⟩
  | .hbm, ⟨7, _⟩ => ⟨S1x2048x2048, .f32⟩
  | .hbm, ⟨8, _⟩ => ⟨S1x2048, .f32⟩
  | .hbm, ⟨9, _⟩ => ⟨S8192x512, .f32⟩
  | .hbm, ⟨10, _⟩ => ⟨S4x2048x4x128, .f32⟩
  | .hbm, ⟨11, _⟩ => ⟨S4x256x4x128, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x256x4x128, .f32⟩
  | .hbm, ⟨28, _⟩ => ⟨S4x4x128x2048, .f32⟩
  | .hbm, ⟨29, _⟩ => ⟨S4x2048x4x128, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x1024, .f32⟩
  | .hbm, ⟨42, _⟩ => ⟨S8192x512, .f32⟩
  | .hbm, ⟨43, _⟩ => ⟨S8192x2048, .f32⟩
  | .hbm, ⟨44, _⟩ => ⟨S8192x2048, .f32⟩
  | .hbm, ⟨45, _⟩ => ⟨S2048x2048, .f32⟩
  | .hbm, ⟨46, _⟩ => ⟨S8192x2048, .f32⟩
  | .hbm, ⟨47, _⟩ => ⟨S2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S1x2048, .f32⟩
  | .hbm, ⟨62, _⟩ => ⟨S8192x2048, .f32⟩
  | .hbm, ⟨63, _⟩ => ⟨S8192x2048, .f32⟩
  | .hbm, ⟨64, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== Kernel3.lean ====
abbrev S4x256x2048 : Shape := ⟨3, ![4, 256, 2048]⟩
abbrev S1x2048 : Shape := ⟨2, ![1, 2048]⟩
abbrev S1x2048x512 : Shape := ⟨3, ![1, 2048, 512]⟩
abbrev S1024x2048 : Shape := ⟨2, ![1024, 2048]⟩
abbrev S2048 : Shape := ⟨1, ![2048]⟩
abbrev S2048x512 : Shape := ⟨2, ![2048, 512]⟩
abbrev S4096x128 : Shape := ⟨2, ![4096, 128]⟩
abbrev S256x2048 : Shape := ⟨2, ![256, 2048]⟩
abbrev S1024x128 : Shape := ⟨2, ![1024, 128]⟩
abbrev S256 : Shape := ⟨1, ![256]⟩
abbrev S256x1 : Shape := ⟨2, ![256, 1]⟩
abbrev S256x512 : Shape := ⟨2, ![256, 512]⟩
abbrev S256x128 : Shape := ⟨2, ![256, 128]⟩

abbrev nBuf : Space → Nat
  | .hbm => 13
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S1024x2048, .f32⟩
  | .hbm, ⟨5, _⟩ => ⟨S2048, .f32⟩
  | .hbm, ⟨6, _⟩ => ⟨S2048x512, .f32⟩
  | .hbm, ⟨7, _⟩ => ⟨S2048x512, .f32⟩
  | .hbm, ⟨8, _⟩ => ⟨S1x2048, .f32⟩
  | .hbm, ⟨9, _⟩ => ⟨S2048x512, .bf16⟩
  | .hbm, ⟨10, _⟩ => ⟨S2048x512, .bf16⟩
  | .hbm, ⟨11, _⟩ => ⟨S4096x128, .f32⟩
  | .hbm, ⟨12, _⟩ => ⟨S4096x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x256x2048 : Shape := ⟨3, ![4, 256, 2048]⟩
abbrev S1x2048 : Shape := ⟨2, ![1, 2048]⟩
abbrev S1x2048x512 : Shape := ⟨3, ![1, 2048, 512]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x512 : Shape := ⟨2, ![2048, 512]⟩
abbrev S4x256x512 : Shape := ⟨3, ![4, 256, 512]⟩
abbrev S4096x128 : Shape := ⟨2, ![4096, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S2048x512, .f32⟩
  | .hbm, ⟨22, _⟩ => ⟨S4x256x512, .f32⟩
  | .hbm, ⟨23, _⟩ => ⟨S4096x128, .f32⟩
  | .hbm, ⟨24, _⟩ => ⟨S2048x512, .f32⟩
  | .hbm, ⟨25, _⟩ => ⟨S4x256x512, .f32⟩
  | .hbm, ⟨26, _⟩ => ⟨S4096x128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S4x2048x2048 : Shape := ⟨3, ![4, 2048, 2048]⟩
abbrev S1x2048 : Shape := ⟨2, ![1, 2048]⟩
abbrev S1x2048x8784 : Shape := ⟨3, ![1, 2048, 8784]⟩
abbrev S2048x8784 : Shape := ⟨2, ![2048, 8784]⟩
abbrev S8784x2048 : Shape := ⟨2, ![8784, 2048]⟩
abbrev S2560x2048 : Shape := ⟨2, ![2560, 2048]⟩
abbrev S1024x2048 : Shape := ⟨2, ![1024, 2048]⟩
abbrev S64x2048 : Shape := ⟨2, ![64, 2048]⟩
abbrev S4x2048 : Shape := ⟨2, ![4, 2048]⟩
abbrev S8x2048 : Shape := ⟨2, ![8, 2048]⟩
abbrev S_ : Shape := ⟨0, ![]⟩
abbrev S48x2048 : Shape := ⟨2, ![48, 2048]⟩
abbrev S128x2048 : Shape := ⟨2, ![128, 2048]⟩
abbrev S2048x128 : Shape := ⟨2, ![2048, 128]⟩
abbrev S2048 : Shape := ⟨1, ![2048]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S32 : Shape := ⟨1, ![32]⟩
abbrev S1x32 : Shape := ⟨2, ![1, 32]⟩
abbrev S2048x32 : Shape := ⟨2, ![2048, 32]⟩
abbrev S8192x2048 : Shape := ⟨2, ![8192, 2048]⟩
abbrev S8192x512 : Shape := ⟨2, ![8192, 512]⟩
abbrev S32768x128 : Shape := ⟨2, ![32768, 128]⟩
abbrev S8192x64 : Shape := ⟨2, ![8192, 64]⟩
abbrev S8192x128 : Shape := ⟨2, ![8192, 128]⟩
abbrev S128x8192 : Shape := ⟨2, ![128, 8192]⟩
abbrev S512x2048 : Shape := ⟨2, ![512, 2048]⟩
abbrev S512x128 : Shape := ⟨2, ![512, 128]⟩
abbrev S512x512 : Shape := ⟨2, ![512, 512]⟩
abbrev S512x64 : Shape := ⟨2, ![512, 64]⟩
abbrev S128x512 : Shape := ⟨2, ![128, 512]⟩
abbrev S512 : Shape := ⟨1, ![512]⟩
abbrev S512x1 : Shape := ⟨2, ![512, 1]⟩

abbrev nBuf : Space → Nat
  | .hbm => 70
  | .vmem => 36
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x8784, .f32⟩
  | .hbm, ⟨3, _⟩ => ⟨S2048x8784, .f32⟩
  | .hbm, ⟨4, _⟩ => ⟨S8784x2048, .f32⟩
  | .hbm, ⟨5, _⟩ => ⟨S8784x2048, .bf16⟩
  | .hbm, ⟨6, _⟩ => ⟨S2560x2048, .f32⟩
  | .hbm, ⟨7, _⟩ => ⟨S2560x2048, .bf16⟩
  | .hbm, ⟨8, _⟩ => ⟨S1024x2048, .f32⟩
  | .hbm, ⟨9, _⟩ => ⟨S1024x2048, .bf16⟩
  | .hbm, ⟨10, _⟩ => ⟨S64x2048, .f32⟩
  | .hbm, ⟨11, _⟩ => ⟨S4x2048, .f32⟩
  | .hbm, ⟨12, _⟩ => ⟨S4x2048, .f32⟩
  | .hbm, ⟨13, _⟩ => ⟨S8x2048, .f32⟩
  | .hbm, ⟨14, _⟩ => ⟨S_, .f32⟩
  | .hbm, ⟨15, _⟩ => ⟨S48x2048, .f32⟩
  | .hbm, ⟨16, _⟩ => ⟨S128x2048, .f32⟩
  | .hbm, ⟨17, _⟩ => ⟨S128x2048, .bf16⟩
  | .hbm, ⟨18, _⟩ => ⟨S2048x128, .bf16⟩
  | .hbm, ⟨19, _⟩ => ⟨S2048, .i32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S2048, .f32⟩
  | .hbm, ⟨29, _⟩ => ⟨S2048x1, .f32⟩
  | .hbm, ⟨30, _⟩ => ⟨S1x64, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x64, .f32⟩
  | .hbm, ⟨36, _⟩ => ⟨S2048x128, .f32⟩
  | .hbm, ⟨37, _⟩ => ⟨S2048x64, .f32⟩
  | .hbm, ⟨38, _⟩ => ⟨S2048x128, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S2048, .f32⟩
  | .hbm, ⟨48, _⟩ => ⟨S2048x1, .f32⟩
  | .hbm, ⟨49, _⟩ => ⟨S1x32, .f32⟩
  | .hbm, ⟨50, _⟩ => ⟨S2048x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x128, .f32⟩
  | .hbm, ⟨56, _⟩ => ⟨S2048x32, .f32⟩
  | .hbm, ⟨57, _⟩ => ⟨S2048x32, .f32⟩
  | .hbm, ⟨58, _⟩ => ⟨S2048x128, .f32⟩
  | .hbm, ⟨59, _⟩ => ⟨S8192x2048, .f32⟩
  | .hbm, ⟨60, _⟩ => ⟨S8192x512, .bf16⟩
  | .hbm, ⟨61, _⟩ => ⟨S32768x128, .f32⟩
  | .hbm, ⟨62, _⟩ => ⟨S32768x128, .f32⟩
  | .hbm, ⟨63, _⟩ => ⟨S8192x512, .f32⟩
  | .hbm, ⟨64, _⟩ => ⟨S8192x512, .bf16⟩
  | .hbm, ⟨65, _⟩ => ⟨S8192x512, .f32⟩
  | .hbm, ⟨66, _⟩ => ⟨S8192x512, .bf16⟩
  | .hbm, ⟨67, _⟩ => ⟨S8192x64, .f32⟩
  | .hbm, ⟨68, _⟩ => ⟨S8192x128, .f32⟩
  | .hbm, ⟨69, _⟩ => ⟨S128x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2560x2048, .bf16⟩
  | .local _ .vmem, ⟨4, _⟩ => ⟨S1024x2048, .bf16⟩
  | .local _ .vmem, ⟨5, _⟩ => ⟨S2048x128, .bf16⟩
  | .local _ .vmem, ⟨6, _⟩ => ⟨S128x2048, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S512x512, .f32⟩
  | .local _ .vmem, ⟨26, _⟩ => ⟨S512x512, .f32⟩
  | .local _ .vmem, ⟨27, _⟩ => ⟨S512x512, .bf16⟩
  | .local _ .vmem, ⟨28, _⟩ => ⟨S512x512, .bf16⟩
  | .local _ .vmem, ⟨29, _⟩ => ⟨S512x64, .f32⟩
  | .local _ .vmem, ⟨30, _⟩ => ⟨S512x64, .f32⟩
  | .local _ .vmem, ⟨31, _⟩ => ⟨S512x128, .f32⟩
  | .local _ .vmem, ⟨32, _⟩ => ⟨S512x128, .f32⟩
  | .local _ .vmem, ⟨33, _⟩ => ⟨S128x512, .f32⟩
  | .local _ .vmem, ⟨34, _⟩ => ⟨S128x512, .f32⟩
  | .local _ .vmem, ⟨35, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52_0 : Ref sig .tc := ⟨.hbm, 60, rfl⟩
abbrev main_v52_1 : Ref sig .tc := ⟨.hbm, 61, rfl⟩
abbrev main_v52_2 : Ref sig .tc := ⟨.hbm, 62, rfl⟩
abbrev main_v52_3 : Ref sig .tc := ⟨.hbm, 63, rfl⟩
abbrev main_v52_4 : Ref sig .tc := ⟨.hbm, 64, rfl⟩
abbrev main_v52_5 : Ref sig .tc := ⟨.hbm, 65, rfl⟩
abbrev main_v52_6 : Ref sig .tc := ⟨.hbm, 66, rfl⟩
abbrev main_v52_7 : Ref sig .tc := ⟨.hbm, 67, rfl⟩
abbrev main_v52_8 : Ref sig .tc := ⟨.hbm, 68, rfl⟩
abbrev main_v52_9 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S4x2048x2048 : Shape := ⟨3, ![4, 2048, 2048]⟩
abbrev S1x2048 : Shape := ⟨2, ![1, 2048]⟩
abbrev S1x2048x8784 : Shape := ⟨3, ![1, 2048, 8784]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x8784 : Shape := ⟨2, ![2048, 8784]⟩
abbrev S4x2048x8784 : Shape := ⟨3, ![4, 2048, 8784]⟩
abbrev S4x2048x512 : Shape := ⟨3, ![4, 2048, 512]⟩
abbrev S4x2048x4x128 : Shape := ⟨4, ![4, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x4x64 : Shape := ⟨4, ![4, 2048, 4, 64]⟩
abbrev S4x2048x8x64 : Shape := ⟨4, ![4, 2048, 8, 64]⟩
abbrev S32 : Shape := ⟨1, ![32]⟩
abbrev S1x32 : Shape := ⟨2, ![1, 32]⟩
abbrev S2048x32 : Shape := ⟨2, ![2048, 32]⟩
abbrev S1x2048x1x32 : Shape := ⟨4, ![1, 2048, 1, 32]⟩
abbrev S4x2048x8x32 : Shape := ⟨4, ![4, 2048, 8, 32]⟩
abbrev S4x2048x64 : Shape := ⟨3, ![4, 2048, 64]⟩
abbrev S4x2048x1x64 : Shape := ⟨4, ![4, 2048, 1, 64]⟩
abbrev S4x2048x1x32 : Shape := ⟨4, ![4, 2048, 1, 32]⟩
abbrev S4x2048x8 : Shape := ⟨3, ![4, 2048, 8]⟩
abbrev S4x2048x48 : Shape := ⟨3, ![4, 2048, 48]⟩
abbrev S4x2048x128 : Shape := ⟨3, ![4, 2048, 128]⟩
abbrev S8192x128 : Shape := ⟨2, ![8192, 128]⟩
abbrev S8192x512 : Shape := ⟨2, ![8192, 512]⟩
abbrev S32768x128 : Shape := ⟨2, ![32768, 128]⟩
abbrev S8192x64 : Shape := ⟨2, ![8192, 64]⟩
abbrev S128x8192 : Shape := ⟨2, ![128, 8192]⟩

abbrev nBuf : Space → Nat
  | .hbm => 183
  | .vmem => 0
  | .smem => 0
  | _ => 0

abbrev hbmTy0_0 (i : Nat) : BufTy := match i % 128 with
  | 0 => ⟨S4x2048x2048, .f32⟩
  | 1 => ⟨S1x2048, .f32⟩
  | 2 => ⟨S1x2048x8784, .f32⟩
  | 3 => ⟨S2048, .f32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x1, .f32⟩
  | 15 => ⟨S4x2048x2048, .f32⟩
  | 16 => ⟨S4x2048x2048, .f32⟩
  | 17 => ⟨S1x1x2048, .f32⟩
  | 18 => ⟨S4x2048x2048, .f32⟩
  | 19 => ⟨S4x2048x2048, .f32⟩
  | 20 => ⟨S2048x8784, .f32⟩
  | 21 => ⟨S4x2048x8784, .f32⟩
  | 22 => ⟨S2048, .i32⟩
  | 23 => ⟨S4x2048x512, .f32⟩
  | 24 => ⟨S4x2048x4x128, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S2048, .f32⟩
  | 34 => ⟨S2048x1, .f32⟩
  | 35 => ⟨S1x64, .f32⟩
  | 36 => ⟨S2048x64, .f32⟩
  | 37 => ⟨S2048x64, .f32⟩
  | 38 => ⟨S2048x64, .f32⟩
  | 39 => ⟨S2048x64, .f32⟩
  | 40 => ⟨S1x2048x1x64, .f32⟩
  | 41 => ⟨S2048x64, .f32⟩
  | 42 => ⟨S1x2048x1x64, .f32⟩
  | 43 => ⟨S4x2048x4x64, .f32⟩
  | 44 => ⟨S4x2048x4x64, .f32⟩
  | 45 => ⟨S4x2048x4x64, .f32⟩
  | 46 => ⟨S4x2048x4x64, .f32⟩
  | 47 => ⟨S4x2048x4x64, .f32⟩
  | 48 => ⟨S4x2048x4x64, .f32⟩
  | 49 => ⟨S4x2048x4x64, .f32⟩
  | 50 => ⟨S4x2048x4x64, .f32⟩
  | 51 => ⟨S4x2048x4x64, .f32⟩
  | 52 => ⟨S4x2048x4x64, .f32⟩
  | 53 => ⟨S4x2048x4x64, .f32⟩
  | 54 => ⟨S4x2048x4x64, .f32⟩
  | 55 => ⟨S4x2048x4x128, .f32⟩
  | 56 => ⟨S_, .f32⟩
  | 57 => ⟨S4x2048x4x128, .f32⟩
  | 58 => ⟨S4x2048x4x128, .f32⟩
  | 59 => ⟨S4x2048x512, .f32⟩
  | 60 => ⟨S4x2048x4x128, .f32⟩
  | 61 => ⟨S64, .f32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S2048, .f32⟩
  | 70 => ⟨S2048x1, .f32⟩
  | 71 => ⟨S1x64, .f32⟩
  | 72 => ⟨S2048x64, .f32⟩
  | 73 => ⟨S2048x64, .f32⟩
  | 74 => ⟨S2048x64, .f32⟩
  | 75 => ⟨S2048x64, .f32⟩
  | 76 => ⟨S1x2048x1x64, .f32⟩
  | 77 => ⟨S2048x64, .f32⟩
  | 78 => ⟨S1x2048x1x64, .f32⟩
  | 79 => ⟨S4x2048x4x64, .f32⟩
  | 80 => ⟨S4x2048x4x64, .f32⟩
  | 81 => ⟨S4x2048x4x64, .f32⟩
  | 82 => ⟨S4x2048x4x64, .f32⟩
  | 83 => ⟨S4x2048x4x64, .f32⟩
  | 84 => ⟨S4x2048x4x64, .f32⟩
  | 85 => ⟨S4x2048x4x64, .f32⟩
  | 86 => ⟨S4x2048x4x64, .f32⟩
  | 87 => ⟨S4x2048x4x64, .f32⟩
  | 88 => ⟨S4x2048x4x64, .f32⟩
  | 89 => ⟨S4x2048x4x64, .f32⟩
  | 90 => ⟨S4x2048x4x64, .f32⟩
  | 91 => ⟨S4x2048x4x128, .f32⟩
  | 92 => ⟨S4x2048x512, .f32⟩
  | 93 => ⟨S4x2048x512, .f32⟩
  | 94 => ⟨S4x2048x512, .f32⟩
  | 95 => ⟨S4x2048x8x64, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S2048, .f32⟩
  | 105 => ⟨S2048x1, .f32⟩
  | 106 => ⟨S1x32, .f32⟩
  | 107 => ⟨S2048x32, .f32⟩
  | 108 => ⟨S2048x32, .f32⟩
  | 109 => ⟨S2048x32, .f32⟩
  | 110 => ⟨S2048x32, .f32⟩
  | 111 => ⟨S1x2048x1x32, .f32⟩
  | 112 => ⟨S2048x32, .f32⟩
  | 113 => ⟨S1x2048x1x32, .f32⟩
  | 114 => ⟨S4x2048x8x32, .f32⟩
  | 115 => ⟨S4x2048x8x32, .f32⟩
  | 116 => ⟨S4x2048x8x32, .f32⟩
  | 117 => ⟨S4x2048x8x32, .f32⟩
  | 118 => ⟨S4x2048x8x32, .f32⟩
  | 119 => ⟨S4x2048x8x32, .f32⟩
  | 120 => ⟨S4x2048x8x32, .f32⟩
  | 121 => ⟨S4x2048x8x32, .f32⟩
  | 122 => ⟨S4x2048x8x32, .f32⟩
  | 123 => ⟨S4x2048x8x32, .f32⟩
  | 124 => ⟨S4x2048x8x32, .f32⟩
  | 125 => ⟨S4x2048x8x32, .f32⟩
  | 126 => ⟨S4x2048x8x64, .f32⟩
  | 127 => ⟨S4x2048x64, .f32⟩
  | _ => ⟨S4x2048x2048, .f32⟩

abbrev hbmTy0_1 (i : Nat) : BufTy := match i % 128 with
  | 0 => ⟨S4x2048x1x64, .f32⟩
  | 1 => ⟨S32, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S2048, .f32⟩
  | 10 => ⟨S2048x1, .f32⟩
  | 11 => ⟨S1x32, .f32⟩
  | 12 => ⟨S2048x32, .f32⟩
  | 13 => ⟨S2048x32, .f32⟩
  | 14 => ⟨S2048x32, .f32⟩
  | 15 => ⟨S2048x32, .f32⟩
  | 16 => ⟨S1x2048x1x32, .f32⟩
  | 17 => ⟨S2048x32, .f32⟩
  | 18 => ⟨S1x2048x1x32, .f32⟩
  | 19 => ⟨S4x2048x1x32, .f32⟩
  | 20 => ⟨S4x2048x1x32, .f32⟩
  | 21 => ⟨S4x2048x1x32, .f32⟩
  | 22 => ⟨S4x2048x1x32, .f32⟩
  | 23 => ⟨S4x2048x1x32, .f32⟩
  | 24 => ⟨S4x2048x1x32, .f32⟩
  | 25 => ⟨S4x2048x1x32, .f32⟩
  | 26 => ⟨S4x2048x1x32, .f32⟩
  | 27 => ⟨S4x2048x1x32, .f32⟩
  | 28 => ⟨S4x2048x1x32, .f32⟩
  | 29 => ⟨S4x2048x1x32, .f32⟩
  | 30 => ⟨S4x2048x1x32, .f32⟩
  | 31 => ⟨S4x2048x1x64, .f32⟩
  | 32 => ⟨S4x2048x8, .f32⟩
  | 33 => ⟨S4x2048x512, .f32⟩
  | 34 => ⟨S_, .f32⟩
  | 35 => ⟨S4x2048x512, .f32⟩
  | 36 => ⟨S4x2048x512, .f32⟩
  | 37 => ⟨S4x2048x512, .f32⟩
  | 38 => ⟨S4x2048x8, .f32⟩
  | 39 => ⟨S_, .f32⟩
  | 40 => ⟨S4x2048x48, .f32⟩
  | 41 => ⟨S4x2048x128, .f32⟩
  | 42 => ⟨S8192x128, .f32⟩
  | 43 => ⟨S8192x512, .f32⟩
  | 44 => ⟨S8192x512, .bf16⟩
  | 45 => ⟨S32768x128, .f32⟩
  | 46 => ⟨S32768x128, .f32⟩
  | 47 => ⟨S8192x512, .f32⟩
  | 48 => ⟨S8192x512, .f32⟩
  | 49 => ⟨S8192x512, .bf16⟩
  | 50 => ⟨S8192x512, .f32⟩
  | 51 => ⟨S8192x512, .f32⟩
  | 52 => ⟨S8192x512, .bf16⟩
  | 53 => ⟨S8192x64, .f32⟩
  | 54 => ⟨S128x8192, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_7 : Ref sig .tc := ⟨.hbm, 98, rfl⟩
abbrev main_v87 : Ref sig .tc := ⟨.hbm, 99, rfl⟩
abbrev main_v88 : Ref sig .tc := ⟨.hbm, 100, rfl⟩
abbrev main_cst_8 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_cst_9 : Ref sig .tc := ⟨.hbm, 131, rfl⟩
abbrev main_v118 : Ref sig .tc := ⟨.hbm, 132, rfl⟩
abbrev main_v119 : Ref sig .tc := ⟨.hbm, 133, rfl⟩
abbrev main_cst_10 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_cst_11 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_cst_12 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩

abbrev nD : Nat := 1
abbrev τ : Topo := Topo.v7x

variable {F : FTy → Type} [FloatOps F]
-- ==== Proof.Math.lean ====
/-
  The mathematics of the mLSTM branch over the reals, of one sequence and one head: the closed form the
  reference computes at once, and the facts by which a chunk of 256 steps continues it.
-/
module

public import Idealize.ShloMosaic.PureOps.Ideal
public import Mathlib.Algebra.BigOperators.Fin
public import Mathlib.Tactic.Linarith
public import Mathlib.Tactic.Ring

@[expose] public section

noncomputable section

namespace Mlstm

open Idealize.ShloMosaic
open scoped BigOperators

/-! ## The closed form -/

/-- The log forget gates summed through step `t`. -/
def cum (lf : ℕ → ℝ) (t : ℕ) : ℝ := ∑ s ∈ Finset.range (t + 1), lf s

/-- The log forget gates summed before step `t`. -/
def cumBefore (lf : ℕ → ℝ) (t : ℕ) : ℝ := ∑ s ∈ Finset.range t, lf s

/-- The largest of `0` and of `ig s - cum s` over the steps before `t`. -/
def peak (lf ig : ℕ → ℝ) : ℕ → ℝ
  | 0 => 0
  | t + 1 => max (peak lf ig t) (ig t - cum lf t)

/-- The weight of step `s` in the state before step `t`. -/
def wt (lf ig : ℕ → ℝ) (t s : ℕ) : ℝ := Real.exp (ig s - cum lf s - peak lf ig t)

/-- The stabiliser before step `t`. -/
def stab (lf ig : ℕ → ℝ) (t : ℕ) : ℝ := cumBefore lf t + peak lf ig t

/-- The matrix memory before step `T`. -/
def memC (lf ig : ℕ → ℝ) (k v : ℕ → Fin 256 → ℝ) (T : ℕ) (x y : Fin 256) : ℝ :=
  ∑ s ∈ Finset.range T, k s x * wt lf ig T s * v s y

/-- The normaliser before step `T`. -/
def memN (lf ig : ℕ → ℝ) (k : ℕ → Fin 256 → ℝ) (T : ℕ) (x : Fin 256) : ℝ :=
  ∑ s ∈ Finset.range T, k s x * wt lf ig T s

/-- The weighted score of step `s` seen from step `t`. -/
def score (lf ig : ℕ → ℝ) (q k : ℕ → Fin 256 → ℝ) (t s : ℕ) : ℝ :=
  (∑ d, q t d * k s d) * wt lf ig (t + 1) s

/-- The numerator at step `t`. -/
def numer (lf ig : ℕ → ℝ) (q k v : ℕ → Fin 256 → ℝ) (t : ℕ) (y : Fin 256) : ℝ :=
  ∑ s ∈ Finset.range (t + 1), score lf ig q k t s * v s y

/-- The denominator's sum at step `t`. -/
def denom (lf ig : ℕ → ℝ) (q k : ℕ → Fin 256 → ℝ) (t : ℕ) : ℝ :=
  ∑ s ∈ Finset.range (t + 1), score lf ig q k t s

/-- The hidden vector at step `t`. -/
def hid (lf ig : ℕ → ℝ) (q k v : ℕ → Fin 256 → ℝ) (t : ℕ) (y : Fin 256) : ℝ :=
  numer lf ig q k v t y / max |denom lf ig q k t| (Real.exp (-stab lf ig (t + 1)))

/-! ## Sums and the largest gate, chunk by chunk -/

theorem cum_add (lf : ℕ → ℝ) (T r : ℕ) :
    cum lf (T + r) = cumBefore lf T + ∑ s ∈ Finset.range (r + 1), lf (T + s) := by
  unfold cum cumBefore
  rw [add_assoc, Finset.sum_range_add]

theorem cumBefore_succ (lf : ℕ → ℝ) (t : ℕ) : cumBefore lf (t + 1) = cum lf t := rfl

/-- `peak` over `j` further steps is at most `c` exactly if it was and the further terms are. -/
theorem peak_add_le (lf ig : ℕ → ℝ) (T : ℕ) (c : ℝ) : ∀ j : ℕ, peak lf ig (T + j) ≤ c ↔
    peak lf ig T ≤ c ∧ ∀ s, s < j → ig (T + s) - cum lf (T + s) ≤ c
  | 0 => by simp
  | j + 1 => by
    show max (peak lf ig (T + j)) (ig (T + j) - cum lf (T + j)) ≤ c ↔ _
    rw [max_le_iff, peak_add_le lf ig T c j]
    constructor
    · rintro ⟨⟨h1, h2⟩, h3⟩
      refine ⟨h1, fun s hs => ?_⟩
      rcases Nat.lt_succ_iff_lt_or_eq.mp hs with h | h
      · exact h2 s h
      · rw [h]; exact h3
    · rintro ⟨h1, h2⟩
      exact ⟨⟨h1, fun s hs => h2 s (by omega)⟩, h2 j (by omega)⟩

/-- `peak` over `j` further steps is what it was or one of the further terms. -/
theorem peak_add_eq (lf ig : ℕ → ℝ) (T : ℕ) : ∀ j : ℕ, peak lf ig (T + j) = peak lf ig T ∨
    ∃ s, s < j ∧ peak lf ig (T + j) = ig (T + s) - cum lf (T + s)
  | 0 => Or.inl rfl
  | j + 1 => by
    have hd : peak lf ig (T + (j + 1)) = max (peak lf ig (T + j)) (ig (T + j) - cum lf (T + j)) := rfl
    rcases le_total (peak lf ig (T + j)) (ig (T + j) - cum lf (T + j)) with h | h
    · exact Or.inr ⟨j, by omega, by rw [hd, max_eq_right h]⟩
    · rw [hd, max_eq_left h]
      rcases peak_add_eq lf ig T j with h' | ⟨s, hs, h'⟩
      · exact Or.inl h'
      · exact Or.inr ⟨s, by omega, h'⟩

/-- The running maximum a chunk takes: the stabiliser carried in against the causal scores of its first `r + 1`
    steps, shifted alike by `b`, is `peak` after those steps. -/
theorem peak_fold (lf ig : ℕ → ℝ) (T : ℕ) {n : ℕ} (r : Fin n) (b : ℝ) (f : Fin n → EReal)
    (hf : ∀ s : Fin n, f s = if (s : ℕ) ≤ r then ((b + (ig (T + s) - cum lf (T + s)) : ℝ) : EReal) else ⊥) :
    max ((b + peak lf ig T : ℝ) : EReal) (Finset.univ.fold max ⊥ f) = ((b + peak lf ig (T + (r + 1)) : ℝ) : EReal) := by
  have hle := (peak_add_le lf ig T (peak lf ig (T + (r + 1))) (r + 1)).mp le_rfl
  apply le_antisymm
  · refine max_le (EReal.coe_le_coe_iff.mpr (by linarith [hle.1])) ?_
    rw [Finset.fold_max_le]
    refine ⟨bot_le, fun s _ => ?_⟩
    rw [hf s]
    split_ifs with h
    · exact EReal.coe_le_coe_iff.mpr (by linarith [hle.2 s (by omega)])
    · exact bot_le
  · rcases peak_add_eq lf ig T (r + 1) with h | ⟨s, hs, h⟩
    · rw [h]; exact le_max_left _ _
    · refine le_max_of_le_right ?_
      rw [Finset.le_fold_max]
      refine Or.inr ⟨⟨s, by omega⟩, Finset.mem_univ _, ?_⟩
      rw [hf, if_pos (show s ≤ (r : ℕ) by omega), h]

theorem wt_shift (lf ig : ℕ → ℝ) (T T' s : ℕ) :
    wt lf ig T' s = Real.exp (peak lf ig T - peak lf ig T') * wt lf ig T s := by
  unfold wt
  rw [← Real.exp_add]
  congr 1; ring

/-- A causal sum over a chunk's steps is the sum over its first `r + 1` steps. -/
theorem sum_causal {n : ℕ} (r : Fin n) (f : ℕ → ℝ) :
    ∑ s : Fin n, (if (s : ℕ) ≤ r then f s else 0) = ∑ s ∈ Finset.range (r + 1), f s := by
  rw [Finset.sum_range (fun s => f s) (n := r + 1), ← Finset.sum_filter]
  have hr := r.isLt
  refine Finset.sum_bij' (fun s hs => (⟨s, by simp at hs; omega⟩ : Fin (r + 1)))
    (fun s _ => (⟨s, by omega⟩ : Fin n)) ?_ ?_ ?_ ?_ ?_
  · intro s _; exact Finset.mem_univ _
  · intro s _; simp only [Finset.mem_filter, Finset.mem_univ, true_and]; exact Nat.lt_succ_iff.mp s.isLt
  · intro s _; rfl
  · intro s _; rfl
  · intro s _; rfl

/-- The matrix memory after a chunk, from the one before it. -/
theorem memC_add (lf ig : ℕ → ℝ) (k v : ℕ → Fin 256 → ℝ) (T n : ℕ) (x y : Fin 256) :
    memC lf ig k v (T + n) x y = Real.exp (peak lf ig T - peak lf ig (T + n)) * memC lf ig k v T x y
      + ∑ s : Fin n, k (T + s) x * wt lf ig (T + n) (T + s) * v (T + s) y := by
  unfold memC
  rw [Finset.sum_range_add, Finset.mul_sum, Finset.sum_range (n := n)]
  congr 1
  refine Finset.sum_congr rfl fun s _ => ?_
  rw [wt_shift lf ig T (T + n) s]; ring

/-- The normaliser after a chunk, from the one before it. -/
theorem memN_add (lf ig : ℕ → ℝ) (k : ℕ → Fin 256 → ℝ) (T n : ℕ) (x : Fin 256) :
    memN lf ig k (T + n) x = Real.exp (peak lf ig T - peak lf ig (T + n)) * memN lf ig k T x
      + ∑ s : Fin n, k (T + s) x * wt lf ig (T + n) (T + s) := by
  unfold memN
  rw [Finset.sum_range_add, Finset.mul_sum, Finset.sum_range (n := n)]
  congr 1
  refine Finset.sum_congr rfl fun s _ => ?_
  rw [wt_shift lf ig T (T + n) s]; ring

/-- The numerator at a chunk's step `r`: the chunk's own causal scores and the memory carried in. -/
theorem numer_add (lf ig : ℕ → ℝ) (q k v : ℕ → Fin 256 → ℝ) (T : ℕ) {n : ℕ} (r : Fin n) (y : Fin 256) :
    numer lf ig q k v (T + r) y
      = ∑ s : Fin n, ((∑ d, q (T + r) d * k (T + s) d) * (if (s : ℕ) ≤ r then wt lf ig (T + (r + 1)) (T + s) else 0))
          * v (T + s) y
        + Real.exp (peak lf ig T - peak lf ig (T + (r + 1))) * ∑ d, q (T + r) d * memC lf ig k v T d y := by
  unfold numer score
  rw [add_assoc T, Finset.sum_range_add, add_comm]
  congr 1
  · rw [← sum_causal r (fun s => (∑ d, q (T + r) d * k (T + s) d) * wt lf ig (T + (r + 1)) (T + s) * v (T + s) y)]
    refine Finset.sum_congr rfl fun s _ => ?_
    split_ifs <;> ring
  · unfold memC
    simp only [Finset.mul_sum]
    rw [Finset.sum_comm]
    refine Finset.sum_congr rfl fun s _ => ?_
    rw [wt_shift lf ig T (T + (r + 1)) s, Finset.sum_mul, Finset.sum_mul]
    refine Finset.sum_congr rfl fun d _ => ?_
    ring

/-- The denominator's sum at a chunk's step `r`. -/
theorem denom_add (lf ig : ℕ → ℝ) (q k : ℕ → Fin 256 → ℝ) (T : ℕ) {n : ℕ} (r : Fin n) :
    denom lf ig q k (T + r)
      = ∑ s : Fin n, ((∑ d, q (T + r) d * k (T + s) d) * (if (s : ℕ) ≤ r then wt lf ig (T + (r + 1)) (T + s) else 0))
        + Real.exp (peak lf ig T - peak lf ig (T + (r + 1))) * ∑ d, q (T + r) d * memN lf ig k T d := by
  unfold denom score
  rw [add_assoc T, Finset.sum_range_add, add_comm]
  congr 1
  · rw [← sum_causal r (fun s => (∑ d, q (T + r) d * k (T + s) d) * wt lf ig (T + (r + 1)) (T + s))]
    refine Finset.sum_congr rfl fun s _ => ?_
    split_ifs <;> ring
  · unfold memN
    simp only [Finset.mul_sum]
    rw [Finset.sum_comm]
    refine Finset.sum_congr rfl fun s _ => ?_
    rw [wt_shift lf ig T (T + (r + 1)) s, Finset.sum_mul]
    refine Finset.sum_congr rfl fun d _ => ?_
    ring

/-! ## Extended reals that are real -/

/-- A sum of real numbers is the same among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_abs (a : ℝ) : max (a : EReal) (-(a : EReal)) = ((|a| : ℝ) : EReal) := by
  rw [← EReal.coe_neg, ← coe_max]; rfl

theorem exp_coe (a : ℝ) : Ideal.exp (a : EReal) = ((Real.exp a : ℝ) : EReal) := rfl

theorem div_coe' (a b : ℝ) (hb : b ≠ 0) : Ideal.div (a : EReal) (b : EReal) = ((a / b : ℝ) : EReal) := by
  unfold Ideal.div
  rw [if_neg (by exact_mod_cast hb), ← EReal.coe_inv, ← EReal.coe_mul]; rfl

theorem rsqrt_coe (a : ℝ) (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (by linarith), if_neg (by linarith)]

theorem log1p_coe (a : ℝ) (ha : 0 < 1 + a) : Ideal.log1p (a : EReal) = ((Real.log (1 + a) : ℝ) : EReal) := by
  unfold Ideal.log1p
  rw [show (1 : EReal) + (a : EReal) = ((1 + a : ℝ) : EReal) by simp]
  show (if 1 + a ≤ 0 then (⊥ : EReal) else (Real.log (1 + a) : ℝ)) = _
  rw [if_neg (by linarith)]

end Mlstm
-- ==== Proof.Consts.lean ====
/-
  The float constants of the two programs as extended reals, and small facts about their operations on reals.
-/
module

public import Idealize.ShloMosaic.Lib.IdealHost
public import proofs.«01_k».proof.Proof.Math
public import Mathlib.Tactic.NormNum
public import Mathlib.Tactic.Positivity

@[expose] public section

noncomputable section

namespace Mlstm

open Idealize.ShloMosaic
open scoped BigOperators

/-- The epsilon both programs add before a reciprocal root: the f32 number nearest `1e-6`. -/
def eps : ℝ := (2 ^ 23 + 407485 : ℕ) * (2 : ℝ) ^ (-43 : ℤ)

theorem eps_pos : 0 < eps := by unfold eps; positivity

theorem ofBits_eps : Ideal.ofBits .f32 897988541#32 = (eps : EReal) := by
  unfold eps
  simp [Ideal.ofBits, Ideal.ieee, -EReal.coe_mul]

theorem ofBits_256 : Ideal.ofBits .f32 1132462080#32 = ((256 : ℝ) : EReal) := by
  simp [Ideal.ofBits, Ideal.ieee, -EReal.coe_mul]; norm_num

theorem ofBits_2048 : Ideal.ofBits .f32 1157627904#32 = ((2048 : ℝ) : EReal) := by
  simp [Ideal.ofBits, Ideal.ieee, -EReal.coe_mul]; norm_num

theorem ofBits_sixteenth : Ideal.ofBits .f32 1031798784#32 = (((1 : ℝ) / 16 : ℝ) : EReal) := by
  simp [Ideal.ofBits, Ideal.ieee, -EReal.coe_mul]; norm_num

theorem ofBits_bot : Ideal.ofBits .f32 4286578688#32 = (⊥ : EReal) := by
  simp [Ideal.ofBits, Ideal.ieee]

/-- The absolute value of a real number. -/
theorem absf_coe (a : ℝ) : (FloatOps.absf (F := Ideal) (φ := .f32) (a : EReal) : EReal) = ((|a| : ℝ) : EReal) :=
  coe_abs a

/-- The log-sigmoid of a real gate. -/
def lsig (g : ℝ) : ℝ := min g 0 - Real.log (1 + Real.exp (-|g|))

theorem lsig_coe (g : ℝ) : min (g : EReal) 0 - Ideal.log1p (Ideal.exp (0 - ((|g| : ℝ) : EReal))) = ((lsig g : ℝ) : EReal) := by
  unfold lsig
  rw [show (0 : EReal) - ((|g| : ℝ) : EReal) = ((-|g| : ℝ) : EReal) by rw [zero_sub, EReal.coe_neg], exp_coe,
    log1p_coe _ (by positivity), EReal.coe_sub, coe_min]; rfl

/-- The output gate `σ(o) · silu(z)` of reals. -/
def ogate (o z : ℝ) : ℝ := z / ((1 + Real.exp (-o)) * (1 + Real.exp (-z)))

theorem ogate_coe (o z : ℝ) : Ideal.div (z : EReal) ((1 + Ideal.exp (0 - (o : EReal))) * (1 + Ideal.exp (0 - (z : EReal))))
    = ((ogate o z : ℝ) : EReal) := by
  unfold ogate
  rw [zero_sub, zero_sub, ← EReal.coe_neg, ← EReal.coe_neg, exp_coe, exp_coe,
    show (1 : EReal) = ((1 : ℝ) : EReal) by norm_cast, ← EReal.coe_add, ← EReal.coe_add, ← EReal.coe_mul,
    div_coe' _ _ (by positivity)]

/-- A hidden vector normalised by its root mean square. -/
def rmsn {n : ℕ} (h : Fin n → ℝ) (y : Fin n) : ℝ := h y * (Real.sqrt ((∑ x, h x * h x) / n + eps))⁻¹

theorem rmsn_coe {n : ℕ} (hn : 0 < n) (h : Fin n → ℝ) (y : Fin n) :
    (h y : EReal) * Ideal.rsqrt (Ideal.div (∑ x, (h x : EReal) * (h x : EReal)) ((n : ℝ) : EReal) + (eps : EReal))
      = ((rmsn h y : ℝ) : EReal) := by
  have hn' : (n : ℝ) ≠ 0 := by positivity
  have hp : 0 < (∑ x, h x * h x) / n + eps :=
    add_pos_of_nonneg_of_pos (div_nonneg (Finset.sum_nonneg fun x _ => mul_self_nonneg _) (by positivity)) eps_pos
  simp only [← EReal.coe_mul, ← coe_sum]
  rw [div_coe' _ _ hn', ← EReal.coe_add, rsqrt_coe _ hp, ← EReal.coe_mul]; rfl

end Mlstm
-- ==== Proof.Gate.lean ====
/-
  The gates of one chunk: the cumulative log forget gates, as a column and as a row, of real gate pre-activations.
-/
module

public import proofs.«01_k».proof.Proof.Gen.KernelIdeal.Skeleton
public import proofs.«01_k».proof.Proof.Consts
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
open scoped BigOperators

/-- A causal sum of a chunk's log forget gates is the difference of two cumulative sums. -/
theorem causal_cum (lf : ℕ → ℝ) (T : ℕ) (r : Fin 256) :
    ∑ x : Fin 256, (if (x : ℕ) ≤ r then lf (T + x) else 0) = cum lf (T + r) - cumBefore lf T := by
  rw [sum_causal r (fun s => lf (T + s)), cum_add]; ring

/-- The same of extended reals. -/
theorem causal_cum_coe (lf : ℕ → ℝ) (T : ℕ) (r : Fin 256) :
    (∑ x : Fin 256, if (x : ℕ) ≤ r then ((lf (T + x) : ℝ) : EReal) else 0)
      = ((cum lf (T + r) - cumBefore lf T : ℝ) : EReal) := by
  rw [← causal_cum, coe_sum]
  exact Finset.sum_congr rfl fun x _ => by split_ifs <;> simp

section
variable (fg : ℕ → ℝ) (T : ℕ)

/-- The log forget gates of pre-activations. -/
def logf (fg : ℕ → ℝ) (t : ℕ) : ℝ := lsig (fg t)

/-- The cumulative log forget gates, as a column. -/
theorem col_at (g : FVec Ideal S256x128 .f32) (l : Fin 128) (hg : ∀ r : Fin 256, g (ix2 r l) = ((fg (T + r) : ℝ) : EReal))
    (r : Fin 256) : k0_pay34 g k0_pay29 (ix2 r l) = ((cum (logf fg) (T + r) - cumBefore (logf fg) T : ℝ) : EReal) := by
  pointwise [k0_pay34, k0_pay29, k0_pay28, k0_pay32]
  simp (disch := omega) only [hlo_ix]
  simp only [hg, absf_coe, lsig_coe]
  simp only [Nat.not_lt_zero, if_false, ← EReal.coe_sub, sub_self, EReal.coe_zero, ite_self, sub_zero, Finset.sum_const_zero, add_zero]
  exact causal_cum_coe (logf fg) T r

/-- No step of the column is padding. -/
theorem pay33_at (g : FVec Ideal S256x128 .f32) (r : Fin 256) (l : Fin 128) :
    k0_pay33 g (ix2 r l) = g (ix2 r l) := by
  pointwise [k0_pay33, k0_pay32]
  simp (disch := omega) only [hlo_ix]
  simp only [Nat.not_lt_zero, if_false]

/-- No step of the row is padding. -/
theorem pay36_at (g : FVec Ideal S16x256 .f32) (l : Fin 16) (r : Fin 256) :
    k0_pay36 g (ix2 l r) = g (ix2 l r) := by
  pointwise [k0_pay36, k0_pay35]
  simp (disch := omega) only [hlo_ix]
  simp only [Nat.not_lt_zero, if_false]

/-- The cumulative log forget gates, as a row. -/
theorem row_at (g : FVec Ideal S16x256 .f32) (l : Fin 16) (hg : ∀ r : Fin 256, g (ix2 l r) = ((fg (T + r) : ℝ) : EReal))
    (r : Fin 256) :
    k0_pay38 (k0_pay31 k0_pay30 (Scalar.ofBits .f32 0x3F800000#32) (Scalar.ofBits .f32 0x00000000#32)) k0_pay35 (k0_pay37 g)
      (Scalar.ofBits .f32 0x00000000#32) (ix2 l r) = ((cum (logf fg) (T + r) - cumBefore (logf fg) T : ℝ) : EReal) := by
  pointwise [k0_pay38, k0_pay31, k0_pay30, k0_pay35, k0_pay37]
  simp (disch := omega) only [hlo_ix]
  simp only [hg, absf_coe, lsig_coe]
  simp only [Nat.not_lt_zero, if_false, ← EReal.coe_sub, sub_self, EReal.coe_zero, ite_self, sub_zero, Finset.sum_const_zero, add_zero]
  exact causal_cum_coe (logf fg) T r

end
end Cert.KernelIdeal.Mlstm
-- ==== Proof.Chunk.lean ====
/-
  One head of one chunk of the kernel: what its operations compute of real operands, in the closed form.
-/
module

public import proofs.«01_k».proof.Proof.Gen.KernelIdeal.Skeleton
public import proofs.«01_k».proof.Proof.Consts
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
open scoped BigOperators

/-- The causal scores `b_t - b_s + ig_s` of a chunk, `-∞` above the diagonal. -/
def scores (b : FVec Ideal S256x1 .f32) (br igr : FVec Ideal S1x256 .f32) : FVec Ideal S256x256 .f32 :=
  select k0_pay28 (addf (subf (broadcastTo S256x256 b broadcasts_S256x1_S256x256)
      (broadcastTo S256x256 br broadcasts_S1x256_S256x256)) (broadcastTo S256x256 igr broadcasts_S1x256_S256x256))
    (broadcast S256x256 (Scalar.ofBits .f32 0xFF800000#32))

/-- The stabiliser carried in, one copy a row. -/
def carried (m : FVec Ideal S1x1 .f32) : FVec Ideal S256x1 .f32 := broadcastTo S256x1 m broadcasts_S1x1_S256x1

section
variable (lf ig : ℕ → ℝ) (q k v : ℕ → Fin 256 → ℝ) (T : ℕ)
variable (B IG : FVec Ideal S256x1 .f32) (BR IGR : FVec Ideal S1x256 .f32) (M : FVec Ideal S1x1 .f32)
variable (Q K V : FVec Ideal S256x256 .bf16) (C : FVec Ideal S256x256 .f32) (N : FVec Ideal S1x256 .f32)
variable (hB : ∀ r : Fin 256, B (ix2 r 0) = ((cum lf (T + r) - cumBefore lf T : ℝ) : EReal))
variable (hIG : ∀ r : Fin 256, IG (ix2 r 0) = ((ig (T + r) : ℝ) : EReal))
variable (hBR : ∀ r : Fin 256, BR (ix2 0 r) = ((cum lf (T + r) - cumBefore lf T : ℝ) : EReal))
variable (hIGR : ∀ r : Fin 256, IGR (ix2 0 r) = ((ig (T + r) : ℝ) : EReal))
variable (hM : M (ix2 0 0) = ((stab lf ig T : ℝ) : EReal))
variable (hQ : ∀ r d : Fin 256, Q (ix2 r d) = ((q (T + r) d : ℝ) : EReal))
variable (hK : ∀ r d : Fin 256, K (ix2 r d) = ((k (T + r) d : ℝ) : EReal))
variable (hV : ∀ r d : Fin 256, V (ix2 r d) = ((v (T + r) d : ℝ) : EReal))
variable (hC : ∀ x y : Fin 256, C (ix2 x y) = ((memC lf ig k v T x y : ℝ) : EReal))
variable (hN : ∀ x : Fin 256, N (ix2 0 x) = ((memN lf ig k T x : ℝ) : EReal))

include hB hBR hIGR in
theorem scores_at (r s : Fin 256) : scores B BR IGR (ix2 r s)
    = if (s : ℕ) ≤ r then ((cum lf (T + r) + (ig (T + s) - cum lf (T + s)) : ℝ) : EReal) else ⊥ := by
  pointwise [scores, k0_pay28]
  simp (disch := omega) only [hlo_ix]
  rw [hB, hBR, hIGR, ofBits_bot, ← EReal.coe_sub, ← EReal.coe_add]
  congr 2; ring

include hM in
theorem carried_at (r : Fin 256) : carried M (ix2 r 0) = ((stab lf ig T : ℝ) : EReal) := by
  pointwise [carried]
  exact hM

include hB hBR hIGR hM in
/-- The stabiliser at a step of the chunk. -/
theorem stab_at (r : Fin 256) : k0_pay49 B (scores B BR IGR) (carried M) (ix2 r 0)
    = ((stab lf ig (T + (r + 1)) : ℝ) : EReal) := by
  pointwise [k0_pay49, k0_pay48]
  rw [hB, carried_at lf ig T M hM, ofBits_bot, ← EReal.coe_add]
  have := peak_fold lf ig T r (cum lf (T + r)) (fun s => scores B BR IGR (ix2 r s))
    (scores_at lf ig T B BR IGR hB hBR hIGR r)
  rw [show cum lf (T + r) - cumBefore lf T + stab lf ig T = cum lf (T + r) + peak lf ig T by unfold stab; ring, this]
  unfold stab; rfl

include hB hBR hIGR hM in
/-- The weight of the memory carried in at a step of the chunk. -/
theorem inter_at (r : Fin 256) : k0_pay50 B (scores B BR IGR) (carried M) (ix2 r 0)
    = ((Real.exp (peak lf ig T - peak lf ig (T + (r + 1))) : ℝ) : EReal) := by
  pointwise [k0_pay50, k0_pay48]
  rw [stab_at lf ig T B BR IGR M hB hBR hIGR hM, hB, carried_at lf ig T M hM, ← EReal.coe_add, ← EReal.coe_sub, exp_coe]
  congr 2
  unfold stab; rw [← add_assoc T, cumBefore_succ]; ring

include hB hBR hIGR hM hQ hK in
/-- The weighted causal score of two steps of the chunk. -/
theorem weighted_at (r s : Fin 256) : k0_pay51 B (scores B BR IGR) (carried M) Q K (ix2 r s)
    = (((∑ d, q (T + r) d * k (T + s) d) * (if (s : ℕ) ≤ r then wt lf ig (T + (r + 1)) (T + s) else 0) : ℝ) : EReal) := by
  pointwise [k0_pay51]
  rw [stab_at lf ig T B BR IGR M hB hBR hIGR hM, scores_at lf ig T B BR IGR hB hBR hIGR]
  simp only [hQ, hK, ← EReal.coe_mul, ← coe_sum]
  split_ifs
  · rw [← EReal.coe_sub, exp_coe, ← EReal.coe_mul]
    congr 3
    unfold stab; rw [← add_assoc T, cumBefore_succ]; ring
  · rw [EReal.bot_sub]
    show _ * (0 : EReal) = _
    simp

/-- One head's new hidden rows, gated. -/
def headOut (gh : FVec Ideal S1x256 .f32) (gate : FVec Ideal S256x256 .f32) : FVec Ideal S256x256 .f32 :=
  k0_pay59 (k0_pay49 B (scores B BR IGR) (carried M)) (k0_pay50 B (scores B BR IGR) (carried M)) Q
    (k0_pay51 B (scores B BR IGR) (carried M) Q K) N (k0_pay55 B (scores B BR IGR) (carried M) Q K V)
    (k0_pay56 C Q) (k0_pay57 B (scores B BR IGR) (carried M)) gh gate

include hB hBR hIGR hM hQ hK hV hC hN in
/-- A head's output row: the hidden vector of its step, normalised, times the head's gain and the output gate. -/
theorem headOut_at (gh : FVec Ideal S1x256 .f32) (gate : FVec Ideal S256x256 .f32) (r y : Fin 256) :
    headOut B BR IGR M Q K V C N gh gate (ix2 r y)
      = ((rmsn (hid lf ig q k v (T + r)) y : ℝ) : EReal) * gh (ix2 0 y) * gate (ix2 r y) := by
  have hh : ∀ y : Fin 256, Ideal.div
      (∑ x : Fin 256, k0_pay51 B (scores B BR IGR) (carried M) Q K (ix2 r x) * V (ix2 x y)
        + k0_pay50 B (scores B BR IGR) (carried M) (ix2 r 0) * ∑ x : Fin 256, Q (ix2 r x) * C (ix2 x y))
      (max (FloatOps.absf (F := Ideal) (φ := .f32) (∑ x : Fin 256, k0_pay51 B (scores B BR IGR) (carried M) Q K (ix2 r x)
          + k0_pay50 B (scores B BR IGR) (carried M) (ix2 r 0) * ∑ x : Fin 256, Q (ix2 r x) * N (ix2 0 x)))
        (Ideal.exp (0 - k0_pay49 B (scores B BR IGR) (carried M) (ix2 r 0))))
      = ((hid lf ig q k v (T + r) y : ℝ) : EReal) := by
    intro y
    simp only [weighted_at lf ig q k T B BR IGR M Q K hB hBR hIGR hM hQ hK, stab_at lf ig T B BR IGR M hB hBR hIGR hM,
      inter_at lf ig T B BR IGR M hB hBR hIGR hM, hQ, hV, hC, hN, ← EReal.coe_mul, ← coe_sum, ← EReal.coe_add]
    rw [absf_coe, zero_sub, ← EReal.coe_neg, exp_coe, ← coe_max,
      div_coe' _ _ (ne_of_gt (lt_max_of_lt_right (Real.exp_pos _)))]
    unfold hid
    rw [numer_add, denom_add, add_assoc T]
  unfold headOut
  pointwise [k0_pay59, k0_pay55, k0_pay56, k0_pay57]
  simp only [hh, ofBits_eps, ofBits_256]
  rw [show ((256 : ℝ) : EReal) = (((256 : ℕ) : ℝ) : EReal) by norm_num, rmsn_coe (by norm_num)]

/-- The decay of a chunk, and the weights of its steps in the new memory. -/
theorem endWeight_at (mT : FVec Ideal S256x1 .f32) (hmT : mT (ix2 255 0) = ((stab lf ig (T + 256) : ℝ) : EReal))
    (hB : ∀ r : Fin 256, B (ix2 r 0) = ((cum lf (T + r) - cumBefore lf T : ℝ) : EReal))
    (hM : M (ix2 0 0) = ((stab lf ig T : ℝ) : EReal)) :
    Ideal.exp (B (ix2 255 0) + M (ix2 0 0) - mT (ix2 255 0))
      = ((Real.exp (peak lf ig T - peak lf ig (T + 256)) : ℝ) : EReal) := by
  rw [hB, hM, hmT, ← EReal.coe_add, ← EReal.coe_sub, exp_coe]
  congr 2
  unfold stab
  rw [show T + 256 = T + 255 + 1 from rfl, cumBefore_succ]
  show cum lf (T + 255) - _ + _ - _ = _
  ring

theorem stepWeight_at (mT : FVec Ideal S256x1 .f32) (hmT : mT (ix2 255 0) = ((stab lf ig (T + 256) : ℝ) : EReal))
    (hB : ∀ r : Fin 256, B (ix2 r 0) = ((cum lf (T + r) - cumBefore lf T : ℝ) : EReal))
    (hIG : ∀ r : Fin 256, IG (ix2 r 0) = ((ig (T + r) : ℝ) : EReal)) (s : Fin 256) :
    Ideal.exp (B (ix2 255 0) - B (ix2 s 0) + IG (ix2 s 0) - mT (ix2 255 0))
      = ((wt lf ig (T + 256) (T + s) : ℝ) : EReal) := by
  rw [hB, hB, hIG, hmT, ← EReal.coe_sub, ← EReal.coe_add, ← EReal.coe_sub, exp_coe]
  unfold wt
  congr 2
  unfold stab
  rw [show T + 256 = T + 255 + 1 from rfl, cumBefore_succ]
  show cum lf (T + 255) - _ - _ + _ - _ = _
  ring

include hB hIG hM hK hV hC in
/-- A head's new matrix memory. -/
theorem headC_at (mT : FVec Ideal S256x1 .f32) (hmT : mT (ix2 255 0) = ((stab lf ig (T + 256) : ℝ) : EReal))
    (x y : Fin 256) : k0_pay65 C M B IG mT K V (ix2 x y) = ((memC lf ig k v (T + 256) x y : ℝ) : EReal) := by
  pointwise [k0_pay65, k0_pay64, k0_pay63, k0_pay62, k0_pay61]
  simp only [endWeight_at lf ig T B M mT hmT hB hM, stepWeight_at lf ig T B IG mT hmT hB hIG, hC, hK, hV,
    ← EReal.coe_mul, ← coe_sum, ← EReal.coe_add]
  rw [memC_add]

include hB hIG hM hK hN in
/-- A head's new normaliser. -/
theorem headN_at (mT : FVec Ideal S256x1 .f32) (hmT : mT (ix2 255 0) = ((stab lf ig (T + 256) : ℝ) : EReal))
    (y : Fin 256) : k0_pay66 M B IG mT K N (ix2 0 y) = ((memN lf ig k (T + 256) y : ℝ) : EReal) := by
  pointwise [k0_pay66, k0_pay64, k0_pay63, k0_pay62, k0_pay61]
  simp only [endWeight_at lf ig T B M mT hmT hB hM, stepWeight_at lf ig T B IG mT hmT hB hIG, hN, hK,
    ← EReal.coe_mul, ← coe_sum, ← EReal.coe_add]
  rw [memN_add]

/-- A head's new stabiliser, one copy a lane. -/
theorem headM_at (mT : FVec Ideal S256x1 .f32) (hmT : mT (ix2 255 0) = ((stab lf ig (T + 256) : ℝ) : EReal))
    (y : Fin 128) : k0_pay67 mT (ix2 0 y) = ((stab lf ig (T + 256) : ℝ) : EReal) := by
  pointwise [k0_pay67, k0_pay61]
  exact hmT

end

/-- The operands of one head of a chunk that starts at step `T`: its gates as a column and as a row, the stabiliser
    carried in, its queries, keys and values, and the memory and normaliser carried in. -/
structure Head (lf ig : ℕ → ℝ) (q k v : ℕ → Fin 256 → ℝ) (T : ℕ)
    (B IG : FVec Ideal S256x1 .f32) (BR IGR : FVec Ideal S1x256 .f32) (M : FVec Ideal S1x1 .f32)
    (Q K V : FVec Ideal S256x256 .bf16) (C : FVec Ideal S256x256 .f32) (N : FVec Ideal S1x256 .f32) : Prop where
  hB : ∀ r : Fin 256, B (ix2 r 0) = ((cum lf (T + r) - cumBefore lf T : ℝ) : EReal)
  hIG : ∀ r : Fin 256, IG (ix2 r 0) = ((ig (T + r) : ℝ) : EReal)
  hBR : ∀ r : Fin 256, BR (ix2 0 r) = ((cum lf (T + r) - cumBefore lf T : ℝ) : EReal)
  hIGR : ∀ r : Fin 256, IGR (ix2 0 r) = ((ig (T + r) : ℝ) : EReal)
  hM : M (ix2 0 0) = ((stab lf ig T : ℝ) : EReal)
  hQ : ∀ r d : Fin 256, Q (ix2 r d) = ((q (T + r) d : ℝ) : EReal)
  hK : ∀ r d : Fin 256, K (ix2 r d) = ((k (T + r) d : ℝ) : EReal)
  hV : ∀ r d : Fin 256, V (ix2 r d) = ((v (T + r) d : ℝ) : EReal)
  hC : ∀ x y : Fin 256, C (ix2 x y) = ((memC lf ig k v T x y : ℝ) : EReal)
  hN : ∀ x : Fin 256, N (ix2 0 x) = ((memN lf ig k T x : ℝ) : EReal)

namespace Head
variable {lf ig : ℕ → ℝ} {q k v : ℕ → Fin 256 → ℝ} {T : ℕ}
variable {B IG : FVec Ideal S256x1 .f32} {BR IGR : FVec Ideal S1x256 .f32} {M : FVec Ideal S1x1 .f32}
variable {Q K V : FVec Ideal S256x256 .bf16} {C : FVec Ideal S256x256 .f32} {N : FVec Ideal S1x256 .f32}

/-- The stabiliser after the chunk. -/
theorem last (H : Head lf ig q k v T B IG BR IGR M Q K V C N) :
    k0_pay49 B (scores B BR IGR) (carried M) (ix2 255 0) = ((stab lf ig (T + 256) : ℝ) : EReal) :=
  stab_at lf ig T B BR IGR M H.hB H.hBR H.hIGR H.hM 255

/-- The head's output rows. -/
theorem out (H : Head lf ig q k v T B IG BR IGR M Q K V C N) (gh : FVec Ideal S1x256 .f32) (gate : FVec Ideal S256x256 .f32)
    (r y : Fin 256) : headOut B BR IGR M Q K V C N gh gate (ix2 r y)
      = ((rmsn (hid lf ig q k v (T + r)) y : ℝ) : EReal) * gh (ix2 0 y) * gate (ix2 r y) :=
  headOut_at lf ig q k v T B BR IGR M Q K V C N H.hB H.hBR H.hIGR H.hM H.hQ H.hK H.hV H.hC H.hN gh gate r y

/-- The head's memory after the chunk. -/
theorem memory (H : Head lf ig q k v T B IG BR IGR M Q K V C N) (x y : Fin 256) :
    k0_pay148 (k0_pay65 C M B IG (k0_pay49 B (scores B BR IGR) (carried M)) K V) (ix3 0 x y)
      = ((memC lf ig k v (T + 256) x y : ℝ) : EReal) := by
  refine Eq.trans ?_ (headC_at lf ig k v T B IG M K V C H.hB H.hIG H.hM H.hK H.hV H.hC _ H.last x y)
  pointwise [k0_pay148]

/-- The head's normaliser after the chunk. -/
theorem normaliser (H : Head lf ig q k v T B IG BR IGR M Q K V C N) (y : Fin 256) :
    k0_pay149 (k0_pay66 M B IG (k0_pay49 B (scores B BR IGR) (carried M)) K N) (ix2 0 y)
      = ((memN lf ig k (T + 256) y : ℝ) : EReal) := by
  refine Eq.trans ?_ (headN_at lf ig k T B IG M K N H.hB H.hIG H.hM H.hK H.hN _ H.last y)
  pointwise [k0_pay149]

/-- The head's stabiliser after the chunk, one copy a lane. -/
theorem stabiliser (H : Head lf ig q k v T B IG BR IGR M Q K V C N) (y : Fin 128) :
    k0_pay150 (k0_pay67 (k0_pay49 B (scores B BR IGR) (carried M))) (ix2 0 y) = ((stab lf ig (T + 256) : ℝ) : EReal) := by
  refine Eq.trans ?_ (headM_at lf ig T _ H.last y)
  pointwise [k0_pay150]

end Head
end Cert.KernelIdeal.Mlstm
-- ==== Proof.Heads.lean ====
/-
  The four heads of a chunk: the kernel's cuts of its operands, as the operands of one head.
-/
module

public import proofs.«01_k».proof.Proof.Gate
public import proofs.«01_k».proof.Proof.Chunk

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
open scoped BigOperators

/-- One batch's sequence: its gate pre-activations and their biases, its queries, keys and values, its output gates. -/
structure Seq where
  pi : Fin 4 → ℕ → ℝ
  pf : Fin 4 → ℕ → ℝ
  bi : Fin 4 → ℝ
  bf : Fin 4 → ℝ
  q : Fin 4 → ℕ → Fin 256 → ℝ
  k : Fin 4 → ℕ → Fin 256 → ℝ
  v : Fin 4 → ℕ → Fin 256 → ℝ
  og : ℕ → Fin 1024 → ℝ

/-- The log input gate. -/
def Seq.ig (S : Seq) (h : Fin 4) (t : ℕ) : ℝ := S.pi h t + S.bi h

/-- The log forget gate. -/
def Seq.lf (S : Seq) (h : Fin 4) : ℕ → ℝ := logf fun t => S.pf h t + S.bf h

/-- The gate pre-activations of a chunk, with their biases, as columns and as rows. -/
structure GatesOK (S : Seq) (T : ℕ) (g : FVec Ideal S256x128 .f32) (gt : FVec Ideal S16x256 .f32) : Prop where
  i : ∀ (h : Fin 4) (r : Fin 256), g (ix2 r ⟨64 + h, by omega⟩) = ((S.ig h (T + r) : ℝ) : EReal)
  f : ∀ (h : Fin 4) (r : Fin 256), g (ix2 r ⟨68 + h, by omega⟩) = ((S.pf h (T + r) + S.bf h : ℝ) : EReal)
  it : ∀ (h : Fin 4) (r : Fin 256), gt (ix2 ⟨h, by omega⟩ r) = ((S.ig h (T + r) : ℝ) : EReal)
  ft : ∀ (h : Fin 4) (r : Fin 256), gt (ix2 ⟨4 + h, by omega⟩ r) = ((S.pf h (T + r) + S.bf h : ℝ) : EReal)

/-- The cumulative log forget gates as rows. -/
def rowCum (gt : FVec Ideal S16x256 .f32) : FVec Ideal S16x256 .f32 :=
  k0_pay38 (k0_pay31 k0_pay30 (Scalar.ofBits .f32 0x3F800000#32) (Scalar.ofBits .f32 0x00000000#32)) k0_pay35 (k0_pay37 gt)
    (Scalar.ofBits .f32 0x00000000#32)

/-- The cumulative log forget gates of a row. -/
theorem rowCum_at (fg : ℕ → ℝ) (T : ℕ) (gt : FVec Ideal S16x256 .f32) (l : Fin 16)
    (hg : ∀ r : Fin 256, gt (ix2 l r) = ((fg (T + r) : ℝ) : EReal)) (r : Fin 256) :
    rowCum gt (ix2 l r) = ((cum (logf fg) (T + r) - cumBefore (logf fg) T : ℝ) : EReal) :=
  row_at fg T gt l hg r

/-- Head 0's gates as a row: its cumulative log forget gates. -/
def BR0 (gt : FVec Ideal S16x256 .f32) : FVec Ideal S1x256 .f32 :=
  extractStridedSlice S1x256 ![4, 0] (rowCum gt) slices_S16x256_o4_0_S1x256

/-- Head 0's input gates as a row. -/
def IGR0 (gt : FVec Ideal S16x256 .f32) : FVec Ideal S1x256 .f32 :=
  extractStridedSlice S1x256 ![0, 0] (k0_pay36 gt) slices_S16x256_o0_0_S1x256

/-- Head 0 of a chunk: its operands as the kernel cuts them. -/
theorem head0 {S : Seq} {T : ℕ} {g : FVec Ideal S256x128 .f32} {gt : FVec Ideal S16x256 .f32} (hg : GatesOK S T g gt)
    {Q K V : FVec Ideal S256x256 .bf16} (hQ : ∀ r d : Fin 256, Q (ix2 r d) = ((S.q 0 (T + r) d : ℝ) : EReal))
    (hK : ∀ r d : Fin 256, K (ix2 r d) = ((S.k 0 (T + r) d : ℝ) : EReal))
    (hV : ∀ r d : Fin 256, V (ix2 r d) = ((S.v 0 (T + r) d : ℝ) : EReal))
    {C : FVec Ideal S1x256x256 .f32} {N : FVec Ideal S4x256 .f32} {M : FVec Ideal S8x128 .f32}
    (hC : ∀ x y : Fin 256, C (ix3 0 x y) = ((memC (S.lf 0) (S.ig 0) (S.k 0) (S.v 0) T x y : ℝ) : EReal))
    (hN : ∀ x : Fin 256, N (ix2 0 x) = ((memN (S.lf 0) (S.ig 0) (S.k 0) T x : ℝ) : EReal))
    (hM : M (ix2 0 0) = ((stab (S.lf 0) (S.ig 0) T : ℝ) : EReal)) :
    Head (S.lf 0) (S.ig 0) (S.q 0) (S.k 0) (S.v 0) T (k0_pay44 (k0_pay34 g k0_pay29)) (k0_pay45 (k0_pay33 g))
      (BR0 gt) (IGR0 gt) (k0_pay43 M) Q K V (k0_pay39 C) (k0_pay54 N) where
  hB r := by
    refine Eq.trans ?_ (col_at (fun t => S.pf 0 t + S.bf 0) T g 68 (hg.f 0) r)
    pointwise [k0_pay44]
  hIG r := by
    refine Eq.trans ?_ ((pay33_at g r 64).trans (hg.i 0 r))
    pointwise [k0_pay45]
  hBR r := by
    refine Eq.trans ?_ (rowCum_at (fun t => S.pf 0 t + S.bf 0) T gt 4 (hg.ft 0) r)
    pointwise [BR0]
  hIGR r := by
    refine Eq.trans ?_ ((pay36_at gt 0 r).trans (hg.it 0 r))
    pointwise [IGR0]
  hM := by
    refine Eq.trans ?_ hM
    pointwise [k0_pay43]
  hQ := hQ
  hK := hK
  hV := hV
  hC x y := by
    refine Eq.trans ?_ (hC x y)
    pointwise [k0_pay39]
  hN x := by
    refine Eq.trans ?_ (hN x)
    pointwise [k0_pay54]

/-- Head 1's gates as a row: its cumulative log forget gates. -/
def BR1 (gt : FVec Ideal S16x256 .f32) : FVec Ideal S1x256 .f32 :=
  extractStridedSlice S1x256 ![5, 0] (rowCum gt) slices_S16x256_o5_0_S1x256

/-- Head 1's input gates as a row. -/
def IGR1 (gt : FVec Ideal S16x256 .f32) : FVec Ideal S1x256 .f32 :=
  extractStridedSlice S1x256 ![1, 0] (k0_pay36 gt) slices_S16x256_o1_0_S1x256

/-- Head 1 of a chunk: its operands as the kernel cuts them. -/
theorem head1 {S : Seq} {T : ℕ} {g : FVec Ideal S256x128 .f32} {gt : FVec Ideal S16x256 .f32} (hg : GatesOK S T g gt)
    {Q K V : FVec Ideal S256x256 .bf16} (hQ : ∀ r d : Fin 256, Q (ix2 r d) = ((S.q 1 (T + r) d : ℝ) : EReal))
    (hK : ∀ r d : Fin 256, K (ix2 r d) = ((S.k 1 (T + r) d : ℝ) : EReal))
    (hV : ∀ r d : Fin 256, V (ix2 r d) = ((S.v 1 (T + r) d : ℝ) : EReal))
    {C : FVec Ideal S1x256x256 .f32} {N : FVec Ideal S4x256 .f32} {M : FVec Ideal S8x128 .f32}
    (hC : ∀ x y : Fin 256, C (ix3 0 x y) = ((memC (S.lf 1) (S.ig 1) (S.k 1) (S.v 1) T x y : ℝ) : EReal))
    (hN : ∀ x : Fin 256, N (ix2 1 x) = ((memN (S.lf 1) (S.ig 1) (S.k 1) T x : ℝ) : EReal))
    (hM : M (ix2 1 0) = ((stab (S.lf 1) (S.ig 1) T : ℝ) : EReal)) :
    Head (S.lf 1) (S.ig 1) (S.q 1) (S.k 1) (S.v 1) T (k0_pay72 (k0_pay34 g k0_pay29)) (k0_pay73 (k0_pay33 g))
      (BR1 gt) (IGR1 gt) (k0_pay71 M) Q K V (k0_pay40 C) (k0_pay80 N) where
  hB r := by
    refine Eq.trans ?_ (col_at (fun t => S.pf 1 t + S.bf 1) T g 69 (hg.f 1) r)
    pointwise [k0_pay72]
  hIG r := by
    refine Eq.trans ?_ ((pay33_at g r 65).trans (hg.i 1 r))
    pointwise [k0_pay73]
  hBR r := by
    refine Eq.trans ?_ (rowCum_at (fun t => S.pf 1 t + S.bf 1) T gt 5 (hg.ft 1) r)
    pointwise [BR1]
  hIGR r := by
    refine Eq.trans ?_ ((pay36_at gt 1 r).trans (hg.it 1 r))
    pointwise [IGR1]
  hM := by
    refine Eq.trans ?_ hM
    pointwise [k0_pay71]
  hQ := hQ
  hK := hK
  hV := hV
  hC x y := by
    refine Eq.trans ?_ (hC x y)
    pointwise [k0_pay40]
  hN x := by
    refine Eq.trans ?_ (hN x)
    pointwise [k0_pay80]

/-- Head 2's gates as a row: its cumulative log forget gates. -/
def BR2 (gt : FVec Ideal S16x256 .f32) : FVec Ideal S1x256 .f32 :=
  extractStridedSlice S1x256 ![6, 0] (rowCum gt) slices_S16x256_o6_0_S1x256

/-- Head 2's input gates as a row. -/
def IGR2 (gt : FVec Ideal S16x256 .f32) : FVec Ideal S1x256 .f32 :=
  extractStridedSlice S1x256 ![2, 0] (k0_pay36 gt) slices_S16x256_o2_0_S1x256

/-- Head 2 of a chunk: its operands as the kernel cuts them. -/
theorem head2 {S : Seq} {T : ℕ} {g : FVec Ideal S256x128 .f32} {gt : FVec Ideal S16x256 .f32} (hg : GatesOK S T g gt)
    {Q K V : FVec Ideal S256x256 .bf16} (hQ : ∀ r d : Fin 256, Q (ix2 r d) = ((S.q 2 (T + r) d : ℝ) : EReal))
    (hK : ∀ r d : Fin 256, K (ix2 r d) = ((S.k 2 (T + r) d : ℝ) : EReal))
    (hV : ∀ r d : Fin 256, V (ix2 r d) = ((S.v 2 (T + r) d : ℝ) : EReal))
    {C : FVec Ideal S1x256x256 .f32} {N : FVec Ideal S4x256 .f32} {M : FVec Ideal S8x128 .f32}
    (hC : ∀ x y : Fin 256, C (ix3 0 x y) = ((memC (S.lf 2) (S.ig 2) (S.k 2) (S.v 2) T x y : ℝ) : EReal))
    (hN : ∀ x : Fin 256, N (ix2 2 x) = ((memN (S.lf 2) (S.ig 2) (S.k 2) T x : ℝ) : EReal))
    (hM : M (ix2 2 0) = ((stab (S.lf 2) (S.ig 2) T : ℝ) : EReal)) :
    Head (S.lf 2) (S.ig 2) (S.q 2) (S.k 2) (S.v 2) T (k0_pay95 (k0_pay34 g k0_pay29)) (k0_pay96 (k0_pay33 g))
      (BR2 gt) (IGR2 gt) (k0_pay94 M) Q K V (k0_pay41 C) (k0_pay103 N) where
  hB r := by
    refine Eq.trans ?_ (col_at (fun t => S.pf 2 t + S.bf 2) T g 70 (hg.f 2) r)
    pointwise [k0_pay95]
  hIG r := by
    refine Eq.trans ?_ ((pay33_at g r 66).trans (hg.i 2 r))
    pointwise [k0_pay96]
  hBR r := by
    refine Eq.trans ?_ (rowCum_at (fun t => S.pf 2 t + S.bf 2) T gt 6 (hg.ft 2) r)
    pointwise [BR2]
  hIGR r := by
    refine Eq.trans ?_ ((pay36_at gt 2 r).trans (hg.it 2 r))
    pointwise [IGR2]
  hM := by
    refine Eq.trans ?_ hM
    pointwise [k0_pay94]
  hQ := hQ
  hK := hK
  hV := hV
  hC x y := by
    refine Eq.trans ?_ (hC x y)
    pointwise [k0_pay41]
  hN x := by
    refine Eq.trans ?_ (hN x)
    pointwise [k0_pay103]

/-- Head 3's gates as a row: its cumulative log forget gates. -/
def BR3 (gt : FVec Ideal S16x256 .f32) : FVec Ideal S1x256 .f32 :=
  extractStridedSlice S1x256 ![7, 0] (rowCum gt) slices_S16x256_o7_0_S1x256

/-- Head 3's input gates as a row. -/
def IGR3 (gt : FVec Ideal S16x256 .f32) : FVec Ideal S1x256 .f32 :=
  extractStridedSlice S1x256 ![3, 0] (k0_pay36 gt) slices_S16x256_o3_0_S1x256

/-- Head 3 of a chunk: its operands as the kernel cuts them. -/
theorem head3 {S : Seq} {T : ℕ} {g : FVec Ideal S256x128 .f32} {gt : FVec Ideal S16x256 .f32} (hg : GatesOK S T g gt)
    {Q K V : FVec Ideal S256x256 .bf16} (hQ : ∀ r d : Fin 256, Q (ix2 r d) = ((S.q 3 (T + r) d : ℝ) : EReal))
    (hK : ∀ r d : Fin 256, K (ix2 r d) = ((S.k 3 (T + r) d : ℝ) : EReal))
    (hV : ∀ r d : Fin 256, V (ix2 r d) = ((S.v 3 (T + r) d : ℝ) : EReal))
    {C : FVec Ideal S1x256x256 .f32} {N : FVec Ideal S4x256 .f32} {M : FVec Ideal S8x128 .f32}
    (hC : ∀ x y : Fin 256, C (ix3 0 x y) = ((memC (S.lf 3) (S.ig 3) (S.k 3) (S.v 3) T x y : ℝ) : EReal))
    (hN : ∀ x : Fin 256, N (ix2 3 x) = ((memN (S.lf 3) (S.ig 3) (S.k 3) T x : ℝ) : EReal))
    (hM : M (ix2 3 0) = ((stab (S.lf 3) (S.ig 3) T : ℝ) : EReal)) :
    Head (S.lf 3) (S.ig 3) (S.q 3) (S.k 3) (S.v 3) T (k0_pay119 (k0_pay34 g k0_pay29)) (k0_pay120 (k0_pay33 g))
      (BR3 gt) (IGR3 gt) (k0_pay118 M) Q K V (k0_pay42 C) (k0_pay129 N) where
  hB r := by
    refine Eq.trans ?_ (col_at (fun t => S.pf 3 t + S.bf 3) T g 71 (hg.f 3) r)
    pointwise [k0_pay119]
  hIG r := by
    refine Eq.trans ?_ ((pay33_at g r 67).trans (hg.i 3 r))
    pointwise [k0_pay120]
  hBR r := by
    refine Eq.trans ?_ (rowCum_at (fun t => S.pf 3 t + S.bf 3) T gt 7 (hg.ft 3) r)
    pointwise [BR3]
  hIGR r := by
    refine Eq.trans ?_ ((pay36_at gt 3 r).trans (hg.it 3 r))
    pointwise [IGR3]
  hM := by
    refine Eq.trans ?_ hM
    pointwise [k0_pay118]
  hQ := hQ
  hK := hK
  hV := hV
  hC x y := by
    refine Eq.trans ?_ (hC x y)
    pointwise [k0_pay42]
  hN x := by
    refine Eq.trans ?_ (hN x)
    pointwise [k0_pay129]

end Cert.KernelIdeal.Mlstm
-- ==== Proof.Input.lean ====
/-
  The sequences both programs compute with, of real inputs: the normalised rows, their projections, the gates.
-/
module

public import proofs.«01_k».proof.Proof.Heads

@[expose] public section

set_option maxRecDepth 16384
noncomputable section
open Idealize.ShloMosaic
namespace Mlstm
open Cert.KernelIdeal.Mlstm
open scoped BigOperators

/-- Real inputs: the rows of each batch, the norm's gain, the projection's columns, the gates' biases. -/
structure Inputs where
  x : Fin 4 → ℕ → Fin 2048 → ℝ
  g : Fin 2048 → ℝ
  w : Fin 8784 → Fin 2048 → ℝ
  b : Fin 8 → ℝ

/-- The normalised row of a step. -/
def Inputs.u (I : Inputs) (β : Fin 4) (t : ℕ) (d : Fin 2048) : ℝ := rmsn (I.x β t) d * I.g d

/-- A column of the projection of a step. -/
def Inputs.p (I : Inputs) (β : Fin 4) (t : ℕ) (j : Fin 8784) : ℝ := ∑ d, I.u β t d * I.w j d

/-- A batch's sequence. -/
def Inputs.seq (I : Inputs) (β : Fin 4) : Seq where
  pi h t := I.p β t ⟨5120 + h, by omega⟩
  pf h t := I.p β t ⟨5124 + h, by omega⟩
  bi h := I.b ⟨h, by omega⟩
  bf h := I.b ⟨4 + h, by omega⟩
  q h t d := I.p β t ⟨256 * h + d, by omega⟩
  k h t d := I.p β t ⟨1024 + (256 * h + d), by omega⟩ * (1 / 16)
  v h t d := I.p β t ⟨2048 + (256 * h + d), by omega⟩
  og t j := ogate (I.p β t ⟨3072 + j, by omega⟩) (I.p β t ⟨4096 + j, by omega⟩)

end Mlstm
-- ==== Proof.Host.lean ====
/-
  What the windows of the call hold of real inputs: the rows of a step's block, the gain, the projection's columns,
  the gates' columns and their biases.
-/
module

public import proofs.«01_k».proof.Proof.Gen.KernelIdeal.Frame.Runs
public import proofs.«01_k».proof.Proof.Input
public import Idealize.ShloMosaic.Lib.Pipeline.ValueKit
public import Idealize.ShloMosaic.Lib.StableHlo.RunRead
public import Idealize.ShloMosaic.Lib.WordCmp
public import Idealize.ShloMosaic.Lib.Routing.OpsSet
public import Idealize.ShloMosaic.Lib.Routing.OpsPair
public import Idealize.ShloMosaic.Lib.Routing.OpsOne

@[expose] public section

set_option maxRecDepth 16384
noncomputable section
open Idealize.ShloMosaic Idealize.ShloMosaic.TcCoe Idealize.SL.Sem
open Idealize.ShloMosaic.Pipeline (Dat)
open Idealize.ShloMosaic.Routing
namespace Cert.KernelIdeal.Mlstm
open Cert.KernelIdeal Cert.KernelIdeal.Gen
open _root_.Mlstm
open scoped BigOperators

variable (m : (ℓ : Loc nD τ sig) → Buf (Elt Ideal) ℓ)

/-- The arguments hold real inputs: the rows, the norm's gain, the projection and the gates' biases. -/
structure Reals (I : Inputs) (c : Dev nD) : Prop where
  x : ∀ (β : Fin 4) (t d : Fin 2048), (m ((c : Thread nD τ).loc main_arg0) : FVec Ideal S4x2048x2048 .f32) (ix3 β t d) = ((I.x β t d : ℝ) : EReal)
  g : ∀ d : Fin 2048, (m ((c : Thread nD τ).loc main_arg1) : FVec Ideal S1x2048 .f32) (ix2 0 d) = ((I.g d : ℝ) : EReal)
  w : ∀ (d : Fin 2048) (j : Fin 8784), (m ((c : Thread nD τ).loc main_arg2) : FVec Ideal S1x2048x8784 .f32) (ix3 0 d j) = ((I.w j d : ℝ) : EReal)
  b : ∀ l : Fin 8, (m ((c : Thread nD τ).loc main_arg3) : FVec Ideal S1x8 .f32) (ix2 0 l) = ((I.b l : ℝ) : EReal)

/-- Which block each window holds at a point. -/
theorem idx : ∀ t : Fin cfg0.N, win0_0.index t = ![min t.val 31, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

section
variable {m} {I : Inputs} {c : Dev nD} (R : Reals m I c) (t : Fin cfg0.N)
include R

/-- The rows of a step's block. -/
theorem block_x (r : Fin 256) (d : Fin 2048) (β : Fin 4) (n : ℕ) (hn : n < 8) (hb : min t.val 31 = 8 * β + n) :
    (iblk m c 0 t : FVec Ideal S256x2048 .f32) (ix2 r d) = ((I.x β (256 * n + r) d : ℝ) : EReal) := by
  have h := R.x β ⟨256 * n + r, by omega⟩ d
  rw [← h]
  blk_simp [iblk]
  entry_read
  pointwise
  blk_ext [idx t]

/-- The norm's gain. -/
theorem block_g (d : Fin 2048) : (iblk m c 1 t : FVec Ideal S1x2048 .f32) (ix2 0 d) = ((I.g d : ℝ) : EReal) := by
  rw [← R.g d]
  blk_simp [iblk]
  entry_read
  pointwise
  blk_ext [idx t]

/-- The projection's columns the block holds. -/
theorem block_w (j : Fin 5120) (d : Fin 2048) : (X0_2 m c t : FVec Ideal S5120x2048 .bf16) (ix2 j d) = ((I.w ⟨j, by omega⟩ d : ℝ) : EReal) := by
  rw [← R.w d ⟨j, by omega⟩]
  unfold X0_2 Pipeline.Window.fill
  rw [dif_pos (moved0_2 t _)]
  blk_simp [iblk]
  entry_read
  pointwise
  blk_ext [idx t]

/-- The head's gain. -/
theorem block_h (j : Fin 1024) : (iblk m c 7 t : FVec Ideal S1x1024 .f32) (ix2 0 j)
    = (m ((c : Thread nD τ).loc main_arg4) : FVec Ideal S1x1024 .f32) (ix2 0 j) := by
  blk_simp [iblk]
  entry_read
  pointwise
  blk_ext [idx t]

end

/-- What the host computed before the gates' columns were put together. -/
def early (c : Dev nD) (b : Ref sig .tc) : Buf (Elt Ideal) ((c : Thread nD τ).loc b) :=
  StableHlo.upto (hostOps0 (F := Ideal)) (fun b => m (c, b)) 13 (Proc.devRef .tc b)

/-- The gates' columns, put together from their pieces. -/
theorem V_main_v12 (c : Dev nD) : StableHlo.upto (hostOps0 (F := Ideal)) (fun b => m (c, b)) 14 (Proc.devRef .tc main_v12)
    = concatenate S128x2048 0 [⟨S64x2048, (early m c main_v7 : FVec Ideal S64x2048 .f32)⟩, ⟨S4x2048, (early m c main_v8 : FVec Ideal S4x2048 .f32)⟩,
        ⟨S4x2048, (early m c main_v9 : FVec Ideal S4x2048 .f32)⟩, ⟨S8x2048, (early m c main_v10 : FVec Ideal S8x2048 .f32)⟩,
        ⟨S48x2048, (early m c main_v11 : FVec Ideal S48x2048 .f32)⟩] concatenates_S64x2048_S4x2048_S4x2048_S8x2048_S48x2048_S128x2048_d0 := by
  rw [StableHlo.upto_last_write (i := 13) [] rfl rfl (by decide), StableHlo.nary_result]
  rfl

/-- The gates' columns as rows: in the narrow format. -/
theorem V_main_v13 (c : Dev nD) : @Eq (FVec Ideal S128x2048 .bf16) (V m c main_v13)
    (truncf .bf16 (StableHlo.upto (hostOps0 (F := Ideal)) (fun b => m (c, b)) 14 (Proc.devRef .tc main_v12) : FVec Ideal S128x2048 .f32) bitsLt_bf16_f32) := by
  unfold V
  rw [StableHlo.after_last_write (i := 14) [main_v14, main_v15, main_v16, main_v17, main_v18, main_cst_0, main_v19, main_c, main_v20, main_c_1, main_v21,
    main_v22, main_v23, main_cst_2, main_v24, main_c_3, main_v25, main_c_4, main_v26, main_v27, main_v28, main_v29, main_v30] rfl rfl (by decide),
    StableHlo.unary_result]

/-- The input gates' piece. -/
theorem early_v8 (c : Dev nD) : early m c main_v8 = extractStridedSlice S4x2048 ![5120, 0] (transpose S8784x2048 [1, 0]
    (shapeCast S2048x8784 (m ((c : Thread nD τ).loc main_arg2) : FVec Ideal S1x2048x8784 .f32) shapeCasts_S1x2048x8784_S2048x8784)
    transposes_S2048x8784_S8784x2048_1_0) slices_S8784x2048_S4x2048_5120_0 := by
  unfold early
  after_reads_simp
  rfl

/-- The forget gates' piece. -/
theorem early_v9 (c : Dev nD) : early m c main_v9 = extractStridedSlice S4x2048 ![5124, 0] (transpose S8784x2048 [1, 0]
    (shapeCast S2048x8784 (m ((c : Thread nD τ).loc main_arg2) : FVec Ideal S1x2048x8784 .f32) shapeCasts_S1x2048x8784_S2048x8784)
    transposes_S2048x8784_S8784x2048_1_0) slices_S8784x2048_S4x2048_5124_0 := by
  unfold early
  after_reads_simp
  rfl

/-- Where an update of the bias row lands: sixty-four on. -/
theorem lands_bias (ix : IVec S2 32) (h0 : (ix (ix1 0)).toInt = 0) (h1 : (ix (ix1 1)).toInt = 64) (k : S8.Idx) (ι : S1x128.Idx) :
    scatter_S1x128_S2_S8_0_0_01_0.resultIdx? k ix = some ι ↔ 64 + (k 0).val = (ι 1).val := by
  rw [resultIdx?_eq_some]
  have hs : ∀ q : Fin 2, scatter_S1x128_S2_S8_0_0_01_0.start k ix q = (ix (ix1 q)).toInt := fun q => start_pair _ rfl rfl ix k q
  have hw0 : scatter_S1x128_S2_S8_0_0_01_0.window k 0 = 0 := rfl
  have hw1 : scatter_S1x128_S2_S8_0_0_01_0.window k 1 = (k 0).val := rfl
  have hι : (ι 0).val = 0 := by
    have := (ι 0).isLt
    change (ι 0).val < 1 at this
    omega
  constructor
  · intro h
    have e := h 1
    rw [hs 1, hw1] at e
    rw [h1] at e
    omega
  · intro e a
    match a with
    | ⟨0, _⟩ =>
      refine (congrArg₂ (fun (x y : ℤ) => x + y) (hs 0) (congrArg Int.ofNat hw0)).trans ?_
      rw [h0]
      change (0 : ℤ) + ((0 : ℕ) : ℤ) = ((ι 0).val : ℤ)
      omega
    | ⟨1, _⟩ =>
      refine (congrArg₂ (fun (x y : ℤ) => x + y) (hs 1) (congrArg Int.ofNat hw1)).trans ?_
      rw [h1]
      change (64 : ℤ) + (((k 0).val : ℕ) : ℤ) = ((ι 1).val : ℤ)
      omega

/-- A row of the gates' pieces put together: an input gate's. -/
theorem pieces_i (A7 : FVec Ideal S64x2048 .f32) (A8 A9 : FVec Ideal S4x2048 .f32) (A10 : FVec Ideal S8x2048 .f32) (A11 : FVec Ideal S48x2048 .f32)
    (d : Fin 2048) (a : Fin 128) (l : Fin 4) (ha : 64 + (l : ℕ) = a) :
    concatenate S128x2048 0 [⟨S64x2048, A7⟩, ⟨S4x2048, A8⟩, ⟨S4x2048, A9⟩, ⟨S8x2048, A10⟩, ⟨S48x2048, A11⟩]
      concatenates_S64x2048_S4x2048_S4x2048_S8x2048_S48x2048_S128x2048_d0 (ix2 a d) = A8 (ix2 l d) :=
  concatenate_apply_piece (t := S128x2048) 0 _ _ (ix2 a d) 1 (by norm_num) S4x2048 A8 rfl rfl 64 rfl (ix2 l d)
    (fun b hb => by
      match b with
      | ⟨0, _⟩ => exact absurd rfl hb
      | ⟨1, _⟩ => rfl) ha

/-- A row of the gates' pieces put together: a forget gate's. -/
theorem pieces_f (A7 : FVec Ideal S64x2048 .f32) (A8 A9 : FVec Ideal S4x2048 .f32) (A10 : FVec Ideal S8x2048 .f32) (A11 : FVec Ideal S48x2048 .f32)
    (d : Fin 2048) (a : Fin 128) (l : Fin 4) (ha : 68 + (l : ℕ) = a) :
    concatenate S128x2048 0 [⟨S64x2048, A7⟩, ⟨S4x2048, A8⟩, ⟨S4x2048, A9⟩, ⟨S8x2048, A10⟩, ⟨S48x2048, A11⟩]
      concatenates_S64x2048_S4x2048_S4x2048_S8x2048_S48x2048_S128x2048_d0 (ix2 a d) = A9 (ix2 l d) :=
  concatenate_apply_piece (t := S128x2048) 0 _ _ (ix2 a d) 2 (by norm_num) S4x2048 A9 rfl rfl 68 rfl (ix2 l d)
    (fun b hb => by
      match b with
      | ⟨0, _⟩ => exact absurd rfl hb
      | ⟨1, _⟩ => rfl) ha

/-- The projection without its leading axis of one. -/
theorem flat_at (W : FVec Ideal S1x2048x8784 .f32) (d : Fin 2048) (j : Fin 8784) :
    shapeCast S2048x8784 W shapeCasts_S1x2048x8784_S2048x8784 (ix2 d j) = W (ix3 0 d j) := by
  pointwise

/-- A row of the input gates' piece. -/
theorem piece_i (W : FVec Ideal S2048x8784 .f32) (d : Fin 2048) (l : Fin 4) :
    extractStridedSlice S4x2048 ![5120, 0] (transpose S8784x2048 [1, 0] W transposes_S2048x8784_S8784x2048_1_0) slices_S8784x2048_S4x2048_5120_0 (ix2 l d)
      = W (ix2 d ⟨5120 + l, by omega⟩) := by
  pointwise

/-- A row of the forget gates' piece. -/
theorem piece_f (W : FVec Ideal S2048x8784 .f32) (d : Fin 2048) (l : Fin 4) :
    extractStridedSlice S4x2048 ![5124, 0] (transpose S8784x2048 [1, 0] W transposes_S2048x8784_S8784x2048_1_0) slices_S8784x2048_S4x2048_5124_0 (ix2 l d)
      = W (ix2 d ⟨5124 + l, by omega⟩) := by
  pointwise

section
variable {m} {I : Inputs} {c : Dev nD} (R : Reals m I c) (t : Fin cfg0.N)
include R

/-- The gates' columns as rows: row 64 on. -/
theorem small_row (d : Fin 2048) (a : Fin 128) (l : Fin 8) (ha : (a : ℕ) = 64 + l) :
    (V m c main_v13 : FVec Ideal S128x2048 .bf16) (ix2 a d) = ((I.w ⟨5120 + l, by omega⟩ d : ℝ) : EReal) := by
  rw [V_main_v13, V_main_v12, early_v8, early_v9]
  by_cases hl : (l : ℕ) < 4
  · refine (pieces_i _ _ _ _ _ d a ⟨l, hl⟩ ha.symm).trans ((piece_i _ d ⟨l, hl⟩).trans ((flat_at _ d _).trans (R.w d _)))
  · refine (pieces_f _ _ _ _ _ d a ⟨l - 4, by omega⟩ (by change 68 + ((l : ℕ) - 4) = a; omega)).trans
      ((piece_f _ d ⟨l - 4, by omega⟩).trans ((flat_at _ d _).trans ((R.w d _).trans ?_)))
    have e : (⟨5124 + ((l : ℕ) - 4), by omega⟩ : Fin 8784) = ⟨5120 + l, by omega⟩ := Fin.ext (by change 5124 + ((l : ℕ) - 4) = 5120 + l; omega)
    exact congrArg (fun j => ((I.w j d : ℝ) : EReal)) e

/-- The gates' columns: column 64 on of the small block. -/
theorem block_small (d : Fin 2048) (a : Fin 128) (l : Fin 8) (ha : (a : ℕ) = 64 + l) :
    (iblk m c 3 t : FVec Ideal S2048x128 .bf16) (ix2 d a) = ((I.w ⟨5120 + l, by omega⟩ d : ℝ) : EReal) := by
  rw [← small_row R d a l ha]
  have e : @Eq (FVec Ideal S2048x128 .bf16) (V m c main_v14) (transpose S2048x128 [1, 0] (V m c main_v13 : FVec Ideal S128x2048 .bf16)
      transposes_S128x2048_S2048x128_1_0) := by
    unfold V
    rw [StableHlo.after_last_write (i := 15) [main_v15, main_v16, main_v17, main_v18, main_cst_0, main_v19, main_c, main_v20, main_c_1, main_v21,
      main_v22, main_v23, main_cst_2, main_v24, main_c_3, main_v25, main_c_4, main_v26, main_v27, main_v28, main_v29, main_v30] rfl rfl (by decide),
      StableHlo.unary_result]
    rw [StableHlo.after_last_write (i := 14) [main_v14, main_v15, main_v16, main_v17, main_v18, main_cst_0, main_v19, main_c, main_v20, main_c_1, main_v21,
      main_v22, main_v23, main_cst_2, main_v24, main_c_3, main_v25, main_c_4, main_v26, main_v27, main_v28, main_v29, main_v30] rfl rfl (by decide),
      StableHlo.upto_last_write (i := 14) [] rfl rfl (by decide)]
  refine Eq.trans (b := (V m c main_v14 : FVec Ideal S2048x128 .bf16) (ix2 d a)) ?_ ?_
  · blk_simp [iblk]
    blk_ext [idx t]
  · rw [e]
    generalize V m c main_v13 = X
    change FVec Ideal S128x2048 .bf16 at X
    pointwise

/-- The gates' rows. -/
theorem block_smallT (d : Fin 2048) (a : Fin 128) (l : Fin 8) (ha : (a : ℕ) = 64 + l) :
    (iblk m c 4 t : FVec Ideal S128x2048 .bf16) (ix2 a d) = ((I.w ⟨5120 + l, by omega⟩ d : ℝ) : EReal) := by
  rw [← small_row R d a l ha]
  blk_simp [iblk]
  blk_ext [idx t]

/-- The gates' biases as a row. -/
theorem block_bias (a : Fin 128) (l : Fin 8) (ha : (a : ℕ) = 64 + l) : (iblk m c 5 t : FVec Ideal S1x128 .f32) (ix2 0 a) = ((I.b l : ℝ) : EReal) := by
  rw [← R.b l]
  refine Eq.trans (b := (V m c main_v23 : FVec Ideal S1x128 .f32) (ix2 0 a)) ?_ ?_
  · blk_simp [iblk]
    blk_ext [idx t]
  entry_read
  refine scatter_set_hit _ _ _ _ _ _ (fun k hk => ?_) (ix1 l) ((lands_bias _ rfl rfl _ _).mpr ha.symm)
  have e := (lands_bias _ rfl rfl _ _).mp hk
  change 64 + (k 0).val = a.val at e
  have ek : k = ix1 l := funext fun b => Fin.ext (by
    match b with
    | ⟨0, _⟩ => change (k 0).val = l.val; omega)
  rw [ek]
  pointwise

/-- The gates' biases as a column. -/
theorem block_biasT (a : Fin 16) (l : Fin 8) (ha : (a : ℕ) = l) : (iblk m c 6 t : FVec Ideal S16x1 .f32) (ix2 a 0) = ((I.b l : ℝ) : EReal) := by
  rw [← R.b l]
  refine Eq.trans (b := (V m c main_v28 : FVec Ideal S16x1 .f32) (ix2 a 0)) ?_ ?_
  · blk_simp [iblk]
    blk_ext [idx t]
  entry_read
  have hd := lands_column scatter_S16x1_S2_S8_0_1_01_0 rfl rfl rfl
    (concatenate S2 0 [⟨S1, broadcastInDim S1 ![] bcast_S_S1 (constantI S_ 32 0#32)⟩, ⟨S1, broadcastInDim S1 ![] bcast_S_S1 (constantI S_ 32 0#32)⟩]
      concatenates_S1_S1_S2_d0)
  refine scatter_set_hit _ _ _ _ _ _ (fun k hk => ?_) (ix1 l) ((hd l a 0).mpr ⟨?_, rfl⟩)
  · obtain ⟨k0, rfl⟩ : ∃ k0 : Fin 8, k = ix1 k0 := ⟨k 0, funext fun b => by
      match b with
      | ⟨0, _⟩ => rfl⟩
    have e := ((hd k0 a 0).mp hk).1
    change (0 : ℤ) + ((k0.val : ℕ) : ℤ) = ((a.val : ℕ) : ℤ) at e
    have ek : k0 = l := Fin.ext (by omega)
    rw [ek]
    pointwise
  · change (0 : ℤ) + ((l.val : ℕ) : ℤ) = ((a.val : ℕ) : ℤ)
    omega

end
end Cert.KernelIdeal.Mlstm
-- ==== Proof.Proj.lean ====
/-
  The projection of one block: what its operations compute of real operands.
-/
module

public import proofs.«01_k».proof.Proof.Gen.KernelIdeal.Skeleton
public import proofs.«01_k».proof.Proof.Consts
public import Idealize.ShloMosaic.Lib.Pointwise

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
open scoped BigOperators

section
variable (x : Fin 256 → Fin 2048 → ℝ) (g : Fin 2048 → ℝ)

/-- The normalised rows of a block. -/
theorem u_at (X : FVec Ideal S256x2048 .f32) (G : FVec Ideal S1x2048 .f32) (hX : ∀ r d, X (ix2 r d) = ((x r d : ℝ) : EReal))
    (hG : ∀ d, G (ix2 0 d) = ((g d : ℝ) : EReal)) (r : Fin 256) (d : Fin 2048) :
    k0_pay25 (F := Ideal) X G (ix2 r d) = ((rmsn (x r) d * g d : ℝ) : EReal) := by
  pointwise [k0_pay25]
  simp only [hX, hG, ofBits_eps, ofBits_2048]
  rw [show ((2048 : ℝ) : EReal) = (((2048 : ℕ) : ℝ) : EReal) by norm_num, rmsn_coe (by norm_num), ← EReal.coe_mul]

variable (u : Fin 256 → Fin 2048 → ℝ) (U : FVec Ideal S256x2048 .bf16) (hU : ∀ r d, U (ix2 r d) = ((u r d : ℝ) : EReal))

include hU in
/-- A tile of the projection. -/
theorem tile_at (W : FVec Ideal S256x2048 .bf16) (w : Fin 256 → Fin 2048 → ℝ) (hW : ∀ j d, W (ix2 j d) = ((w j d : ℝ) : EReal))
    (r j : Fin 256) : k0_pay58 (F := Ideal) U W (ix2 r j) = ((∑ d, u r d * w j d : ℝ) : EReal) := by
  pointwise [k0_pay58]
  simp only [hU, hW, ← EReal.coe_mul, ← coe_sum]

include hU in
/-- A tile of the keys, scaled. -/
theorem ktile_at (W : FVec Ideal S256x2048 .bf16) (w : Fin 256 → Fin 2048 → ℝ) (hW : ∀ j d, W (ix2 j d) = ((w j d : ℝ) : EReal))
    (r j : Fin 256) : k0_pay84 (F := Ideal) U W (ix2 r j) = (((∑ d, u r d * w j d) * (1 / 16) : ℝ) : EReal) := by
  pointwise [k0_pay84]
  simp only [hU, hW, ofBits_sixteenth, ← EReal.coe_mul, ← coe_sum]

include hU in
/-- A tile of the output gate. -/
theorem gtile_at (W W' : FVec Ideal S256x2048 .bf16) (w w' : Fin 256 → Fin 2048 → ℝ)
    (hW : ∀ j d, W (ix2 j d) = ((w j d : ℝ) : EReal)) (hW' : ∀ j d, W' (ix2 j d) = ((w' j d : ℝ) : EReal))
    (r j : Fin 256) : k0_pay144 (F := Ideal) U W U W' (ix2 r j) = ((ogate (∑ d, u r d * w j d) (∑ d, u r d * w' j d) : ℝ) : EReal) := by
  pointwise [k0_pay144]
  simp only [hU, hW, hW', ← EReal.coe_mul, ← coe_sum, ogate_coe]

include hU in
/-- The gates' columns. -/
theorem small_at (W : FVec Ideal S2048x128 .bf16) (l : Fin 128) (w : Fin 2048 → ℝ) (hW : ∀ d, W (ix2 d l) = ((w d : ℝ) : EReal))
    (r : Fin 256) : k0_pay52 (F := Ideal) U W (ix2 r l) = ((∑ d, u r d * w d : ℝ) : EReal) := by
  pointwise [k0_pay52]
  simp only [hU, hW, ← EReal.coe_mul, ← coe_sum]

include hU in
/-- The gates' rows. -/
theorem smallT_at (W : FVec Ideal S16x2048 .bf16) (l : Fin 16) (w : Fin 2048 → ℝ) (hW : ∀ d, W (ix2 l d) = ((w d : ℝ) : EReal))
    (r : Fin 256) : k0_pay53 (F := Ideal) W U (ix2 l r) = ((∑ d, u r d * w d : ℝ) : EReal) := by
  pointwise [k0_pay53]
  simp only [hU, hW, ← EReal.coe_mul, ← coe_sum]
  congr 1
  exact Finset.sum_congr rfl fun d _ => mul_comm _ _

end
end Cert.KernelIdeal.Mlstm
-- ==== Proof.State.lean ====
/-
  What the kernel keeps between grid points: a block's projection in one set of buffers, the memories of the heads in another;
  how buffers written by pieces are read; and the operands of a chunk's heads, loaded from those buffers.
-/
module

public import proofs.«01_k».proof.Proof.Heads
public import proofs.«01_k».proof.Proof.Proj
public import proofs.«01_k».proof.Proof.Input
public import Idealize.ShloMosaic.Lib.Pipeline.ValueKit
public import Idealize.ShloMosaic.Lib.WritesUnit

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
open scoped BigOperators

/-! ### Reading buffers written by pieces -/

/-- The contents left by a list of pieces: the first piece decides where it lies, the rest elsewhere. -/
theorem canon_piece {s : Shape} {e : EltTy} {off size : Fin s.rank → ℕ} {inb : ∀ a, off a + size a ≤ s.size a}
    {w : (Rect.unit off size inb).shape.Idx → Elt Ideal e} {L : List (View.Piece (Elt Ideal) s e)} {y : s.Idx} {z : Elt Ideal e}
    (hit : ∀ x : (Rect.unit off size inb).shape.Idx, (∀ a, (y a).val = off a + (x a).val) → w x = z)
    (miss : (¬∀ a, off a ≤ (y a).val ∧ (y a).val < off a + size a) → View.canon L y = z) :
    View.canon ((⟨Rect.unit off size inb, w⟩ : View.Piece (Elt Ideal) s e) :: L) y = z := by
  by_cases hy : y ∈ (Rect.unit off size inb).set
  · obtain ⟨x, rfl⟩ := (Rect.unit off size inb).exists_idx_of_mem hy
    refine (View.canon_cons_emb _ w L x).trans (hit x fun a => ?_)
    exact Rect.idx_unit_val off size inb x a
  · rw [View.canon_cons_of_not_mem _ _ hy]
    exact miss fun h => hy (Rect.mem_set_unit.mpr h)

/-- The same, over contents held before the pieces were written. -/
theorem read_piece {sig' : RefSig} {κ : Kind} {sp : Space} {s : Shape} {e : EltTy} {v : View sig' κ sp s e} {f : v.ty.Contents (Elt Ideal)}
    {off size : Fin s.rank → ℕ} {inb : ∀ a, off a + size a ≤ s.size a}
    {w : (Rect.unit off size inb).shape.Idx → Elt Ideal e} {L : List (View.Piece (Elt Ideal) s e)} {y : s.Idx} {z : Elt Ideal e}
    (hit : ∀ x : (Rect.unit off size inb).shape.Idx, (∀ a, (y a).val = off a + (x a).val) → w x = z)
    (miss : (¬∀ a, off a ≤ (y a).val ∧ (y a).val < off a + size a) → v.read (Elt Ideal) (v.writes (Elt Ideal) f L) y = z) :
    v.read (Elt Ideal) (v.writes (Elt Ideal) f ((⟨Rect.unit off size inb, w⟩ : View.Piece (Elt Ideal) s e) :: L)) y = z := by
  by_cases hy : y ∈ (Rect.unit off size inb).set
  · obtain ⟨x, rfl⟩ := (Rect.unit off size inb).exists_idx_of_mem hy
    refine (View.read_writes_cons_emb v f _ w L x).trans (hit x fun a => ?_)
    exact Rect.idx_unit_val off size inb x a
  · rw [View.read_writes_cons_miss v f _ _ _ hy]
    exact miss fun h => hy (Rect.mem_set_unit.mpr h)

/-- A tile of 256 columns of a matrix written by pieces. -/
theorem canon_tile {n : ℕ} {e : EltTy} {o : ℕ} {inb : ∀ a : Fin 2, (![0, o] : Fin 2 → ℕ) a + (![256, 256] : Fin 2 → ℕ) a ≤ (![256, n] : Fin 2 → ℕ) a}
    {w : (⟨2, ![256, 256]⟩ : Shape).Idx → Elt Ideal e} {L : List (View.Piece (Elt Ideal) ⟨2, ![256, n]⟩ e)} (P : Fin 256 → Fin n → Elt Ideal e)
    {r : Fin 256} {j : Fin n} (hit : ∀ (r d : Fin 256) (j : Fin n), (j : ℕ) = o + d → w (ix2 r d) = P r j)
    (miss : (j : ℕ) < o ∨ o + 256 ≤ j → View.canon L (ix2 r j) = P r j) :
    View.canon ((⟨Rect.unit (s := ⟨2, ![256, n]⟩) ![0, o] ![256, 256] inb, w⟩ : View.Piece (Elt Ideal) ⟨2, ![256, n]⟩ e) :: L) (ix2 r j) = P r j := by
  refine canon_piece (fun x hx => ?_) fun h => miss ?_
  · have h0 : (r : ℕ) = 0 + (x 0 : ℕ) := hx 0
    have h1 : (j : ℕ) = o + (x 1 : ℕ) := hx 1
    obtain rfl : r = x 0 := Fin.ext (by rw [h0, Nat.zero_add])
    exact (congrArg w (eq_ix2 x)).trans (hit _ _ _ h1)
  · by_contra hc
    refine h (Fin.forall_fin_two.mpr ⟨?_, ?_⟩)
    · show 0 ≤ (r : ℕ) ∧ (r : ℕ) < 0 + 256
      omega
    · show o ≤ (j : ℕ) ∧ (j : ℕ) < o + 256
      omega

/-- Four tiles of a matrix of 1024 columns, written last. -/
theorem canon_four {e : EltTy} {i3 i2 i1 i0}
    {w3 w2 w1 w0 : (⟨2, ![256, 256]⟩ : Shape).Idx → Elt Ideal e}
    {L : List (View.Piece (Elt Ideal) ⟨2, ![256, 1024]⟩ e)} (P : Fin 256 → Fin 1024 → Elt Ideal e)
    (h3 : ∀ (r d : Fin 256) (j : Fin 1024), (j : ℕ) = 768 + d → w3 (ix2 r d) = P r j)
    (h2 : ∀ (r d : Fin 256) (j : Fin 1024), (j : ℕ) = 512 + d → w2 (ix2 r d) = P r j)
    (h1 : ∀ (r d : Fin 256) (j : Fin 1024), (j : ℕ) = 256 + d → w1 (ix2 r d) = P r j)
    (h0 : ∀ (r d : Fin 256) (j : Fin 1024), (j : ℕ) = 0 + d → w0 (ix2 r d) = P r j)
    (r : Fin 256) (j : Fin 1024) :
    View.canon ((⟨Rect.unit (s := ⟨2, ![256, 1024]⟩) ![0, 768] ![256, 256] i3, w3⟩ : View.Piece (Elt Ideal) ⟨2, ![256, 1024]⟩ e)
      :: ⟨Rect.unit (s := ⟨2, ![256, 1024]⟩) ![0, 512] ![256, 256] i2, w2⟩
      :: ⟨Rect.unit (s := ⟨2, ![256, 1024]⟩) ![0, 256] ![256, 256] i1, w1⟩
      :: ⟨Rect.unit (s := ⟨2, ![256, 1024]⟩) ![0, 0] ![256, 256] i0, w0⟩
      :: L) (ix2 r j) = P r j := by
  refine canon_tile P h3 fun n3 => canon_tile P h2 fun n2 => canon_tile P h1 fun n1 => canon_tile P h0 fun n0 => ?_
  omega

/-- Twelve tiles of a matrix of 3072 columns, written last. -/
theorem canon_twelve {i11 i10 i9 i8 i7 i6 i5 i4 i3 i2 i1 i0}
    {w11 w10 w9 w8 w7 w6 w5 w4 w3 w2 w1 w0 : (⟨2, ![256, 256]⟩ : Shape).Idx → Elt Ideal .bf16}
    {L : List (View.Piece (Elt Ideal) ⟨2, ![256, 3072]⟩ .bf16)} (P : Fin 256 → Fin 3072 → EReal)
    (h11 : ∀ (r d : Fin 256) (j : Fin 3072), (j : ℕ) = 2816 + d → w11 (ix2 r d) = P r j)
    (h10 : ∀ (r d : Fin 256) (j : Fin 3072), (j : ℕ) = 2560 + d → w10 (ix2 r d) = P r j)
    (h9 : ∀ (r d : Fin 256) (j : Fin 3072), (j : ℕ) = 2304 + d → w9 (ix2 r d) = P r j)
    (h8 : ∀ (r d : Fin 256) (j : Fin 3072), (j : ℕ) = 2048 + d → w8 (ix2 r d) = P r j)
    (h7 : ∀ (r d : Fin 256) (j : Fin 3072), (j : ℕ) = 1792 + d → w7 (ix2 r d) = P r j)
    (h6 : ∀ (r d : Fin 256) (j : Fin 3072), (j : ℕ) = 1536 + d → w6 (ix2 r d) = P r j)
    (h5 : ∀ (r d : Fin 256) (j : Fin 3072), (j : ℕ) = 1280 + d → w5 (ix2 r d) = P r j)
    (h4 : ∀ (r d : Fin 256) (j : Fin 3072), (j : ℕ) = 1024 + d → w4 (ix2 r d) = P r j)
    (h3 : ∀ (r d : Fin 256) (j : Fin 3072), (j : ℕ) = 768 + d → w3 (ix2 r d) = P r j)
    (h2 : ∀ (r d : Fin 256) (j : Fin 3072), (j : ℕ) = 512 + d → w2 (ix2 r d) = P r j)
    (h1 : ∀ (r d : Fin 256) (j : Fin 3072), (j : ℕ) = 256 + d → w1 (ix2 r d) = P r j)
    (h0 : ∀ (r d : Fin 256) (j : Fin 3072), (j : ℕ) = 0 + d → w0 (ix2 r d) = P r j)
    (r : Fin 256) (j : Fin 3072) :
    View.canon ((⟨Rect.unit (s := ⟨2, ![256, 3072]⟩) ![0, 2816] ![256, 256] i11, w11⟩ : View.Piece (Elt Ideal) ⟨2, ![256, 3072]⟩ .bf16)
      :: ⟨Rect.unit (s := ⟨2, ![256, 3072]⟩) ![0, 2560] ![256, 256] i10, w10⟩
      :: ⟨Rect.unit (s := ⟨2, ![256, 3072]⟩) ![0, 2304] ![256, 256] i9, w9⟩
      :: ⟨Rect.unit (s := ⟨2, ![256, 3072]⟩) ![0, 2048] ![256, 256] i8, w8⟩
      :: ⟨Rect.unit (s := ⟨2, ![256, 3072]⟩) ![0, 1792] ![256, 256] i7, w7⟩
      :: ⟨Rect.unit (s := ⟨2, ![256, 3072]⟩) ![0, 1536] ![256, 256] i6, w6⟩
      :: ⟨Rect.unit (s := ⟨2, ![256, 3072]⟩) ![0, 1280] ![256, 256] i5, w5⟩
      :: ⟨Rect.unit (s := ⟨2, ![256, 3072]⟩) ![0, 1024] ![256, 256] i4, w4⟩
      :: ⟨Rect.unit (s := ⟨2, ![256, 3072]⟩) ![0, 768] ![256, 256] i3, w3⟩
      :: ⟨Rect.unit (s := ⟨2, ![256, 3072]⟩) ![0, 512] ![256, 256] i2, w2⟩
      :: ⟨Rect.unit (s := ⟨2, ![256, 3072]⟩) ![0, 256] ![256, 256] i1, w1⟩
      :: ⟨Rect.unit (s := ⟨2, ![256, 3072]⟩) ![0, 0] ![256, 256] i0, w0⟩
      :: L) (ix2 r j) = P r j := by
  refine canon_tile (e := .bf16) P h11 fun n11 => canon_tile (e := .bf16) P h10 fun n10 => canon_tile (e := .bf16) P h9 fun n9 => canon_tile (e := .bf16) P h8 fun n8 => canon_tile (e := .bf16) P h7 fun n7 => canon_tile (e := .bf16) P h6 fun n6 => canon_tile (e := .bf16) P h5 fun n5 => canon_tile (e := .bf16) P h4 fun n4 => canon_tile (e := .bf16) P h3 fun n3 => canon_tile (e := .bf16) P h2 fun n2 => canon_tile (e := .bf16) P h1 fun n1 => canon_tile (e := .bf16) P h0 fun n0 => ?_
  omega

/-- Four slabs of a stack of four matrices, written last. -/
theorem canon_slabs {e : EltTy} {i3 i2 i1 i0} {w3 w2 w1 w0 : (⟨3, ![1, 256, 256]⟩ : Shape).Idx → Elt Ideal e}
    {L : List (View.Piece (Elt Ideal) ⟨3, ![4, 256, 256]⟩ e)} (P : Fin 4 → Fin 256 → Fin 256 → Elt Ideal e)
    (h3 : ∀ x y, w3 (ix3 0 x y) = P 3 x y) (h2 : ∀ x y, w2 (ix3 0 x y) = P 2 x y) (h1 : ∀ x y, w1 (ix3 0 x y) = P 1 x y)
    (h0 : ∀ x y, w0 (ix3 0 x y) = P 0 x y) (h : Fin 4) (x y : Fin 256) :
    View.canon ((⟨Rect.unit (s := ⟨3, ![4, 256, 256]⟩) ![3, 0, 0] ![1, 256, 256] i3, w3⟩ : View.Piece (Elt Ideal) ⟨3, ![4, 256, 256]⟩ e)
      :: ⟨Rect.unit (s := ⟨3, ![4, 256, 256]⟩) ![2, 0, 0] ![1, 256, 256] i2, w2⟩
      :: ⟨Rect.unit (s := ⟨3, ![4, 256, 256]⟩) ![1, 0, 0] ![1, 256, 256] i1, w1⟩
      :: ⟨Rect.unit (s := ⟨3, ![4, 256, 256]⟩) ![0, 0, 0] ![1, 256, 256] i0, w0⟩ :: L) (ix3 h x y) = P h x y := by
  have key : ∀ (k : Fin 4) (w : (⟨3, ![1, 256, 256]⟩ : Shape).Idx → Elt Ideal e) (hw : ∀ x y, w (ix3 0 x y) = P k x y)
      (z : (⟨3, ![1, 256, 256]⟩ : Shape).Idx), (∀ a : Fin 3, ((ix3 h x y : (⟨3, ![4, 256, 256]⟩ : Shape).Idx) a).val = (![(k : ℕ), 0, 0] : Fin 3 → ℕ) a + (z a).val) →
      w z = P h x y := by
    intro k w hw z hz
    have a0 : (h : ℕ) = k + (z 0 : ℕ) := hz 0
    have a1 : (x : ℕ) = 0 + (z 1 : ℕ) := hz 1
    have a2 : (y : ℕ) = 0 + (z 2 : ℕ) := hz 2
    have z0 : (z 0 : ℕ) < 1 := (z 0).isLt
    obtain rfl : h = k := Fin.ext (by omega)
    obtain rfl : x = z 1 := Fin.ext (by omega)
    obtain rfl : y = z 2 := Fin.ext (by omega)
    refine (congrArg w ?_).trans (hw _ _)
    refine (eq_ix3 z).trans ?_
    rw [show z 0 = (0 : Fin 1) from Fin.ext (by show (z 0 : ℕ) = 0; omega)]
  refine canon_piece (key 3 w3 h3) fun n3 => canon_piece (key 2 w2 h2) fun n2 => canon_piece (key 1 w1 h1) fun n1 =>
    canon_piece (key 0 w0 h0) fun n0 => ?_
  have out : ∀ k : ℕ, (¬∀ a : Fin 3, (![k, 0, 0] : Fin 3 → ℕ) a ≤ ((ix3 h x y : (⟨3, ![4, 256, 256]⟩ : Shape).Idx) a).val
      ∧ ((ix3 h x y : (⟨3, ![4, 256, 256]⟩ : Shape).Idx) a).val < (![k, 0, 0] : Fin 3 → ℕ) a + (![1, 256, 256] : Fin 3 → ℕ) a) → (h : ℕ) ≠ k := by
    rintro k hk rfl
    refine hk fun a => ?_
    match a with
    | ⟨0, _⟩ => exact ⟨le_refl _, Nat.lt_succ_self _⟩
    | ⟨1, _⟩ => exact ⟨Nat.zero_le _, by show (x : ℕ) < 0 + 256; omega⟩
    | ⟨2, _⟩ => exact ⟨Nat.zero_le _, by show (y : ℕ) < 0 + 256; omega⟩
  have := out 0 n0
  have := out 1 n1
  have := out 2 n2
  have := out 3 n3
  omega

/-- The rows of a matrix: where a piece of one row lies. -/
theorem row_hit {n m : ℕ} {e : EltTy} {P : Fin n → Fin m → Elt Ideal e} {k : ℕ} (w : (⟨2, ![1, m]⟩ : Shape).Idx → Elt Ideal e)
    (hk : k < n) (hw : ∀ y, w (ix2 0 y) = P ⟨k, hk⟩ y) (h : Fin n) (y : Fin m) (z : (⟨2, ![1, m]⟩ : Shape).Idx)
    (hz : ∀ a : Fin 2, ((ix2 h y : (⟨2, ![n, m]⟩ : Shape).Idx) a).val = (![k, 0] : Fin 2 → ℕ) a + (z a).val) : w z = P h y := by
  have a0 : (h : ℕ) = k + (z 0 : ℕ) := hz 0
  have a1 : (y : ℕ) = 0 + (z 1 : ℕ) := hz 1
  have z0 : (z 0 : ℕ) < 1 := (z 0).isLt
  obtain rfl : h = ⟨k, hk⟩ := Fin.ext (by show (h : ℕ) = k; omega)
  obtain rfl : y = z 1 := Fin.ext (by omega)
  refine (congrArg w ?_).trans (hw _)
  refine (eq_ix2 z).trans ?_
  rw [show z 0 = (0 : Fin 1) from Fin.ext (by show (z 0 : ℕ) = 0; omega)]

/-- The rows of a matrix: a row elsewhere. -/
theorem row_miss {n m : ℕ} {k : ℕ} {h : Fin n} {y : Fin m}
    (hk : ¬∀ a : Fin 2, (![k, 0] : Fin 2 → ℕ) a ≤ ((ix2 h y : (⟨2, ![n, m]⟩ : Shape).Idx) a).val
      ∧ ((ix2 h y : (⟨2, ![n, m]⟩ : Shape).Idx) a).val < (![k, 0] : Fin 2 → ℕ) a + (![1, m] : Fin 2 → ℕ) a) : (h : ℕ) ≠ k := by
  rintro rfl
  refine hk (Fin.forall_fin_two.mpr ⟨⟨le_refl _, Nat.lt_succ_self _⟩, ⟨Nat.zero_le _, ?_⟩⟩)
  show (y : ℕ) < 0 + m
  omega

/-- Four rows of a matrix of four rows, written last. -/
theorem canon_rows {e : EltTy} {i3 i2 i1 i0} {w3 w2 w1 w0 : (⟨2, ![1, 256]⟩ : Shape).Idx → Elt Ideal e}
    {L : List (View.Piece (Elt Ideal) ⟨2, ![4, 256]⟩ e)} (P : Fin 4 → Fin 256 → Elt Ideal e)
    (h3 : ∀ y, w3 (ix2 0 y) = P 3 y) (h2 : ∀ y, w2 (ix2 0 y) = P 2 y) (h1 : ∀ y, w1 (ix2 0 y) = P 1 y)
    (h0 : ∀ y, w0 (ix2 0 y) = P 0 y) (h : Fin 4) (y : Fin 256) :
    View.canon ((⟨Rect.unit (s := ⟨2, ![4, 256]⟩) ![3, 0] ![1, 256] i3, w3⟩ : View.Piece (Elt Ideal) ⟨2, ![4, 256]⟩ e)
      :: ⟨Rect.unit (s := ⟨2, ![4, 256]⟩) ![2, 0] ![1, 256] i2, w2⟩
      :: ⟨Rect.unit (s := ⟨2, ![4, 256]⟩) ![1, 0] ![1, 256] i1, w1⟩
      :: ⟨Rect.unit (s := ⟨2, ![4, 256]⟩) ![0, 0] ![1, 256] i0, w0⟩ :: L) (ix2 h y) = P h y := by
  refine canon_piece (row_hit w3 (by decide) h3 h y) fun n3 => canon_piece (row_hit w2 (by decide) h2 h y) fun n2 =>
    canon_piece (row_hit w1 (by decide) h1 h y) fun n1 => canon_piece (row_hit w0 (by decide) h0 h y) fun n0 => ?_
  have := row_miss n0
  have := row_miss n1
  have := row_miss n2
  have := row_miss n3
  omega

/-- Four rows of a matrix of eight rows, written over what it held. -/
theorem read_rows {sig' : RefSig} {κ : Kind} {sp : Space} {v : View sig' κ sp ⟨2, ![8, 128]⟩ .f32} {f : v.ty.Contents (Elt Ideal)} {i3 i2 i1 i0}
    {w3 w2 w1 w0 : (⟨2, ![1, 128]⟩ : Shape).Idx → EReal} {L : List (View.Piece (Elt Ideal) ⟨2, ![8, 128]⟩ .f32)} (P : Fin 8 → Fin 128 → EReal)
    (h3 : ∀ y, w3 (ix2 0 y) = P 3 y) (h2 : ∀ y, w2 (ix2 0 y) = P 2 y) (h1 : ∀ y, w1 (ix2 0 y) = P 1 y)
    (h0 : ∀ y, w0 (ix2 0 y) = P 0 y) (h : Fin 8) (y : Fin 128)
    (hr : 4 ≤ (h : ℕ) → v.read (Elt Ideal) (v.writes (Elt Ideal) f L) (ix2 h y) = P h y) :
    v.read (Elt Ideal) (v.writes (Elt Ideal) f ((⟨Rect.unit (s := ⟨2, ![8, 128]⟩) ![3, 0] ![1, 128] i3, w3⟩ : View.Piece (Elt Ideal) ⟨2, ![8, 128]⟩ .f32)
      :: ⟨Rect.unit (s := ⟨2, ![8, 128]⟩) ![2, 0] ![1, 128] i2, w2⟩
      :: ⟨Rect.unit (s := ⟨2, ![8, 128]⟩) ![1, 0] ![1, 128] i1, w1⟩
      :: ⟨Rect.unit (s := ⟨2, ![8, 128]⟩) ![0, 0] ![1, 128] i0, w0⟩ :: L)) (ix2 h y) = P h y := by
  refine read_piece (row_hit (e := .f32) w3 (by decide) h3 h y) fun n3 => read_piece (row_hit (e := .f32) w2 (by decide) h2 h y) fun n2 =>
    read_piece (row_hit (e := .f32) w1 (by decide) h1 h y) fun n1 => read_piece (row_hit (e := .f32) w0 (by decide) h0 h y) fun n0 => hr ?_
  have := row_miss n0
  have := row_miss n1
  have := row_miss n2
  have := row_miss n3
  omega

/-- Four rows of a matrix of eight rows, written last. -/
theorem canon_eight {i3 i2 i1 i0}
    {w3 w2 w1 w0 : (⟨2, ![1, 128]⟩ : Shape).Idx → EReal} {L : List (View.Piece (Elt Ideal) ⟨2, ![8, 128]⟩ .f32)} (P : Fin 8 → Fin 128 → EReal)
    (h3 : ∀ y, w3 (ix2 0 y) = P 3 y) (h2 : ∀ y, w2 (ix2 0 y) = P 2 y) (h1 : ∀ y, w1 (ix2 0 y) = P 1 y)
    (h0 : ∀ y, w0 (ix2 0 y) = P 0 y) (h : Fin 8) (y : Fin 128)
    (hr : 4 ≤ (h : ℕ) → View.canon L (ix2 h y) = P h y) :
    View.canon ((⟨Rect.unit (s := ⟨2, ![8, 128]⟩) ![3, 0] ![1, 128] i3, w3⟩ : View.Piece (Elt Ideal) ⟨2, ![8, 128]⟩ .f32)
      :: ⟨Rect.unit (s := ⟨2, ![8, 128]⟩) ![2, 0] ![1, 128] i2, w2⟩
      :: ⟨Rect.unit (s := ⟨2, ![8, 128]⟩) ![1, 0] ![1, 128] i1, w1⟩
      :: ⟨Rect.unit (s := ⟨2, ![8, 128]⟩) ![0, 0] ![1, 128] i0, w0⟩ :: L) (ix2 h y) = P h y := by
  refine canon_piece (row_hit (e := .f32) w3 (by decide) h3 h y) fun n3 => canon_piece (row_hit (e := .f32) w2 (by decide) h2 h y) fun n2 =>
    canon_piece (row_hit (e := .f32) w1 (by decide) h1 h y) fun n1 => canon_piece (row_hit (e := .f32) w0 (by decide) h0 h y) fun n0 => hr ?_
  have := row_miss n0
  have := row_miss n1
  have := row_miss n2
  have := row_miss n3
  omega

/-- A buffer filled as a whole. -/
theorem canon_whole {s : Shape} {e : EltTy} {off : Fin s.rank → ℕ} (inb : ∀ a, off a + s.size a ≤ s.size a) (w : s.Idx → Elt Ideal e)
    (L : List (View.Piece (Elt Ideal) s e)) : View.canon ((⟨Rect.unit off s.size inb, w⟩ : View.Piece (Elt Ideal) s e) :: L) = w := by
  funext y
  refine canon_piece (fun x hx => congrArg w (funext fun a => Fin.ext ?_)) fun h => absurd (fun a => ?_) h
  · have h1 := hx a
    have h2 := inb a
    omega
  · have h1 := inb a
    have h2 := (y a).isLt
    omega

/-- A slab loaded from a stack filled as a whole. -/
theorem readCov_slab {sig' : RefSig} {κ : Kind} {sp : Space} (v : View sig' κ sp S4x256x256 .f32) (w : S4x256x256.Idx → Elt Ideal .f32) {o : ℕ}
    (inb : ∀ a, (![0, 0, 0] : Fin 3 → ℕ) a + (![4, 256, 256] : Fin 3 → ℕ) a ≤ S4x256x256.size a)
    (inb' : ∀ a, (![o, 0, 0] : Fin 3 → ℕ) a + (![1, 256, 256] : Fin 3 → ℕ) a ≤ S4x256x256.size a) :
    v.readCov [(⟨Rect.unit (s := S4x256x256) ![0, 0, 0] ![4, 256, 256] inb, w⟩ : View.Piece (Elt Ideal) S4x256x256 .f32)]
      (Rect.unit (s := S4x256x256) ![o, 0, 0] ![1, 256, 256] inb').toLoadRect
      = View.ld (Val := Elt Ideal) (e' := .f32) w (Rect.unit (s := S4x256x256) ![o, 0, 0] ![1, 256, 256] inb') := by
  rw [View.readCov_eq_canon']
  funext x
  exact congrFun (canon_whole (s := S4x256x256) (e := .f32) inb w []) _

/-- A buffer loaded as a whole after its pieces were written. -/
theorem readCov_whole {sig' : RefSig} {κ : Kind} {sp : Space} {s : Shape} {e : EltTy} (v : View sig' κ sp s e) (L : List (View.Piece (Elt Ideal) s e))
    {off : Fin s.rank → ℕ} (inb : ∀ a, off a + s.size a ≤ s.size a) (y : s.Idx) :
    v.readCov L (Rect.unit off s.size inb).toLoadRect y = View.canon L y := by
  rw [View.readCov_eq_canon']
  refine congrArg (View.canon L) (funext fun a => Fin.ext ?_)
  have h1 := Rect.idx_unit_val off s.size inb y a
  have h2 := inb a
  exact h1.trans (by omega)

end Cert.KernelIdeal.Mlstm
-- ==== Proof.Block.lean ====
/-
  What the kernel keeps between grid points: a block's projection in one set of buffers, the memories of the heads in another; and how the
  projection of a block fills the first.
-/
module

public import proofs.«01_k».proof.Proof.State

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
open scoped BigOperators

/-! ### Loads of parts of a buffer -/

/-- A tile of 256 columns of a matrix, loaded. -/
abbrev cols {n m : ℕ} (e : EltTy) (X : (⟨2, ![n, m]⟩ : Shape).Idx → Elt Ideal e) (o : ℕ)
    (inb : ∀ a : Fin 2, (![0, o] : Fin 2 → ℕ) a + (![n, 256] : Fin 2 → ℕ) a ≤ (![n, m] : Fin 2 → ℕ) a) :
    (⟨2, ![n, 256]⟩ : Shape).Idx → Elt Ideal e :=
  View.ld (Val := Elt Ideal) (e' := e) (S := ⟨2, ![n, m]⟩) X (Rect.unit (s := ⟨2, ![n, m]⟩) ![0, o] ![n, 256] inb)

/-- A tile of rows of a matrix, loaded. -/
abbrev rows {n m : ℕ} (e : EltTy) (n' : ℕ) (X : (⟨2, ![n, m]⟩ : Shape).Idx → Elt Ideal e) (o : ℕ)
    (inb : ∀ a : Fin 2, (![o, 0] : Fin 2 → ℕ) a + (![n', m] : Fin 2 → ℕ) a ≤ (![n, m] : Fin 2 → ℕ) a) :
    (⟨2, ![n', m]⟩ : Shape).Idx → Elt Ideal e :=
  View.ld (Val := Elt Ideal) (e' := e) (S := ⟨2, ![n, m]⟩) X (Rect.unit (s := ⟨2, ![n, m]⟩) ![o, 0] ![n', m] inb)

/-- A slab of a stack of matrices, loaded. -/
abbrev slab (e : EltTy) (X : (⟨3, ![4, 256, 256]⟩ : Shape).Idx → Elt Ideal e) (o : ℕ)
    (inb : ∀ a : Fin 3, (![o, 0, 0] : Fin 3 → ℕ) a + (![1, 256, 256] : Fin 3 → ℕ) a ≤ (![4, 256, 256] : Fin 3 → ℕ) a) :
    (⟨3, ![1, 256, 256]⟩ : Shape).Idx → Elt Ideal e :=
  View.ld (Val := Elt Ideal) (e' := e) (S := ⟨3, ![4, 256, 256]⟩) X (Rect.unit (s := ⟨3, ![4, 256, 256]⟩) ![o, 0, 0] ![1, 256, 256] inb)

/-- An entry of a tile of columns. -/
theorem cols_at {n m o : ℕ} {e : EltTy} (X : (⟨2, ![n, m]⟩ : Shape).Idx → Elt Ideal e) (inb) (r : Fin n) (d : Fin 256) (j : Fin m)
    (hj : (j : ℕ) = o + d) : cols e X o inb (ix2 r d) = X (ix2 r j) :=
  View.ld_unit_apply_of (Val := Elt Ideal) (e := e) (S := ⟨2, ![n, m]⟩) X ![0, o] ![n, 256] inb (ix2 r d) (ix2 r j) (Fin.forall_fin_two.mpr ⟨(Nat.zero_add (r : ℕ)).symm, hj⟩)

/-- An entry of a tile of rows. -/
theorem rows_at {n n' m o : ℕ} {e : EltTy} (X : (⟨2, ![n, m]⟩ : Shape).Idx → Elt Ideal e) (inb) (r : Fin n') (d : Fin m) (j : Fin n)
    (hj : (j : ℕ) = o + r) : rows e n' X o inb (ix2 r d) = X (ix2 j d) :=
  View.ld_unit_apply_of (Val := Elt Ideal) (e := e) (S := ⟨2, ![n, m]⟩) X ![o, 0] ![n', m] inb (ix2 r d) (ix2 j d) (Fin.forall_fin_two.mpr ⟨hj, (Nat.zero_add (d : ℕ)).symm⟩)

/-- An entry of a slab. -/
theorem slab_at {o : ℕ} {e : EltTy} (X : (⟨3, ![4, 256, 256]⟩ : Shape).Idx → Elt Ideal e) (inb) (x y : Fin 256) (h : Fin 4)
    (hh : (h : ℕ) = o) : slab e X o inb (ix3 0 x y) = X (ix3 h x y) :=
  View.ld_unit_apply_of (Val := Elt Ideal) (e := e) (S := ⟨3, ![4, 256, 256]⟩) X ![o, 0, 0] ![1, 256, 256] inb (ix3 0 x y) (ix3 h x y) fun a => match a with
    | ⟨0, _⟩ => hh
    | ⟨1, _⟩ => (Nat.zero_add (x : ℕ)).symm
    | ⟨2, _⟩ => (Nat.zero_add (y : ℕ)).symm

/-! ### A block's projection -/

/-- The queries, scaled keys and values of a step, side by side. -/
def _root_.Mlstm.Inputs.qkv (I : Inputs) (β : Fin 4) (t : ℕ) (j : Fin 3072) : ℝ :=
  if 1024 ≤ (j : ℕ) ∧ (j : ℕ) < 2048 then I.p β t ⟨j, by omega⟩ * (1 / 16) else I.p β t ⟨j, by omega⟩

/-- A set of buffers holds the projection of the 256 steps from `T` on. -/
structure SetOK (I : Inputs) (β : Fin 4) (T : ℕ) (qkv : FVec Ideal S256x3072 .bf16) (gate : FVec Ideal S256x1024 .f32)
    (sm : FVec Ideal S256x128 .f32) (smt : FVec Ideal S16x256 .f32) : Prop where
  qkv : ∀ (r : Fin 256) (j : Fin 3072), qkv (ix2 r j) = ((I.qkv β (T + r) j : ℝ) : EReal)
  gate : ∀ (r : Fin 256) (j : Fin 1024), gate (ix2 r j) = (((I.seq β).og (T + r) j : ℝ) : EReal)
  sm : ∀ (r : Fin 256) (a : Fin 128) (l : Fin 8), (a : ℕ) = 64 + l → sm (ix2 r a) = ((I.p β (T + r) ⟨5120 + l, by omega⟩ : ℝ) : EReal)
  smt : ∀ (r : Fin 256) (a : Fin 16) (l : Fin 8), (a : ℕ) = l → smt (ix2 a r) = ((I.p β (T + r) ⟨5120 + l, by omega⟩ : ℝ) : EReal)

section
variable {I : Inputs} {β : Fin 4} {T : ℕ} {qkv : FVec Ideal S256x3072 .bf16} {gate : FVec Ideal S256x1024 .f32}
    {sm : FVec Ideal S256x128 .f32} {smt : FVec Ideal S16x256 .f32}

/-- A head's queries, loaded. -/
theorem SetOK.q (S : SetOK I β T qkv gate sm smt) (h : Fin 4) {o : ℕ} (inb) (ho : o = 256 * (h : ℕ)) (r d : Fin 256) :
    cols .bf16 qkv o inb (ix2 r d) = (((I.seq β).q h (T + r) d : ℝ) : EReal) := by
  refine (cols_at (e := .bf16) qkv inb r d ⟨256 * h + d, by omega⟩ (congrArg (· + (d : ℕ)) ho.symm)).trans ((S.qkv _ _).trans ?_)
  rw [Inputs.qkv, if_neg (by show ¬(1024 ≤ 256 * (h : ℕ) + d ∧ _); omega)]
  rfl

/-- A head's scaled keys, loaded. -/
theorem SetOK.k (S : SetOK I β T qkv gate sm smt) (h : Fin 4) {o : ℕ} (inb) (ho : o = 1024 + 256 * (h : ℕ)) (r d : Fin 256) :
    cols .bf16 qkv o inb (ix2 r d) = (((I.seq β).k h (T + r) d : ℝ) : EReal) := by
  refine (cols_at (e := .bf16) qkv inb r d ⟨1024 + (256 * h + d), by omega⟩ (by subst ho; exact (Nat.add_assoc _ _ _).symm)).trans ((S.qkv _ _).trans ?_)
  rw [Inputs.qkv, if_pos (by constructor <;> simp only [] <;> omega)]
  rfl

/-- A head's values, loaded. -/
theorem SetOK.v (S : SetOK I β T qkv gate sm smt) (h : Fin 4) {o : ℕ} (inb) (ho : o = 2048 + 256 * (h : ℕ)) (r d : Fin 256) :
    cols .bf16 qkv o inb (ix2 r d) = (((I.seq β).v h (T + r) d : ℝ) : EReal) := by
  refine (cols_at (e := .bf16) qkv inb r d ⟨2048 + (256 * h + d), by omega⟩ (by subst ho; exact (Nat.add_assoc _ _ _).symm)).trans ((S.qkv _ _).trans ?_)
  rw [Inputs.qkv, if_neg (by simp only []; omega)]
  rfl

/-- The gates' pre-activations, with the biases added. -/
theorem SetOK.gates (S : SetOK I β T qkv gate sm smt) {b : FVec Ideal S1x128 .f32} {bt : FVec Ideal S16x1 .f32}
    (hb : ∀ (a : Fin 128) (l : Fin 8), (a : ℕ) = 64 + l → b (ix2 0 a) = ((I.b l : ℝ) : EReal))
    (hbt : ∀ (a : Fin 16) (l : Fin 8), (a : ℕ) = l → bt (ix2 a 0) = ((I.b l : ℝ) : EReal)) :
    GatesOK (I.seq β) T (k0_pay26 (F := Ideal) sm b) (k0_pay27 (F := Ideal) smt bt) := by
  have col : ∀ (r : Fin 256) (a : Fin 128) (l : Fin 8), (a : ℕ) = 64 + l →
      k0_pay26 (F := Ideal) sm b (ix2 r a) = ((I.p β (T + r) ⟨5120 + l, by omega⟩ + I.b l : ℝ) : EReal) := by
    intro r a l ha
    rw [EReal.coe_add, ← S.sm r a l ha, ← hb a l ha]
    pointwise [k0_pay26]
  have row : ∀ (r : Fin 256) (a : Fin 16) (l : Fin 8), (a : ℕ) = l →
      k0_pay27 (F := Ideal) smt bt (ix2 a r) = ((I.p β (T + r) ⟨5120 + l, by omega⟩ + I.b l : ℝ) : EReal) := by
    intro r a l ha
    rw [EReal.coe_add, ← S.smt r a l ha, ← hbt a l ha]
    pointwise [k0_pay27]
  exact
    { i := fun h r => col r _ ⟨h, by omega⟩ rfl
      f := fun h r => (col r _ ⟨4 + h, by omega⟩ (by show 68 + (h : ℕ) = 64 + (4 + h); omega)).trans (by
        refine congrArg _ (congrArg₂ _ (congrArg _ (Fin.ext ?_)) rfl)
        show 5120 + (4 + (h : ℕ)) = 5124 + h
        omega)
      it := fun h r => row r _ ⟨h, by omega⟩ rfl
      ft := fun h r => (row r _ ⟨4 + h, by omega⟩ rfl).trans (by
        refine congrArg _ (congrArg₂ _ (congrArg _ (Fin.ext ?_)) rfl)
        show 5120 + (4 + (h : ℕ)) = 5124 + h
        omega) }

end

section
variable {I : Inputs} {β : Fin 4} {T : ℕ} {X : FVec Ideal S256x2048 .f32} {G : FVec Ideal S1x2048 .f32} {W : FVec Ideal S5120x2048 .bf16}
    {Ws : FVec Ideal S2048x128 .bf16} {Wst : FVec Ideal S128x2048 .bf16}

/-- A block's operands of the projection: its rows, the norm's gain, the weights. -/
structure Operands (I : Inputs) (β : Fin 4) (T : ℕ) (X : FVec Ideal S256x2048 .f32) (G : FVec Ideal S1x2048 .f32) (W : FVec Ideal S5120x2048 .bf16)
    (Ws : FVec Ideal S2048x128 .bf16) (Wst : FVec Ideal S128x2048 .bf16) : Prop where
  x : ∀ r d, X (ix2 r d) = ((I.x β (T + r) d : ℝ) : EReal)
  g : ∀ d, G (ix2 0 d) = ((I.g d : ℝ) : EReal)
  w : ∀ (j : Fin 5120) d, W (ix2 j d) = ((I.w ⟨j, by omega⟩ d : ℝ) : EReal)
  ws : ∀ d (a : Fin 128) (l : Fin 8), (a : ℕ) = 64 + l → Ws (ix2 d a) = ((I.w ⟨5120 + l, by omega⟩ d : ℝ) : EReal)
  wst : ∀ d (a : Fin 128) (l : Fin 8), (a : ℕ) = 64 + l → Wst (ix2 a d) = ((I.w ⟨5120 + l, by omega⟩ d : ℝ) : EReal)

/-- The normalised rows of the block. -/
theorem Operands.u (O : Operands I β T X G W Ws Wst) (r : Fin 256) (d : Fin 2048) :
    k0_pay25 (F := Ideal) X G (ix2 r d) = ((I.u β (T + r) d : ℝ) : EReal) :=
  u_at (fun r => I.x β (T + r)) I.g X G O.x O.g r d

/-- A tile of the weights' rows. -/
theorem Operands.wrows (O : Operands I β T X G W Ws Wst) {o : ℕ} (inb) (ho : o + 256 ≤ 5120) (j : Fin 256) (d : Fin 2048) :
    rows .bf16 256 W o inb (ix2 j d) = ((I.w ⟨o + j, by omega⟩ d : ℝ) : EReal) :=
  (rows_at (e := .bf16) W inb j d ⟨o + j, by omega⟩ rfl).trans (O.w _ d)

/-- A tile of queries or values. -/
theorem Operands.tile (O : Operands I β T X G W Ws Wst) {o : ℕ} (inb) (ho : o + 256 ≤ 1024 ∨ 2048 ≤ o ∧ o + 256 ≤ 5120)
    (r d : Fin 256) (j : Fin 3072) (hj : (j : ℕ) = o + d) :
    k0_pay58 (F := Ideal) (k0_pay25 (F := Ideal) X G) (rows .bf16 256 W o inb) (ix2 r d)
      = ((I.qkv β (T + r) j : ℝ) : EReal) := by
  refine (tile_at _ _ O.u _ _ (O.wrows inb (by omega)) r d).trans ?_
  rw [Inputs.qkv, if_neg (by omega), Inputs.p]
  simp only [hj]

/-- A tile of keys. -/
theorem Operands.ktile (O : Operands I β T X G W Ws Wst) {o : ℕ} (inb) (ho : 1024 ≤ o ∧ o + 256 ≤ 2048)
    (r d : Fin 256) (j : Fin 3072) (hj : (j : ℕ) = o + d) :
    k0_pay84 (F := Ideal) (k0_pay25 (F := Ideal) X G) (rows .bf16 256 W o inb) (ix2 r d)
      = ((I.qkv β (T + r) j : ℝ) : EReal) := by
  refine (ktile_at _ _ O.u _ _ (O.wrows inb (by omega)) r d).trans ?_
  rw [Inputs.qkv, if_pos (by omega), Inputs.p]
  simp only [hj]

/-- A tile of output gates. -/
theorem Operands.gtile (O : Operands I β T X G W Ws Wst) {o o' o'' : ℕ} (inb inb') (ho : o + 256 ≤ 1024) (h' : o' = 3072 + o) (h'' : o'' = 4096 + o)
    (r d : Fin 256) (j : Fin 1024) (hj : (j : ℕ) = o + d) :
    k0_pay144 (F := Ideal) (k0_pay25 (F := Ideal) X G) (rows .bf16 256 W o' inb)
      (k0_pay25 (F := Ideal) X G) (rows .bf16 256 W o'' inb') (ix2 r d)
      = (((I.seq β).og (T + r) j : ℝ) : EReal) := by
  refine (gtile_at _ _ O.u _ _ _ _ (O.wrows inb (by omega)) (O.wrows inb' (by omega)) r d).trans ?_
  subst h' h''
  simp only [Inputs.seq, Inputs.p, hj, Nat.add_assoc]

/-- The gates' columns of the block. -/
theorem Operands.small (O : Operands I β T X G W Ws Wst) (r : Fin 256) (a : Fin 128) (l : Fin 8) (ha : (a : ℕ) = 64 + l) :
    k0_pay52 (F := Ideal) (k0_pay25 (F := Ideal) X G) Ws (ix2 r a) = ((I.p β (T + r) ⟨5120 + l, by omega⟩ : ℝ) : EReal) :=
  small_at _ _ O.u Ws a _ (fun d => O.ws d a l ha) r

/-- The gates' rows of the block. -/
theorem Operands.smallT (O : Operands I β T X G W Ws Wst) (inb) (r : Fin 256) (a : Fin 16) (l : Fin 8) (ha : (a : ℕ) = l) :
    k0_pay53 (F := Ideal) (rows .bf16 16 Wst 64 inb) (k0_pay25 (F := Ideal) X G) (ix2 a r)
      = ((I.p β (T + r) ⟨5120 + l, by omega⟩ : ℝ) : EReal) :=
  smallT_at _ _ O.u _ a _ (fun d => (rows_at (e := .bf16) Wst inb a d ⟨64 + a, by omega⟩ rfl).trans
    (O.wst d _ l (by show 64 + (a : ℕ) = 64 + l; rw [ha]))) r

end

/-! ### The memories -/

/-- The stabilisers of the heads in the rows of a matrix: its other rows are 0. -/
def _root_.Cert.KernelIdeal.Mlstm.Seq.stabs (S : Seq) (T : ℕ) (h : Fin 8) : EReal :=
  if hh : (h : ℕ) < 4 then ((stab (S.lf ⟨h, hh⟩) (S.ig ⟨h, hh⟩) T : ℝ) : EReal) else 0

/-- The memories of the heads before step `T`. -/
structure StateOK (S : Seq) (T : ℕ) (C : FVec Ideal S4x256x256 .f32) (N : FVec Ideal S4x256 .f32) (M : FVec Ideal S8x128 .f32) : Prop where
  C : ∀ (h : Fin 4) (x y : Fin 256), C (ix3 h x y) = ((memC (S.lf h) (S.ig h) (S.k h) (S.v h) T x y : ℝ) : EReal)
  N : ∀ (h : Fin 4) (x : Fin 256), N (ix2 h x) = ((memN (S.lf h) (S.ig h) (S.k h) T x : ℝ) : EReal)
  M : ∀ (h : Fin 8) (l : Fin 128), M (ix2 h l) = S.stabs T h

/-- A head's memory, loaded. -/
theorem StateOK.c {S : Seq} {T : ℕ} {C : FVec Ideal S4x256x256 .f32} {N : FVec Ideal S4x256 .f32} {M : FVec Ideal S8x128 .f32}
    (H : StateOK S T C N M) (h : Fin 4) {o : ℕ} (inb) (ho : (h : ℕ) = o) (x y : Fin 256) :
    slab .f32 C o inb (ix3 0 x y)
      = ((memC (S.lf h) (S.ig h) (S.k h) (S.v h) T x y : ℝ) : EReal) :=
  (slab_at (e := .f32) C inb x y h ho).trans (H.C h x y)

/-- The memories before the first step are 0. -/
theorem zero_state (S : Seq) : StateOK S 0 (k0_pay5 (F := Ideal)) (k0_pay6 (F := Ideal)) (k0_pay7 (F := Ideal)) where
  C h x y := by
    refine Eq.trans (b := 0) ?_ ?_
    · pointwise [k0_pay5]
    · simp [memC]
  N h x := by
    refine Eq.trans (b := 0) ?_ ?_
    · pointwise [k0_pay6]
    · simp [memN]
  M h l := by
    refine Eq.trans (b := 0) ?_ ?_
    · pointwise [k0_pay7]
    · unfold Seq.stabs
      split
      · simp [stab, cumBefore, peak]
      · rfl

/-! ### The output rows -/

/-- The output row of a step: the heads' hidden vectors side by side, normalised, times their gains and the output gates. -/
def outRow (S : Seq) (T : ℕ) (gh : FVec Ideal S1x1024 .f32) (r : Fin 256) (j : Fin 1024) : EReal :=
  ((rmsn (hid (S.lf ⟨j / 256, by omega⟩) (S.ig ⟨j / 256, by omega⟩) (S.q ⟨j / 256, by omega⟩) (S.k ⟨j / 256, by omega⟩) (S.v ⟨j / 256, by omega⟩)
    (T + r)) ⟨j % 256, by omega⟩ : ℝ) : EReal) * gh (ix2 0 j) * ((S.og (T + r) j : ℝ) : EReal)

/-- A head's tile of the output rows. -/
theorem SetOK.out {I : Inputs} {β : Fin 4} {T : ℕ} {qkv : FVec Ideal S256x3072 .bf16} {gate : FVec Ideal S256x1024 .f32}
    {sm : FVec Ideal S256x128 .f32} {smt : FVec Ideal S16x256 .f32} (S : SetOK I β T qkv gate sm smt) (gh : FVec Ideal S1x1024 .f32)
    (h : Fin 4) {o : ℕ} (inb inb') (ho : o = 256 * (h : ℕ))
    {B IG : FVec Ideal S256x1 .f32} {BR IGR : FVec Ideal S1x256 .f32} {M : FVec Ideal S1x1 .f32}
    {Q K V : FVec Ideal S256x256 .bf16} {C : FVec Ideal S256x256 .f32} {N : FVec Ideal S1x256 .f32}
    (H : Head ((I.seq β).lf h) ((I.seq β).ig h) ((I.seq β).q h) ((I.seq β).k h) ((I.seq β).v h) T B IG BR IGR M Q K V C N)
    (r d : Fin 256) (j : Fin 1024) (hj : (j : ℕ) = o + d) :
    headOut B BR IGR M Q K V C N (cols .f32 gh o inb)
      (cols .f32 gate o inb') (ix2 r d) = outRow (I.seq β) T gh r j := by
  refine (H.out _ _ r d).trans ?_
  have e1 := cols_at (e := .f32) gh inb 0 d j hj
  have e2 := (cols_at (e := .f32) gate inb' r d j hj).trans (S.gate r j)
  have eh : (⟨(j : ℕ) / 256, by omega⟩ : Fin 4) = h := Fin.ext (by show (j : ℕ) / 256 = h; omega)
  have ed : (⟨(j : ℕ) % 256, by omega⟩ : Fin 256) = d := Fin.ext (by show (j : ℕ) % 256 = d; omega)
  unfold outRow
  rw [eh, ed]
  exact congrArg₂ (· * ·) (congrArg (_ * ·) e1) e2

end Cert.KernelIdeal.Mlstm
-- ==== Proof.Step.lean ====
/-
  A grid point of the kernel over any buffers: a block's projection fills one set of them; a chunk of 256 steps reads the other and
  advances the memories of the four heads.
-/
module

public import proofs.«01_k».proof.Proof.Block

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
open scoped BigOperators

section
variable {I : Inputs} {β : Fin 4} {T : ℕ} {X : FVec Ideal S256x2048 .f32} {G : FVec Ideal S1x2048 .f32} {W : FVec Ideal S5120x2048 .bf16}
    {Ws : FVec Ideal S2048x128 .bf16} {Wst : FVec Ideal S128x2048 .bf16}

/-- The buffers as the projection of a block leaves them. -/
theorem Operands.fill (O : Operands I β T X G W Ws Wst) : SetOK I β T
    (View.canon [
      (⟨Rect.unit (s := S256x3072) ![0, 2816] S256x256.size inb_S256x3072_S256x256_0_2816,
        k0_pay58 (F := Ideal) (k0_pay25 (F := Ideal) X G) (rows .bf16 256 W 2816 inb_S5120x2048_S256x2048_2816_0)⟩ : View.Piece (Elt Ideal) S256x3072 .bf16),
      ⟨Rect.unit (s := S256x3072) ![0, 2560] S256x256.size inb_S256x3072_S256x256_0_2560,
        k0_pay58 (F := Ideal) (k0_pay25 (F := Ideal) X G) (rows .bf16 256 W 2560 inb_S5120x2048_S256x2048_2560_0)⟩,
      ⟨Rect.unit (s := S256x3072) ![0, 2304] S256x256.size inb_S256x3072_S256x256_0_2304,
        k0_pay58 (F := Ideal) (k0_pay25 (F := Ideal) X G) (rows .bf16 256 W 2304 inb_S5120x2048_S256x2048_2304_0)⟩,
      ⟨Rect.unit (s := S256x3072) ![0, 2048] S256x256.size inb_S256x3072_S256x256_0_2048,
        k0_pay58 (F := Ideal) (k0_pay25 (F := Ideal) X G) (rows .bf16 256 W 2048 inb_S5120x2048_S256x2048_2048_0)⟩,
      ⟨Rect.unit (s := S256x3072) ![0, 1792] S256x256.size inb_S256x3072_S256x256_0_1792,
        k0_pay84 (F := Ideal) (k0_pay25 (F := Ideal) X G) (rows .bf16 256 W 1792 inb_S5120x2048_S256x2048_1792_0)⟩,
      ⟨Rect.unit (s := S256x3072) ![0, 1536] S256x256.size inb_S256x3072_S256x256_0_1536,
        k0_pay84 (F := Ideal) (k0_pay25 (F := Ideal) X G) (rows .bf16 256 W 1536 inb_S5120x2048_S256x2048_1536_0)⟩,
      ⟨Rect.unit (s := S256x3072) ![0, 1280] S256x256.size inb_S256x3072_S256x256_0_1280,
        k0_pay84 (F := Ideal) (k0_pay25 (F := Ideal) X G) (rows .bf16 256 W 1280 inb_S5120x2048_S256x2048_1280_0)⟩,
      ⟨Rect.unit (s := S256x3072) ![0, 1024] S256x256.size inb_S256x3072_S256x256_0_1024,
        k0_pay84 (F := Ideal) (k0_pay25 (F := Ideal) X G) (rows .bf16 256 W 1024 inb_S5120x2048_S256x2048_1024_0)⟩,
      ⟨Rect.unit (s := S256x3072) ![0, 768] S256x256.size inb_S256x3072_S256x256_0_768,
        k0_pay58 (F := Ideal) (k0_pay25 (F := Ideal) X G) (rows .bf16 256 W 768 inb_S5120x2048_S256x2048_768_0)⟩,
      ⟨Rect.unit (s := S256x3072) ![0, 512] S256x256.size inb_S256x3072_S256x256_0_512,
        k0_pay58 (F := Ideal) (k0_pay25 (F := Ideal) X G) (rows .bf16 256 W 512 inb_S5120x2048_S256x2048_512_0)⟩,
      ⟨Rect.unit (s := S256x3072) ![0, 256] S256x256.size inb_S256x3072_S256x256_0_256,
        k0_pay58 (F := Ideal) (k0_pay25 (F := Ideal) X G) (rows .bf16 256 W 256 inb_S5120x2048_S256x2048_256_0)⟩,
      ⟨Rect.unit (s := S256x3072) ![0, 0] S256x256.size inb_S256x3072_S256x256_0_0,
        k0_pay58 (F := Ideal) (k0_pay25 (F := Ideal) X G) (rows .bf16 256 W 0 inb_S5120x2048_S256x2048_0_0)⟩])
    (View.canon [
      (⟨Rect.unit (s := S256x1024) ![0, 768] S256x256.size inb_S256x1024_S256x256_0_768,
        k0_pay144 (F := Ideal) (k0_pay25 (F := Ideal) X G) (rows .bf16 256 W 3840 inb_S5120x2048_S256x2048_3840_0) (k0_pay25 (F := Ideal) X G)
          (rows .bf16 256 W 4864 inb_S5120x2048_S256x2048_4864_0)⟩ : View.Piece (Elt Ideal) S256x1024 .f32),
      ⟨Rect.unit (s := S256x1024) ![0, 512] S256x256.size inb_S256x1024_S256x256_0_512,
        k0_pay144 (F := Ideal) (k0_pay25 (F := Ideal) X G) (rows .bf16 256 W 3584 inb_S5120x2048_S256x2048_3584_0) (k0_pay25 (F := Ideal) X G)
          (rows .bf16 256 W 4608 inb_S5120x2048_S256x2048_4608_0)⟩,
      ⟨Rect.unit (s := S256x1024) ![0, 256] S256x256.size inb_S256x1024_S256x256_0_256,
        k0_pay144 (F := Ideal) (k0_pay25 (F := Ideal) X G) (rows .bf16 256 W 3328 inb_S5120x2048_S256x2048_3328_0) (k0_pay25 (F := Ideal) X G)
          (rows .bf16 256 W 4352 inb_S5120x2048_S256x2048_4352_0)⟩,
      ⟨Rect.unit (s := S256x1024) ![0, 0] S256x256.size inb_S256x1024_S256x256_0_0,
        k0_pay144 (F := Ideal) (k0_pay25 (F := Ideal) X G) (rows .bf16 256 W 3072 inb_S5120x2048_S256x2048_3072_0) (k0_pay25 (F := Ideal) X G)
          (rows .bf16 256 W 4096 inb_S5120x2048_S256x2048_4096_0)⟩])
    (k0_pay52 (F := Ideal) (k0_pay25 (F := Ideal) X G) Ws)
    (k0_pay53 (F := Ideal) (rows .bf16 16 Wst 64 inb_S128x2048_S16x2048_64_0) (k0_pay25 (F := Ideal) X G)) where
  qkv := canon_twelve (fun r j => ((I.qkv β (T + r) j : ℝ) : EReal))
      (O.tile (o := 2816) _ (by decide))
      (O.tile (o := 2560) _ (by decide))
      (O.tile (o := 2304) _ (by decide))
      (O.tile (o := 2048) _ (by decide))
      (O.ktile (o := 1792) _ (by decide))
      (O.ktile (o := 1536) _ (by decide))
      (O.ktile (o := 1280) _ (by decide))
      (O.ktile (o := 1024) _ (by decide))
      (O.tile (o := 768) _ (by decide))
      (O.tile (o := 512) _ (by decide))
      (O.tile (o := 256) _ (by decide))
      (O.tile (o := 0) _ (by decide))
  gate := canon_four (e := .f32) (fun r j => (((I.seq β).og (T + r) j : ℝ) : EReal))
      (O.gtile (o := 768) _ _ (by decide) rfl rfl)
      (O.gtile (o := 512) _ _ (by decide) rfl rfl)
      (O.gtile (o := 256) _ _ (by decide) rfl rfl)
      (O.gtile (o := 0) _ _ (by decide) rfl rfl)
  sm := O.small
  smt := O.smallT _

end

section
variable {I : Inputs} {β : Fin 4} {T : ℕ} {qkv : FVec Ideal S256x3072 .bf16} {gate : FVec Ideal S256x1024 .f32}
    {sm : FVec Ideal S256x128 .f32} {smt : FVec Ideal S16x256 .f32} (S : SetOK I β T qkv gate sm smt)
    {b : FVec Ideal S1x128 .f32} {bt : FVec Ideal S16x1 .f32}
    (hb : ∀ (a : Fin 128) (l : Fin 8), (a : ℕ) = 64 + l → b (ix2 0 a) = ((I.b l : ℝ) : EReal))
    (hbt : ∀ (a : Fin 16) (l : Fin 8), (a : ℕ) = l → bt (ix2 a 0) = ((I.b l : ℝ) : EReal))
    {C : FVec Ideal S4x256x256 .f32} {N : FVec Ideal S4x256 .f32} {M : FVec Ideal S8x128 .f32} (St : StateOK (I.seq β) T C N M)

/-- Head 0 of the chunk: its operands loaded from the buffers. -/
def chunk0 := head0 (S.gates hb hbt) (S.q 0 inb_S256x3072_S256x256_0_0 rfl) (S.k 0 inb_S256x3072_S256x256_0_1024 rfl)
  (S.v 0 inb_S256x3072_S256x256_0_2048 rfl) (St.c 0 inb_S4x256x256_S1x256x256_0_0_0 rfl) (St.N 0) (St.M 0 0)

/-- Head 1 of the chunk: its operands loaded from the buffers. -/
def chunk1 := head1 (S.gates hb hbt) (S.q 1 inb_S256x3072_S256x256_0_256 rfl) (S.k 1 inb_S256x3072_S256x256_0_1280 rfl)
  (S.v 1 inb_S256x3072_S256x256_0_2304 rfl) (St.c 1 inb_S4x256x256_S1x256x256_1_0_0 rfl) (St.N 1) (St.M 1 0)

/-- Head 2 of the chunk: its operands loaded from the buffers. -/
def chunk2 := head2 (S.gates hb hbt) (S.q 2 inb_S256x3072_S256x256_0_512 rfl) (S.k 2 inb_S256x3072_S256x256_0_1536 rfl)
  (S.v 2 inb_S256x3072_S256x256_0_2560 rfl) (St.c 2 inb_S4x256x256_S1x256x256_2_0_0 rfl) (St.N 2) (St.M 2 0)

/-- Head 3 of the chunk: its operands loaded from the buffers. -/
def chunk3 := head3 (S.gates hb hbt) (S.q 3 inb_S256x3072_S256x256_0_768 rfl) (S.k 3 inb_S256x3072_S256x256_0_1792 rfl)
  (S.v 3 inb_S256x3072_S256x256_0_2816 rfl) (St.c 3 inb_S4x256x256_S1x256x256_3_0_0 rfl) (St.N 3) (St.M 3 0)

/-- The matrix memories after the chunk: four slabs written. -/
def nextC {i3 i2 i1 i0} {L} := canon_slabs (e := .f32) (i3 := i3) (i2 := i2) (i1 := i1) (i0 := i0) (L := L)
  (fun h x y => ((memC ((I.seq β).lf h) ((I.seq β).ig h) ((I.seq β).k h) ((I.seq β).v h) (T + 256) x y : ℝ) : EReal))
  (chunk3 S hb hbt St).memory (chunk2 S hb hbt St).memory (chunk1 S hb hbt St).memory (chunk0 S hb hbt St).memory

/-- The normalisers after the chunk: four rows written. -/
def nextN {i3 i2 i1 i0} {L} := canon_rows (e := .f32) (i3 := i3) (i2 := i2) (i1 := i1) (i0 := i0) (L := L)
  (fun h x => ((memN ((I.seq β).lf h) ((I.seq β).ig h) ((I.seq β).k h) (T + 256) x : ℝ) : EReal))
  (chunk3 S hb hbt St).normaliser (chunk2 S hb hbt St).normaliser (chunk1 S hb hbt St).normaliser (chunk0 S hb hbt St).normaliser

/-- The stabilisers after the chunk: four rows written over what the matrix held. -/
def nextM {sig' : RefSig} {κ : Kind} {sp : Space} {v : View sig' κ sp S8x128 .f32} {f : v.ty.Contents (Elt Ideal)} {i3 i2 i1 i0} {L} :=
  read_rows (v := v) (f := f) (i3 := i3) (i2 := i2) (i1 := i1) (i0 := i0) (L := L) (fun h _ => (I.seq β).stabs (T + 256) h)
  (chunk3 S hb hbt St).stabiliser (chunk2 S hb hbt St).stabiliser (chunk1 S hb hbt St).stabiliser (chunk0 S hb hbt St).stabiliser

/-- The stabilisers after the chunk: four rows written last. -/
def nextM' {i3 i2 i1 i0} {L} := canon_eight (i3 := i3) (i2 := i2) (i1 := i1) (i0 := i0) (L := L) (fun h _ => (I.seq β).stabs (T + 256) h)
  (chunk3 S hb hbt St).stabiliser (chunk2 S hb hbt St).stabiliser (chunk1 S hb hbt St).stabiliser (chunk0 S hb hbt St).stabiliser

/-- The output rows of the chunk: four tiles written. -/
def nextOut (gh : FVec Ideal S1x1024 .f32) {i3 i2 i1 i0} {L} := canon_four (e := .bf16) (i3 := i3) (i2 := i2) (i1 := i1) (i0 := i0) (L := L)
  (outRow (I.seq β) T gh)
  (S.out gh 3 inb_S1x1024_S1x256_0_768 inb_S256x1024_S256x256_0_768 rfl (chunk3 S hb hbt St))
  (S.out gh 2 inb_S1x1024_S1x256_0_512 inb_S256x1024_S256x256_0_512 rfl (chunk2 S hb hbt St))
  (S.out gh 1 inb_S1x1024_S1x256_0_256 inb_S256x1024_S256x256_0_256 rfl (chunk1 S hb hbt St))
  (S.out gh 0 inb_S1x1024_S1x256_0_0 inb_S256x1024_S256x256_0_0 rfl (chunk0 S hb hbt St))

end
end Cert.KernelIdeal.Mlstm
-- ==== Proof.Cases.lean ====
/-
  What each grid point leaves, by its kind: the set of buffers its projection fills, the memories and the output rows its chunk leaves.
-/
module

public import proofs.«01_k».proof.Proof.Gen.KernelIdeal.Value
public import proofs.«01_k».proof.Proof.Host
public import proofs.«01_k».proof.Proof.Step
public import Idealize.ShloMosaic.Lib.Pipeline.ReadBack

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
variable (m : (ℓ : Loc nD τ sig) → Buf (Elt Ideal) ℓ) (c : Dev nD) (I : Inputs)

/-- After grid point `n`, the first set of buffers holds the projection of the 256 steps from `T` on. -/
def SetA (β : Fin 4) (T n : ℕ) (hn : n < cfg0.N) : Prop :=
  SetOK I β T (outsAt0 m c n hn).2.2.2.2.1 (outsAt0 m c n hn).2.2.2.2.2.2.1
    (outsAt0 m c n hn).2.2.2.2.2.2.2.2.1 (outsAt0 m c n hn).2.2.2.2.2.2.2.2.2.2.1

/-- After grid point `n`, the second set of buffers holds the projection of the 256 steps from `T` on. -/
def SetB (β : Fin 4) (T n : ℕ) (hn : n < cfg0.N) : Prop :=
  SetOK I β T (outsAt0 m c n hn).2.2.2.2.2.1 (outsAt0 m c n hn).2.2.2.2.2.2.2.1
    (outsAt0 m c n hn).2.2.2.2.2.2.2.2.2.1 (outsAt0 m c n hn).2.2.2.2.2.2.2.2.2.2.2.1

/-- After grid point `n`, the memories are those before step `T`. -/
def Mem (β : Fin 4) (T n : ℕ) (hn : n < cfg0.N) : Prop :=
  StateOK (I.seq β) T (outsAt0 m c n hn).2.2.2.2.2.2.2.2.2.2.2.2.1 (outsAt0 m c n hn).2.2.2.2.2.2.2.2.2.2.2.2.2.1
    (outsAt0 m c n hn).2.2.2.2.2.2.2.2.2.2.2.2.2.2

/-- After grid point `n`, the output block holds the rows of the 256 steps from `T` on. -/
def Out (β : Fin 4) (T n : ℕ) (hn : n < cfg0.N) : Prop :=
  ∀ (r : Fin 256) (j : Fin 1024), (outsAt0 m c n hn).1 (ix2 r j)
    = outRow (I.seq β) T (m ((c : Thread nD τ).loc main_arg4) : FVec Ideal S1x1024 .f32) r j

variable {m c I}

/-- The operands of the projection at a grid point. -/
theorem operands (R : Reals m I c) (t : Fin cfg0.N) {β : Fin 4} {n : ℕ} (hn : n < 8) (hb : min t.val 31 = 8 * (β : ℕ) + n) :
    Operands I β (256 * n) (iblk m c 0 t) (iblk m c 1 t) (X0_2 m c t) (iblk m c 3 t) (iblk m c 4 t) where
  x r d := block_x R t r d β n hn hb
  g d := block_g R t d
  w j d := block_w R t j d
  ws d a l ha := block_small R t d a l ha
  wst d a l ha := block_smallT R t d a l ha

/-- The rows of the stabilisers' matrix that belong to no head are 0 whatever the step. -/
theorem stabs_rest (S : Seq) (T T' : ℕ) (h : Fin 8) (hh : 4 ≤ (h : ℕ)) : S.stabs T h = S.stabs T' h := by
  simp only [Seq.stabs, dif_neg (Nat.not_lt.mpr hh)]

/-- The memories written out: an entry. -/
theorem pay22_at (X : FVec Ideal S4x256x256 .f32) (h : Fin 4) (x y : Fin 256) : k0_pay22 (F := Ideal) X (ix4 0 h x y) = X (ix3 h x y) := by
  pointwise [k0_pay22]

/-- The normalisers written out: an entry. -/
theorem pay23_at (X : FVec Ideal S4x256 .f32) (h : Fin 4) (x : Fin 256) : k0_pay23 (F := Ideal) X (ix3 0 h x) = X (ix2 h x) := by
  pointwise [k0_pay23]

/-- The stabilisers written out: an entry. -/
theorem pay24_at (X : FVec Ideal S8x128 .f32) (h : Fin 8) (x : Fin 128) : k0_pay24 (F := Ideal) X (ix3 0 h x) = X (ix2 h x) := by
  pointwise [k0_pay24]

/-- The output rows read the heads' gains only. -/
theorem outRow_block (R : Reals m I c) (t : Fin cfg0.N) (S : Seq) (T : ℕ) (r : Fin 256) (j : Fin 1024) :
    outRow S T (iblk m c 7 t) r j = outRow S T (m ((c : Thread nD τ).loc main_arg4) : FVec Ideal S1x1024 .f32) r j := by
  unfold outRow
  rw [block_h R t j]

section
variable (t : Fin cfg0.N)
  (h0 : t.val % 33 = 0) (h1 : (t.val % 33 = 0 ∨ t.val % 33 = 1 ∨ t.val % 33 = 9 ∨ t.val % 33 = 17 ∨ t.val % 33 = 25))
  (h2 : t.val % 2 = 0) (h3 : ¬t.val % 2 = 1)
  (h4 : ¬(t.val % 33 = 8 ∨ t.val % 33 = 16 ∨ t.val % 33 = 24 ∨ t.val % 33 = 32))
include h0 h1 h2 h3 h4

/-- At the first point, the set filled. -/
theorem set_A (R : Reals m I c) {β : Fin 4} {n : ℕ} (hn : n < 8) (hb : min t.val 31 = 8 * (β : ℕ) + n) :
    SetA m c I β (256 * n) t.val t.isLt := by
  have S := (operands R t hn hb).fill
  unfold SetA
  rw [outsAt0_A m c t h0 h1 h2 h3 h4]
  constructor
  · intro r j
    frame_out
    exact S.qkv r j
  · intro r j
    frame_out
    exact S.gate r j
  · intro r a l ha
    frame_out
    exact S.sm r a l ha
  · intro r a l ha
    frame_out
    exact S.smt r a l ha

end

section
variable (t : Fin cfg0.N)
  (h0 : ¬t.val % 33 = 0) (h1 : (t.val % 33 = 0 ∨ t.val % 33 = 1 ∨ t.val % 33 = 9 ∨ t.val % 33 = 17 ∨ t.val % 33 = 25))
  (h2 : ¬t.val % 2 = 0) (h3 : t.val % 2 = 1)
  (h4 : ¬(t.val % 33 = 8 ∨ t.val % 33 = 16 ∨ t.val % 33 = 24 ∨ t.val % 33 = 32))
include h0 h1 h2 h3 h4

/-- At an odd point that begins a batch, the set filled. -/
theorem set_B (R : Reals m I c) {β : Fin 4} {n : ℕ} (hn : n < 8) (hb : min t.val 31 = 8 * (β : ℕ) + n) :
    SetB m c I β (256 * n) t.val t.isLt := by
  have S := (operands R t hn hb).fill
  unfold SetB
  rw [outsAt0_B m c t h0 h1 h2 h3 h4]
  constructor
  · intro r j
    frame_out
    exact S.qkv r j
  · intro r j
    frame_out
    exact S.gate r j
  · intro r a l ha
    frame_out
    exact S.sm r a l ha
  · intro r a l ha
    frame_out
    exact S.smt r a l ha

/-- At an odd point that begins a batch, the memories the chunk leaves. -/
theorem mem_B (R : Reals m I c) {β : Fin 4} {hp} (S : SetA m c I β 0 (t.val - 1) hp) :
    Mem m c I β (0 + 256) t.val t.isLt := by
  unfold SetA at S
  unfold Mem
  rw [outsAt0_B m c t h0 h1 h2 h3 h4]
  constructor
  · intro h x y
    frame_out
    simp only [read_unread_whole, readCov_slab]
    exact nextC S (block_bias R t) (block_biasT R t) (zero_state (I.seq β)) h x y
  · intro h x
    frame_out
    simp only [read_unread_whole, readCov_slab]
    exact nextN S (block_bias R t) (block_biasT R t) (zero_state (I.seq β)) h x
  · intro h l
    frame_out
    simp only [read_unread_whole, readCov_slab]
    refine nextM' S (block_bias R t) (block_biasT R t) (zero_state (I.seq β)) h l fun hh => ?_
    exact (congrFun (canon_whole (s := S8x128) (e := .f32) _ _ _) _).trans (((zero_state (I.seq β)).M h l).trans (stabs_rest _ _ _ h hh))

/-- At an odd point that begins a batch, the output rows the chunk leaves. -/
theorem out_B (R : Reals m I c) {β : Fin 4} {hp} (S : SetA m c I β 0 (t.val - 1) hp) :
    Out m c I β 0 t.val t.isLt := by
  unfold SetA at S
  intro r j
  rw [outsAt0_B m c t h0 h1 h2 h3 h4, ← outRow_block R t]
  frame_out
  simp only [read_unread_whole, readCov_slab]
  exact nextOut S (block_bias R t) (block_biasT R t) (zero_state (I.seq β)) _ r j

end

section
variable (t : Fin cfg0.N)
  (h0 : ¬t.val % 33 = 0) (h1 : ¬(t.val % 33 = 0 ∨ t.val % 33 = 1 ∨ t.val % 33 = 9 ∨ t.val % 33 = 17 ∨ t.val % 33 = 25))
  (h2 : t.val % 2 = 0) (h3 : ¬t.val % 2 = 1)
  (h4 : ¬(t.val % 33 = 8 ∨ t.val % 33 = 16 ∨ t.val % 33 = 24 ∨ t.val % 33 = 32))
include h0 h1 h2 h3 h4

/-- At an even point within a batch, the set filled. -/
theorem set_C (R : Reals m I c) {β : Fin 4} {n : ℕ} (hn : n < 8) (hb : min t.val 31 = 8 * (β : ℕ) + n) :
    SetA m c I β (256 * n) t.val t.isLt := by
  have S := (operands R t hn hb).fill
  unfold SetA
  rw [outsAt0_C m c t h0 h1 h2 h3 h4]
  constructor
  · intro r j
    frame_out
    exact S.qkv r j
  · intro r j
    frame_out
    exact S.gate r j
  · intro r a l ha
    frame_out
    exact S.sm r a l ha
  · intro r a l ha
    frame_out
    exact S.smt r a l ha

/-- At an even point within a batch, the memories the chunk leaves. -/
theorem mem_C (R : Reals m I c) {β : Fin 4} {T : ℕ} {hp} (S : SetB m c I β T (t.val - 1) hp) (St : Mem m c I β T (t.val - 1) hp) :
    Mem m c I β (T + 256) t.val t.isLt := by
  unfold SetB at S
  unfold Mem at St
  unfold Mem
  rw [outsAt0_C m c t h0 h1 h2 h3 h4]
  constructor
  · intro h x y
    frame_out
    simp only [read_unread_whole]
    exact nextC S (block_bias R t) (block_biasT R t) St h x y
  · intro h x
    frame_out
    simp only [read_unread_whole]
    exact nextN S (block_bias R t) (block_biasT R t) St h x
  · intro h l
    frame_out
    simp only [read_unread_whole]
    refine nextM S (block_bias R t) (block_biasT R t) St h l fun hh => ?_
    simp only [View.writes_nil, read_unread_whole]
    exact (St.M h l).trans (stabs_rest _ _ _ h hh)

/-- At an even point within a batch, the output rows the chunk leaves. -/
theorem out_C (R : Reals m I c) {β : Fin 4} {T : ℕ} {hp} (S : SetB m c I β T (t.val - 1) hp) (St : Mem m c I β T (t.val - 1) hp) :
    Out m c I β T t.val t.isLt := by
  unfold SetB at S
  unfold Mem at St
  intro r j
  rw [outsAt0_C m c t h0 h1 h2 h3 h4, ← outRow_block R t]
  frame_out
  simp only [read_unread_whole]
  exact nextOut S (block_bias R t) (block_biasT R t) St _ r j

end

section
variable (t : Fin cfg0.N)
  (h0 : ¬t.val % 33 = 0) (h1 : ¬(t.val % 33 = 0 ∨ t.val % 33 = 1 ∨ t.val % 33 = 9 ∨ t.val % 33 = 17 ∨ t.val % 33 = 25))
  (h2 : ¬t.val % 2 = 0) (h3 : t.val % 2 = 1)
  (h4 : ¬(t.val % 33 = 8 ∨ t.val % 33 = 16 ∨ t.val % 33 = 24 ∨ t.val % 33 = 32))
include h0 h1 h2 h3 h4

/-- At an odd point within a batch, the set filled. -/
theorem set_D (R : Reals m I c) {β : Fin 4} {n : ℕ} (hn : n < 8) (hb : min t.val 31 = 8 * (β : ℕ) + n) :
    SetB m c I β (256 * n) t.val t.isLt := by
  have S := (operands R t hn hb).fill
  unfold SetB
  rw [outsAt0_D m c t h0 h1 h2 h3 h4]
  constructor
  · intro r j
    frame_out
    exact S.qkv r j
  · intro r j
    frame_out
    exact S.gate r j
  · intro r a l ha
    frame_out
    exact S.sm r a l ha
  · intro r a l ha
    frame_out
    exact S.smt r a l ha

/-- At an odd point within a batch, the memories the chunk leaves. -/
theorem mem_D (R : Reals m I c) {β : Fin 4} {T : ℕ} {hp} (S : SetA m c I β T (t.val - 1) hp) (St : Mem m c I β T (t.val - 1) hp) :
    Mem m c I β (T + 256) t.val t.isLt := by
  unfold SetA at S
  unfold Mem at St
  unfold Mem
  rw [outsAt0_D m c t h0 h1 h2 h3 h4]
  constructor
  · intro h x y
    frame_out
    simp only [read_unread_whole]
    exact nextC S (block_bias R t) (block_biasT R t) St h x y
  · intro h x
    frame_out
    simp only [read_unread_whole]
    exact nextN S (block_bias R t) (block_biasT R t) St h x
  · intro h l
    frame_out
    simp only [read_unread_whole]
    refine nextM S (block_bias R t) (block_biasT R t) St h l fun hh => ?_
    simp only [View.writes_nil, read_unread_whole]
    exact (St.M h l).trans (stabs_rest _ _ _ h hh)

/-- At an odd point within a batch, the output rows the chunk leaves. -/
theorem out_D (R : Reals m I c) {β : Fin 4} {T : ℕ} {hp} (S : SetA m c I β T (t.val - 1) hp) (St : Mem m c I β T (t.val - 1) hp) :
    Out m c I β T t.val t.isLt := by
  unfold SetA at S
  unfold Mem at St
  intro r j
  rw [outsAt0_D m c t h0 h1 h2 h3 h4, ← outRow_block R t]
  frame_out
  simp only [read_unread_whole]
  exact nextOut S (block_bias R t) (block_biasT R t) St _ r j

end

section
variable (t : Fin cfg0.N)
  (h0 : ¬t.val % 33 = 0) (h1 : ¬(t.val % 33 = 0 ∨ t.val % 33 = 1 ∨ t.val % 33 = 9 ∨ t.val % 33 = 17 ∨ t.val % 33 = 25))
  (h2 : t.val % 2 = 0) (h3 : ¬t.val % 2 = 1)
  (h4 : (t.val % 33 = 8 ∨ t.val % 33 = 16 ∨ t.val % 33 = 24 ∨ t.val % 33 = 32))
include h0 h1 h2 h3 h4

/-- At an even point that ends a batch, the set filled. -/
theorem set_E (R : Reals m I c) {β : Fin 4} {n : ℕ} (hn : n < 8) (hb : min t.val 31 = 8 * (β : ℕ) + n) :
    SetA m c I β (256 * n) t.val t.isLt := by
  have S := (operands R t hn hb).fill
  unfold SetA
  rw [outsAt0_E m c t h0 h1 h2 h3 h4]
  constructor
  · intro r j
    frame_out
    exact S.qkv r j
  · intro r j
    frame_out
    exact S.gate r j
  · intro r a l ha
    frame_out
    exact S.sm r a l ha
  · intro r a l ha
    frame_out
    exact S.smt r a l ha

/-- At an even point that ends a batch, the memories the chunk leaves. -/
theorem mem_E (R : Reals m I c) {β : Fin 4} {T : ℕ} {hp} (S : SetB m c I β T (t.val - 1) hp) (St : Mem m c I β T (t.val - 1) hp) :
    Mem m c I β (T + 256) t.val t.isLt := by
  unfold SetB at S
  unfold Mem at St
  unfold Mem
  rw [outsAt0_E m c t h0 h1 h2 h3 h4]
  constructor
  · intro h x y
    frame_out
    simp only [read_unread_whole]
    exact nextC S (block_bias R t) (block_biasT R t) St h x y
  · intro h x
    frame_out
    simp only [read_unread_whole]
    exact nextN S (block_bias R t) (block_biasT R t) St h x
  · intro h l
    frame_out
    simp only [read_unread_whole]
    refine nextM S (block_bias R t) (block_biasT R t) St h l fun hh => ?_
    simp only [View.writes_nil, read_unread_whole]
    exact (St.M h l).trans (stabs_rest _ _ _ h hh)

/-- At an even point that ends a batch, the output rows the chunk leaves. -/
theorem out_E (R : Reals m I c) {β : Fin 4} {T : ℕ} {hp} (S : SetB m c I β T (t.val - 1) hp) (St : Mem m c I β T (t.val - 1) hp) :
    Out m c I β T t.val t.isLt := by
  unfold SetB at S
  unfold Mem at St
  intro r j
  rw [outsAt0_E m c t h0 h1 h2 h3 h4, ← outRow_block R t]
  frame_out
  simp only [read_unread_whole]
  exact nextOut S (block_bias R t) (block_biasT R t) St _ r j

/-- A batch's last point writes its memories out. -/
theorem last_C (h : Fin 4) (x y : Fin 256) : (outsAt0 m c t.val t.isLt).2.1 (ix4 0 h x y) = (outsAt0 m c t.val t.isLt).2.2.2.2.2.2.2.2.2.2.2.2.1 (ix3 h x y) := by
  rw [outsAt0_E m c t h0 h1 h2 h3 h4]
  frame_out
  refine (pay22_at _ h x y).trans ?_
  exact readCov_whole (s := S4x256x256) (e := .f32) _ _ _ _

/-- A batch's last point writes its normalisers out. -/
theorem last_N (h : Fin 4) (x : Fin 256) : (outsAt0 m c t.val t.isLt).2.2.1 (ix3 0 h x) = (outsAt0 m c t.val t.isLt).2.2.2.2.2.2.2.2.2.2.2.2.2.1 (ix2 h x) := by
  rw [outsAt0_E m c t h0 h1 h2 h3 h4]
  frame_out
  refine (pay23_at _ h x).trans ?_
  exact readCov_whole (s := S4x256) (e := .f32) _ _ _ _

/-- A batch's last point writes its stabilisers out. -/
theorem last_M (h : Fin 8) (x : Fin 128) : (outsAt0 m c t.val t.isLt).2.2.2.1 (ix3 0 h x) = (outsAt0 m c t.val t.isLt).2.2.2.2.2.2.2.2.2.2.2.2.2.2 (ix2 h x) := by
  rw [outsAt0_E m c t h0 h1 h2 h3 h4]
  frame_out
  refine (pay24_at _ h x).trans ?_
  rfl

end

end Cert.KernelIdeal.Mlstm
-- ==== Proof.Run.lean ====
/-
  The grid run through: what every point leaves, by induction on the points.
-/
module

public import proofs.«01_k».proof.Proof.Cases

@[expose] public section

set_option maxRecDepth 16384
noncomputable section
open Idealize.ShloMosaic Idealize.ShloMosaic.TcCoe Idealize.SL.Sem
namespace Cert.KernelIdeal.Mlstm
open Cert.KernelIdeal Cert.KernelIdeal.Gen
open _root_.Mlstm
variable {m : (ℓ : Loc nD τ sig) → Buf (Elt Ideal) ℓ} {c : Dev nD} {I : Inputs}

/-- The grid has 33 points. -/
theorem points (t : ℕ) (ht : t < cfg0.N) : t < 33 := lt_of_lt_of_eq ht N_0

/-- An even point fills the first set with its block's projection. -/
theorem set_even (R : Reals m I c) (t : ℕ) (ht : t < cfg0.N) (h2 : t % 2 = 0) {β : Fin 4} {n : ℕ} (hn : n < 8)
    (hb : min t 31 = 8 * (β : ℕ) + n) : SetA m c I β (256 * n) t ht := by
  have h33 := points t ht
  have h3 : ¬t % 2 = 1 := by omega
  by_cases h0 : t % 33 = 0
  · have h4 : ¬(t % 33 = 8 ∨ t % 33 = 16 ∨ t % 33 = 24 ∨ t % 33 = 32) := by omega
    exact set_A ⟨t, ht⟩ h0 (Or.inl h0) h2 h3 h4 R hn hb
  · have h1 : ¬(t % 33 = 0 ∨ t % 33 = 1 ∨ t % 33 = 9 ∨ t % 33 = 17 ∨ t % 33 = 25) := by omega
    by_cases h4 : (t % 33 = 8 ∨ t % 33 = 16 ∨ t % 33 = 24 ∨ t % 33 = 32)
    · exact set_E ⟨t, ht⟩ h0 h1 h2 h3 h4 R hn hb
    · exact set_C ⟨t, ht⟩ h0 h1 h2 h3 h4 R hn hb

/-- An odd point fills the second set with its block's projection. -/
theorem set_odd (R : Reals m I c) (t : ℕ) (ht : t < cfg0.N) (h3 : t % 2 = 1) {β : Fin 4} {n : ℕ} (hn : n < 8)
    (hb : min t 31 = 8 * (β : ℕ) + n) : SetB m c I β (256 * n) t ht := by
  have h33 := points t ht
  have h0 : ¬t % 33 = 0 := by omega
  have h2 : ¬t % 2 = 0 := by omega
  have h4 : ¬(t % 33 = 8 ∨ t % 33 = 16 ∨ t % 33 = 24 ∨ t % 33 = 32) := by omega
  by_cases h1 : (t % 33 = 0 ∨ t % 33 = 1 ∨ t % 33 = 9 ∨ t % 33 = 17 ∨ t % 33 = 25)
  · exact set_B ⟨t, ht⟩ h0 h1 h2 h3 h4 R hn hb
  · exact set_D ⟨t, ht⟩ h0 h1 h2 h3 h4 R hn hb

/-- The point after a block's projection runs the block's chunk: it leaves the memories after the chunk and the chunk's output rows. -/
theorem chunk_at (R : Reals m I c) (t : ℕ) : ∀ (ht : t + 1 < cfg0.N) (β : Fin 4) (n : ℕ), n < 8 → t = 8 * (β : ℕ) + n →
    Mem m c I β (256 * n + 256) (t + 1) ht ∧ Out m c I β (256 * n) (t + 1) ht := by
  induction t with
  | zero =>
    intro ht β n hn hb
    obtain rfl : n = 0 := by omega
    have S : SetA m c I β 0 0 (by omega) := set_even R 0 _ rfl hn (by omega)
    have h0 : ¬(0 + 1) % 33 = 0 := by omega
    have h1 : ((0 + 1) % 33 = 0 ∨ (0 + 1) % 33 = 1 ∨ (0 + 1) % 33 = 9 ∨ (0 + 1) % 33 = 17 ∨ (0 + 1) % 33 = 25) := by omega
    have h2 : ¬(0 + 1) % 2 = 0 := by omega
    have h3 : (0 + 1) % 2 = 1 := by omega
    have h4 : ¬((0 + 1) % 33 = 8 ∨ (0 + 1) % 33 = 16 ∨ (0 + 1) % 33 = 24 ∨ (0 + 1) % 33 = 32) := by omega
    exact ⟨mem_B ⟨0 + 1, ht⟩ h0 h1 h2 h3 h4 R S, out_B ⟨0 + 1, ht⟩ h0 h1 h2 h3 h4 R S⟩
  | succ t ih =>
    intro ht β n hn hb
    have h33 := points _ ht
    by_cases hn0 : n = 0
    · subst hn0
      have S : SetA m c I β 0 (t + 1) (by omega) := set_even R _ _ (by omega) hn (by omega)
      have h0 : ¬(t + 1 + 1) % 33 = 0 := by omega
      have h1 : ((t + 1 + 1) % 33 = 0 ∨ (t + 1 + 1) % 33 = 1 ∨ (t + 1 + 1) % 33 = 9 ∨ (t + 1 + 1) % 33 = 17 ∨ (t + 1 + 1) % 33 = 25) := by
        have hβ : (β : ℕ) = 0 ∨ (β : ℕ) = 1 ∨ (β : ℕ) = 2 ∨ (β : ℕ) = 3 := by omega
        rcases hβ with h | h | h | h <;> omega
      have h2 : ¬(t + 1 + 1) % 2 = 0 := by omega
      have h3 : (t + 1 + 1) % 2 = 1 := by omega
      have h4 : ¬((t + 1 + 1) % 33 = 8 ∨ (t + 1 + 1) % 33 = 16 ∨ (t + 1 + 1) % 33 = 24 ∨ (t + 1 + 1) % 33 = 32) := by omega
      exact ⟨mem_B ⟨t + 1 + 1, ht⟩ h0 h1 h2 h3 h4 R S, out_B ⟨t + 1 + 1, ht⟩ h0 h1 h2 h3 h4 R S⟩
    · have St := (ih (by omega) β (n - 1) (by omega) (by omega)).1
      rw [show 256 * (n - 1) + 256 = 256 * n by omega] at St
      have h0 : ¬(t + 1 + 1) % 33 = 0 := by omega
      have h1 : ¬((t + 1 + 1) % 33 = 0 ∨ (t + 1 + 1) % 33 = 1 ∨ (t + 1 + 1) % 33 = 9 ∨ (t + 1 + 1) % 33 = 17 ∨ (t + 1 + 1) % 33 = 25) := by omega
      by_cases h3 : (t + 1 + 1) % 2 = 1
      · have S : SetA m c I β (256 * n) (t + 1) (by omega) := set_even R _ _ (by omega) hn (by omega)
        have h2 : ¬(t + 1 + 1) % 2 = 0 := by omega
        have h4 : ¬((t + 1 + 1) % 33 = 8 ∨ (t + 1 + 1) % 33 = 16 ∨ (t + 1 + 1) % 33 = 24 ∨ (t + 1 + 1) % 33 = 32) := by omega
        exact ⟨mem_D ⟨t + 1 + 1, ht⟩ h0 h1 h2 h3 h4 R S St, out_D ⟨t + 1 + 1, ht⟩ h0 h1 h2 h3 h4 R S St⟩
      · have S : SetB m c I β (256 * n) (t + 1) (by omega) := set_odd R _ _ (by omega) hn (by omega)
        have h2 : (t + 1 + 1) % 2 = 0 := by omega
        by_cases h4 : ((t + 1 + 1) % 33 = 8 ∨ (t + 1 + 1) % 33 = 16 ∨ (t + 1 + 1) % 33 = 24 ∨ (t + 1 + 1) % 33 = 32)
        · exact ⟨mem_E ⟨t + 1 + 1, ht⟩ h0 h1 h2 h3 h4 R S St, out_E ⟨t + 1 + 1, ht⟩ h0 h1 h2 h3 h4 R S St⟩
        · exact ⟨mem_C ⟨t + 1 + 1, ht⟩ h0 h1 h2 h3 h4 R S St, out_C ⟨t + 1 + 1, ht⟩ h0 h1 h2 h3 h4 R S St⟩

end Cert.KernelIdeal.Mlstm
-- ==== Proof.Final.lean ====
/-
  The four result arrays after the run, from what the grid points leave.
-/
module

public import proofs.«01_k».proof.Proof.Run

@[expose] public section

set_option maxRecDepth 16384
noncomputable section
open Idealize.ShloMosaic Idealize.ShloMosaic.TcCoe Idealize.SL.Sem
open Idealize.ShloMosaic.Pipeline (Dat)
namespace Cert.KernelIdeal.Mlstm
open Cert.KernelIdeal Cert.KernelIdeal.Gen
open _root_.Mlstm
variable {m : (ℓ : Loc nD τ sig) → Buf (Elt Ideal) ℓ} {c : Dev nD} {I : Inputs}

/-- Which block each result window holds at a point. -/
theorem idx_out : ∀ t : Fin cfg0.N, win0_8.index t = ![t.val - 1, 0] ∧ win0_9.index t = ![(t.val - 1) / 8, 0, 0, 0]
    ∧ win0_10.index t = ![(t.val - 1) / 8, 0, 0] ∧ win0_11.index t = ![(t.val - 1) / 8, 0, 0] :=
  (by decide +kernel : ∀ t : Fin grid0.N, _)

/-- The first point writes no row block back. -/
theorem flush_row : ∀ t : Fin cfg0.N, (cfg0.win 8).flush t = true → 1 ≤ t.val :=
  (by decide +kernel : ∀ t : Fin grid0.N, _)

/-- The memories are written back after a batch's last chunk. -/
theorem flush_mem : ∀ t : Fin cfg0.N, ((cfg0.win 9).flush t = true ∨ (cfg0.win 10).flush t = true ∨ (cfg0.win 11).flush t = true) →
    t.val = 8 ∨ t.val = 16 ∨ t.val = 24 ∨ t.val = 32 :=
  (by decide +kernel : ∀ t : Fin grid0.N, _)

/-- What a batch's last point writes out: the memories after all its steps. -/
theorem last_at (R : Reals m I c) (t : Fin cfg0.N) (ht : t.val = 8 ∨ t.val = 16 ∨ t.val = 24 ∨ t.val = 32) (β : Fin 4) (hβ : (t.val - 1) / 8 = β) :
    (∀ (h : Fin 4) (x y : Fin 256), (outsAt0 m c t.val t.isLt).2.1 (ix4 0 h x y)
        = ((memC ((I.seq β).lf h) ((I.seq β).ig h) ((I.seq β).k h) ((I.seq β).v h) 2048 x y : ℝ) : EReal))
      ∧ (∀ (h : Fin 4) (x : Fin 256), (outsAt0 m c t.val t.isLt).2.2.1 (ix3 0 h x)
        = ((memN ((I.seq β).lf h) ((I.seq β).ig h) ((I.seq β).k h) 2048 x : ℝ) : EReal))
      ∧ ∀ (h : Fin 8) (l : Fin 128), (outsAt0 m c t.val t.isLt).2.2.2.1 (ix3 0 h l) = (I.seq β).stabs 2048 h := by
  have h0 : ¬t.val % 33 = 0 := by omega
  have h1 : ¬(t.val % 33 = 0 ∨ t.val % 33 = 1 ∨ t.val % 33 = 9 ∨ t.val % 33 = 17 ∨ t.val % 33 = 25) := by omega
  have h2 : t.val % 2 = 0 := by omega
  have h3 : ¬t.val % 2 = 1 := by omega
  have h4 : (t.val % 33 = 8 ∨ t.val % 33 = 16 ∨ t.val % 33 = 24 ∨ t.val % 33 = 32) := by omega
  obtain ⟨t, htN⟩ := t
  obtain ⟨s, rfl⟩ : ∃ s, t = s + 1 := ⟨t - 1, by dsimp only at ht; omega⟩
  dsimp only at ht hβ
  have St := (chunk_at R s htN β 7 (by omega) (by omega)).1
  exact ⟨fun h x y => (last_C ⟨s + 1, htN⟩ h0 h1 h2 h3 h4 h x y).trans (St.C h x y),
    fun h x => (last_N ⟨s + 1, htN⟩ h0 h1 h2 h3 h4 h x).trans (St.N h x),
    fun h l => (last_M ⟨s + 1, htN⟩ h0 h1 h2 h3 h4 h l).trans (St.M h l)⟩

/-- The array of matrix memories after the run. -/
theorem final_C (R : Reals m I c) (X : FVec Ideal S4x4x256x256 .f32)
    (hX : ∀ (β h : Fin 4) (x y : Fin 256), X (ix4 β h x y) = ((memC ((I.seq β).lf h) ((I.seq β).ig h) ((I.seq β).k h) ((I.seq β).v h) 2048 x y : ℝ) : EReal)) :
    (dats m 0 c).arrAt 9 cfg0.N = X := by
  refine (dats m 0 c).arrAt_eq_of_covers 9 _ (by decide +kernel) fun t hf y => ?_
  have ht := flush_mem t (Or.inl hf)
  have h33 := points _ t.isLt
  blk_simp
  rw [after0_9]
  idx_vars y
  obtain rfl : y0 = 0 := Subsingleton.elim _ _
  refine ((last_at R t ht ⟨(t.val - 1) / 8, by omega⟩ rfl).1 _ _ _).trans ?_
  refine (hX _ _ _ _).symm.trans ?_
  blk_ext [idx_out t]

/-- The array of normalisers after the run. -/
theorem final_N (R : Reals m I c) (X : FVec Ideal S4x4x256 .f32)
    (hX : ∀ (β h : Fin 4) (x : Fin 256), X (ix3 β h x) = ((memN ((I.seq β).lf h) ((I.seq β).ig h) ((I.seq β).k h) 2048 x : ℝ) : EReal)) :
    (dats m 0 c).arrAt 10 cfg0.N = X := by
  refine (dats m 0 c).arrAt_eq_of_covers 10 _ (by decide +kernel) fun t hf y => ?_
  have ht := flush_mem t (Or.inr (Or.inl hf))
  have h33 := points _ t.isLt
  blk_simp
  rw [after0_10]
  idx_vars y
  obtain rfl : y0 = 0 := Subsingleton.elim _ _
  refine ((last_at R t ht ⟨(t.val - 1) / 8, by omega⟩ rfl).2.1 _ _).trans ?_
  refine (hX _ _ _).symm.trans ?_
  blk_ext [idx_out t]

/-- The array of stabilisers after the run: a row for each head, then zeros. -/
theorem final_M (R : Reals m I c) (X : FVec Ideal S4x8x128 .f32)
    (hX : ∀ (β : Fin 4) (h : Fin 8) (l : Fin 128), X (ix3 β h l) = (I.seq β).stabs 2048 h) :
    (dats m 0 c).arrAt 11 cfg0.N = X := by
  refine (dats m 0 c).arrAt_eq_of_covers 11 _ (by decide +kernel) fun t hf y => ?_
  have ht := flush_mem t (Or.inr (Or.inr hf))
  have h33 := points _ t.isLt
  blk_simp
  rw [after0_11]
  idx_vars y
  obtain rfl : y0 = 0 := Subsingleton.elim _ _
  refine ((last_at R t ht ⟨(t.val - 1) / 8, by omega⟩ rfl).2.2 _ _).trans ?_
  refine (hX _ _ y2).symm.trans ?_
  blk_ext [idx_out t]

/-- The array of output rows after the run. -/
theorem final_O (R : Reals m I c) (X : FVec Ideal S8192x1024 .bf16)
    (hX : ∀ (β : Fin 4) (n : Fin 8) (r : Fin 256) (j : Fin 1024), X (ix2 ⟨2048 * β + (256 * n + r), by omega⟩ j)
      = outRow (I.seq β) (256 * n) (m ((c : Thread nD τ).loc main_arg4) : FVec Ideal S1x1024 .f32) r j) :
    (dats m 0 c).arrAt 8 cfg0.N = X := by
  refine (dats m 0 c).arrAt_eq_of_covers 8 _ (by decide +kernel) fun t hf y => ?_
  have ht := flush_row t hf
  have h33 := points _ t.isLt
  have hi := (idx_out t).1
  blk_simp
  rw [after0_8]
  idx_vars y
  obtain ⟨t, htN⟩ := t
  obtain ⟨s, rfl⟩ : ∃ s, t = s + 1 := ⟨t - 1, by dsimp only at ht; omega⟩
  dsimp only at ht h33
  refine ((chunk_at R s htN ⟨s / 8, by omega⟩ (s % 8) (by omega) (by dsimp only; omega)).2 _ _).trans ?_
  refine (hX ⟨s / 8, by omega⟩ ⟨s % 8, by omega⟩ _ _).symm.trans ?_
  blk_ext [hi]

end Cert.KernelIdeal.Mlstm
-- ==== Proof.RefA.lean ====
/-
  The reference, read at an index: the projection, the gates, the queries, keys and values.
-/
module

public import proofs.«01_k».proof.Proof.Gen.ReferenceIdeal.Run
public import proofs.«01_k».proof.Proof.Input
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.ReferenceIdeal.Mlstm
open Cert.ReferenceIdeal Cert.ReferenceIdeal.Gen Cert.ReferenceIdeal.Value
open _root_.Mlstm Cert.KernelIdeal.Mlstm
open scoped BigOperators

/-- The reference's arguments are the real inputs. -/
structure Holds (I : Inputs) (V : Valuation τ sig (Elt Ideal)) : Prop where
  x : ∀ (β : Fin 4) (t d : Fin 2048), (V (Proc.devRef .tc main_arg0) : FVec Ideal S4x2048x2048 .f32) (ix3 β t d) = ((I.x β t d : ℝ) : EReal)
  g : ∀ d : Fin 2048, (V (Proc.devRef .tc main_arg1) : FVec Ideal S1x2048 .f32) (ix2 0 d) = ((I.g d : ℝ) : EReal)
  w : ∀ (d : Fin 2048) (j : Fin 8784), (V (Proc.devRef .tc main_arg2) : FVec Ideal S1x2048x8784 .f32) (ix3 0 d j) = ((I.w j d : ℝ) : EReal)
  b : ∀ l : Fin 8, (V (Proc.devRef .tc main_arg3) : FVec Ideal S1x8 .f32) (ix2 0 l) = ((I.b l : ℝ) : EReal)

/-- A left fold of sums is the sum. -/
theorem foldl_sum {ι : Type} (l : List ι) (f : ι → EReal) (v : EReal) : l.foldl (fun r i => r + f i) v = v + (l.map f).sum := by
  induction l generalizing v with
  | nil => simp
  | cons i l ih => rw [List.foldl_cons, ih, List.map_cons, List.sum_cons, add_assoc]

/-- A window of the whole length, padded in front, holds the terms up to its last. -/
theorem sum_window (f : ℕ → EReal) (M t : ℕ) (h : t ≤ M) :
    ∑ k ∈ Finset.range (M + 1), (if M ≤ t + k then f (t + k - M) else 0) = ∑ s ∈ Finset.range (t + 1), f s := by
  rw [show M + 1 = (M - t) + (t + 1) by omega, Finset.sum_range_add, Finset.sum_eq_zero, zero_add]
  · refine Finset.sum_congr rfl fun s _ => ?_
    rw [if_pos (by omega), show t + (M - t + s) - M = s by omega]
  · intro k hk
    rw [if_neg (by rw [Finset.mem_range] at hk; omega)]

/-- An index of three axes whose first two have extent one, by its last coordinate. -/
theorem sum_row {M : ℕ} (f : ℕ → EReal) (t : ℕ) :
    ∑ i : (⟨3, ![1, 1, M + 1]⟩ : Shape).Idx, (if M ≤ t + (i 2).val then f (t + (i 2).val - M) else 0)
      = ∑ i ∈ Finset.range (M + 1), if M ≤ t + i then f (t + i - M) else 0 := by
  rw [sum_idx3, Fintype.sum_subsingleton _ (0 : Fin 1), Fintype.sum_subsingleton _ (0 : Fin 1), Finset.sum_range]
  rfl

/-- One term of a running sum, at a place of the window. -/
theorem window_term {A B M : ℕ} (x : (⟨3, ![A, B, M + 1]⟩ : Shape).Idx → EReal) (f : ℕ → EReal) (a : Fin A) (b : Fin B)
    (hx : ∀ s : Fin (M + 1), x (ix3 a b s) = f s) (t : Fin (M + 1)) (p q r : ℕ) (hp : p = 0) (hq : q = 0) (hr : r < M + 1)
    (v : Fin 3 → ℕ) {D : Decidable (∀ c : Fin 3, ![0, 0, M] c ≤ v c ∧ v c - ![0, 0, M] c < ![A, B, M + 1] c)} (h0 : v 0 = a.val * 1 + p) (h1 : v 1 = b.val * 1 + q) (h2 : v 2 = t.val * 1 + r) :
    (if hin : ∀ c : Fin 3, ![0, 0, M] c ≤ v c ∧ v c - ![0, 0, M] c < ![A, B, M + 1] c then x (fun c => ⟨v c - ![0, 0, M] c, (hin c).2⟩) else 0)
      = if M ≤ (t : ℕ) + r then f (t + r - M) else 0 := by
  split
  · next hin =>
    have e := (hin 2).1
    change M ≤ v 2 at e
    rw [if_pos (by omega)]
    refine (congrArg x (funext fun c => Fin.ext ?_)).trans (hx ⟨t + r - M, by omega⟩)
    match c with
    | ⟨0, _⟩ => show v 0 - 0 = a.val; omega
    | ⟨1, _⟩ => show v 1 - 0 = b.val; omega
    | ⟨2, _⟩ => show v 2 - M = t + r - M; omega
  · next hin =>
    rw [if_neg fun hle => hin fun c => ?_]
    have ha := a.isLt
    have hb := b.isLt
    have ht := t.isLt
    match c with
    | ⟨0, _⟩ => show 0 ≤ v 0 ∧ v 0 - 0 < A; omega
    | ⟨1, _⟩ => show 0 ≤ v 1 ∧ v 1 - 0 < B; omega
    | ⟨2, _⟩ => show M ≤ v 2 ∧ v 2 - M < M + 1; omega

/-- A running sum along the last of three axes, as a window sum. -/
theorem window_at {A B M N : ℕ} (hN : M + 1 = N) (x : (⟨3, ![A, B, N]⟩ : Shape).Idx → EReal) {u : Shape} (init : u.Idx → EReal)
    (hw : (⟨3, ![A, B, N]⟩ : Shape).ReduceWindows (![1, 1, N] : Fin 3 → ℕ) ![1, 1, 1] ![0, 0, M] ![0, 0, 0] ⟨3, ![A, B, N]⟩)
    (hu : 0 < u.numel) (hi : init (Shape.Idx.first hu) = 0) (f : ℕ → EReal)
    (a : Fin A) (b : Fin B) (hx : ∀ s : Fin N, x (ix3 a b s) = f s) (t : Fin N) :
    Host.reduceWindow (· + ·) (![1, 1, N] : Fin 3 → ℕ) ![1, 1, 1] ![0, 0, M] ![0, 0, 0] x init hw hu (ix3 a b t)
      = ∑ s ∈ Finset.range (t + 1), f s := by
  subst hN
  unfold Host.reduceWindow
  dsimp only
  rw [foldl_sum, hi, zero_add, ← sum_window f M t (by omega), ← Fin.sum_univ_def, ← sum_row]
  refine (Finset.sum_congr rfl fun n _ => ?_).trans (Equiv.sum_comp (Shape.rowMajor ⟨3, ![1, 1, M + 1]⟩).symm
    (fun i : (⟨3, ![1, 1, M + 1]⟩ : Shape).Idx => if M ≤ (t : ℕ) + (i 2).val then f (t + (i 2).val - M) else 0))
  have h2 := ((Shape.rowMajor ⟨3, ![1, 1, M + 1]⟩).symm n 2).isLt
  exact window_term x f a b hx t _ _ _ (Nat.lt_one_iff.mp ((Shape.rowMajor ⟨3, ![1, 1, M + 1]⟩).symm n 0).isLt)
    (Nat.lt_one_iff.mp ((Shape.rowMajor ⟨3, ![1, 1, M + 1]⟩).symm n 1).isLt) h2
    (fun c => (ix3 a b t c).val * (![1, 1, 1] : Fin 3 → ℕ) c + ((Shape.rowMajor ⟨3, ![1, 1, M + 1]⟩).symm n c).val) rfl rfl rfl

/-- A running sum along the last of three axes, as the host's window sum. -/
theorem windowAdd_at {A B M N : ℕ} (hN : M + 1 = N) (x : FVec Ideal ⟨3, ![A, B, N]⟩ .f32) {u : Shape} (init : FVec Ideal u .f32)
    (hw : (⟨3, ![A, B, N]⟩ : Shape).ReduceWindows (![1, 1, N] : Fin 3 → ℕ) ![1, 1, 1] ![0, 0, M] ![0, 0, 0] ⟨3, ![A, B, N]⟩)
    (hu : 0 < u.numel) (hi : init (Shape.Idx.first hu) = (0 : EReal)) (f : ℕ → EReal)
    (a : Fin A) (b : Fin B) (hx : ∀ s : Fin N, x (ix3 a b s) = f s) (t : Fin N) :
    Host.reduceWindowAdd (![1, 1, N] : Fin 3 → ℕ) ![1, 1, 1] ![0, 0, M] ![0, 0, 0] x init hw hu (ix3 a b t)
      = ∑ s ∈ Finset.range (t + 1), f s :=
  window_at hN x (fun _ : (⟨0, ![]⟩ : Shape).Idx => init (Shape.Idx.first hu)) hw (by decide) hi f a b hx t

/-- A maximum, read at an index. -/
theorem maximumf_at {s : Shape} (x y : FVec Ideal s .f32) (i : s.Idx) : maximumf x y i = max (α := EReal) (x i) (y i) := rfl

/-- A running sum along the last axis. -/
theorem cumsum_at (x : FVec Ideal ⟨3, ![4, 4, 2048]⟩ .f32) (init : FVec Ideal S_ .f32)
    (hw : (⟨3, ![4, 4, 2048]⟩ : Shape).ReduceWindows (![1, 1, 2048] : Fin 3 → ℕ) ![1, 1, 1] ![0, 0, 2047] ![0, 0, 0] ⟨3, ![4, 4, 2048]⟩) (hu : 0 < S_.numel) (f : ℕ → ℝ)
    (a b : Fin 4) (hx : ∀ s : Fin 2048, x (ix3 a b s) = ((f s : ℝ) : EReal)) (hi : init ix0 = (0 : EReal)) (t : Fin 2048) :
    Host.reduceWindowAdd (![1, 1, 2048] : Fin 3 → ℕ) ![1, 1, 1] ![0, 0, 2047] ![0, 0, 0] x init hw hu (ix3 a b t) = ((cum f t : ℝ) : EReal) := by
  unfold cum
  rw [coe_sum]
  exact windowAdd_at (M := 2047) (N := 2048) rfl x init hw hu ((congrArg init (funext fun a => a.elim0)).trans hi)
    (fun s => ((f s : ℝ) : EReal)) a b hx t

/-- The largest entry along the last axis. -/
theorem rowMax_at (x : FVec Ideal S4x4x2048x2048 .f32) (init : FVec Ideal S_ .f32) (hi : init ix0 = (⊥ : EReal)) (a b : Fin 4) (t : Fin 2048)
    (f : Fin 2048 → EReal) (hf : ∀ s, x (ix4 a b t s) = f s) :
    Host.reduce FloatOps.maximumf x init reducesTo_S4x4x2048x2048_S4x4x2048_d3 h_S_ (ix3 a b t) = Finset.univ.fold max ⊥ f := by
  rw [Host.reduce_eq_fold, Shape.ReducesTo.fold_fiber_r4_a3, show init (Shape.Idx.first h_S_) = (⊥ : EReal) from (congrArg init (funext fun a => a.elim0)).trans hi]
  exact congrArg (fun F : Fin 2048 → EReal => Finset.univ.fold max ⊥ F) (funext hf)

variable {I : Inputs} {V : Valuation τ sig (Elt Ideal)} (hV : Holds I V)
include hV

theorem v15_at (β : Fin 4) (t : Fin 2048) (j : Fin 8784) : res_main_v15 V (ix3 β t j) = ((I.p β t j : ℝ) : EReal) := by
  obtain ⟨hx, hg, hw, hb⟩ := hV
  generalize hX : V (Proc.devRef .tc main_arg0) = X at hx
  generalize hG : V (Proc.devRef .tc main_arg1) = G at hg
  generalize hW : V (Proc.devRef .tc main_arg2) = W at hw
  change FVec Ideal S4x2048x2048 .f32 at X
  change FVec Ideal S1x2048 .f32 at G
  change FVec Ideal S1x2048x8784 .f32 at W
  unfold res_main_v15
  rw [hX, hG, hW]
  pointwise
  simp only [hx, hg, hw, ofBits_eps, ofBits_2048]
  unfold Inputs.p
  refine Eq.trans (Finset.sum_congr (M := EReal) rfl fun d _ => ?_) (coe_sum _ _).symm
  rw [show ((2048 : ℝ) : EReal) = (((2048 : ℕ) : ℝ) : EReal) by norm_num, rmsn_coe (by norm_num), ← EReal.coe_mul, ← EReal.coe_mul]
  rfl

theorem v16_at (l : Fin 8) : res_main_v16 V (ix1 l) = ((I.b l : ℝ) : EReal) := by
  refine Eq.trans ?_ (hV.b l)
  unfold res_main_v16
  generalize V (Proc.devRef .tc main_arg3) = X
  change FVec Ideal S1x8 .f32 at X
  pointwise

theorem v26_at (β : Fin 4) (t : Fin 2048) (j : Fin 1024) : res_main_v26 V (ix3 β t j) = ((I.p β t ⟨4096 + j, by omega⟩ : ℝ) : EReal) := by
  refine Eq.trans ?_ (v15_at hV β t _)
  unfold res_main_v26
  generalize res_main_v15 V = X
  change FVec Ideal S4x2048x8784 .f32 at X
  pointwise

theorem v39_at (β h : Fin 4) (t : Fin 2048) (d : Fin 256) : res_main_v39 V (ix4 β h t d) = (((I.seq β).k h t d : ℝ) : EReal) := by
  have h15 := v15_at hV
  unfold res_main_v39
  generalize res_main_v15 V = X at *
  change FVec Ideal S4x2048x8784 .f32 at X
  pointwise
  simp only [h15, ofBits_sixteenth, ← EReal.coe_mul, mul_comm (h : ℕ) 256]
  rfl

theorem v40_at (β h : Fin 4) (t : Fin 2048) (d : Fin 256) : res_main_v40 V (ix4 β h t d) = (((I.seq β).v h t d : ℝ) : EReal) := by
  have h15 := v15_at hV
  unfold res_main_v40
  generalize res_main_v15 V = X at *
  change FVec Ideal S4x2048x8784 .f32 at X
  pointwise
  simp only [h15, mul_comm (h : ℕ) 256]
  rfl

theorem v41_at (β h : Fin 4) (t : Fin 2048) : res_main_v41 V (ix3 β h t) = (((I.seq β).ig h t : ℝ) : EReal) := by
  have h15 := v15_at hV
  have h16 := v16_at hV
  unfold res_main_v41
  generalize res_main_v15 V = X at *
  generalize res_main_v16 V = Y at *
  change FVec Ideal S4x2048x8784 .f32 at X
  change FVec Ideal S8 .f32 at Y
  pointwise
  simp only [h15, h16, ← EReal.coe_add]
  rfl

theorem call0_at (β h : Fin 4) (t : Fin 2048) :
    res_main_call0_v0 V (ix3 β t h) = ((-((I.seq β).pf h t + (I.seq β).bf h) : ℝ) : EReal) := by
  have h15 := v15_at hV
  have h16 := v16_at hV
  unfold res_main_call0_v0
  generalize res_main_v15 V = X at *
  generalize res_main_v16 V = Y at *
  change FVec Ideal S4x2048x8784 .f32 at X
  change FVec Ideal S8 .f32 at Y
  pointwise
  simp only [h15, h16, ← EReal.coe_add, ← EReal.coe_neg]
  rfl

theorem v45_at (β h : Fin 4) (t : Fin 2048) : res_main_v45 V (ix3 β h t) = ((cum ((I.seq β).lf h) t : ℝ) : EReal) := by
  have h0 := call0_at hV
  unfold res_main_v45
  refine cumsum_at _ _ _ _ (fun s => (I.seq β).lf h s) β h (fun s => ?_) (by pointwise) t
  unfold res_main_call0_call0_v3 res_main_call0_call0_cst
  generalize res_main_call0_v0 V = X at *
  change FVec Ideal S4x2048x4 .f32 at X
  pointwise
  rw [if_neg (by simp), h0, absf_coe, ← EReal.coe_neg, exp_coe, log1p_coe _ (by positivity),
    show (0 : EReal) = ((0 : ℝ) : EReal) by norm_cast, ← coe_max, ← EReal.coe_add, ← EReal.coe_neg]
  refine congrArg _ ?_
  show _ = lsig ((I.seq β).pf h s + (I.seq β).bf h)
  unfold lsig
  rw [abs_neg, neg_add, ← min_neg_neg, neg_neg, neg_zero]
  rfl

theorem v54_at (β h : Fin 4) (t s : Fin 2048) : res_main_v54 V (ix4 β h t s)
    = if (s : ℕ) ≤ t then ((cum ((I.seq β).lf h) t + ((I.seq β).ig h s - cum ((I.seq β).lf h) s) : ℝ) : EReal) else ⊥ := by
  have h45 := v45_at hV
  have h41 := v41_at hV
  unfold res_main_v54
  generalize res_main_v45 V = X at *
  generalize res_main_v41 V = Y at *
  change FVec Ideal S4x4x2048 .f32 at X
  change FVec Ideal S4x4x2048 .f32 at Y
  pointwise
  have hz : IntOp.addi (BitVec.ofNat 32 (t : ℕ)) 0#32 = BitVec.ofNat 32 (t : ℕ) := BitVec.add_zero _
  rw [hz]
  simp (disch := omega) only [hlo_ix]
  by_cases hs : (s : ℕ) ≤ t
  · rw [if_pos hs, if_pos hs]
    show X (ix3 β h t) - X (ix3 β h s) + Y (ix3 β h s) = _
    rw [h45, h45, h41, ← EReal.coe_sub, ← EReal.coe_add]
    exact congrArg _ (by ring)
  · rw [if_neg hs, if_neg hs]
    exact ofBits_bot

theorem v56_at (β h : Fin 4) (t : Fin 2048) : res_main_v56 V (ix3 β h t) = ((stab ((I.seq β).lf h) ((I.seq β).ig h) (t + 1) : ℝ) : EReal) := by
  have h45 := v45_at hV β h t
  have h54 := v54_at hV β h t
  unfold res_main_v56
  rw [maximumf_at, h45, rowMax_at (res_main_v54 V) _ ofBits_bot β h t _ h54]
  have hp := peak_fold ((I.seq β).lf h) ((I.seq β).ig h) 0 t (cum ((I.seq β).lf h) t) (fun s => if (s : ℕ) ≤ t then ((cum ((I.seq β).lf h) t + ((I.seq β).ig h s - cum ((I.seq β).lf h) s) : ℝ) : EReal) else ⊥)
    (fun s => by simp only [zero_add])
  rw [show peak ((I.seq β).lf h) ((I.seq β).ig h) 0 = 0 from rfl, add_zero, Nat.zero_add] at hp
  rw [hp, stab, cumBefore_succ]

end Cert.ReferenceIdeal.Mlstm
-- ==== Proof.RefB.lean ====
/-
  The reference, read at an index: the weighted scores, the hidden vectors, the final state, the four results.
-/
module

public import proofs.«01_k».proof.Proof.RefA
public import Idealize.ShloMosaic.Lib.Routing.OpsSet
public import Idealize.ShloMosaic.Lib.Routing.OpsPair

@[expose] public section

set_option maxRecDepth 16384
noncomputable section
open Idealize.ShloMosaic Idealize.ShloMosaic.TcCoe Idealize.SL.Sem
namespace Cert.ReferenceIdeal.Mlstm
open Cert.ReferenceIdeal Cert.ReferenceIdeal.Gen Cert.ReferenceIdeal.Value
open _root_.Mlstm Cert.KernelIdeal.Mlstm Idealize.ShloMosaic.Routing
open scoped BigOperators

variable {I : Inputs} {V : Valuation τ sig (Elt Ideal)} (hV : Holds I V)

/-- The exponential of minus infinity. -/
theorem exp_bot_sub (a : ℝ) : Ideal.exp ((⊥ : EReal) - (a : EReal)) = 0 := by
  rw [EReal.bot_sub]; rfl

/-- The two gates of a hidden row, of real projections: one output gate. -/
theorem gates_coe (o z : ℝ) : Ideal.div 1 (1 + Ideal.exp (-(o : EReal))) * ((z : EReal) * Ideal.div 1 (1 + Ideal.exp (-(z : EReal))))
    = ((ogate o z : ℝ) : EReal) := by
  have ho : (0 : ℝ) < 1 + Real.exp (-o) := by positivity
  have hz : (0 : ℝ) < 1 + Real.exp (-z) := by positivity
  rw [← EReal.coe_neg, ← EReal.coe_neg, exp_coe, exp_coe, show (1 : EReal) = ((1 : ℝ) : EReal) by norm_cast, ← EReal.coe_add,
    ← EReal.coe_add, div_coe' _ _ ho.ne', div_coe' _ _ hz.ne', ← EReal.coe_mul, ← EReal.coe_mul]
  refine congrArg _ ?_
  unfold ogate
  field_simp

include hV

/-- The weighted score of step `s` seen from step `t`, `0` for a later step. -/
theorem v62_at (β h : Fin 4) (t s : Fin 2048) : res_main_v62 V (ix4 β h t s)
    = ((if (s : ℕ) ≤ t then score ((I.seq β).lf h) ((I.seq β).ig h) ((I.seq β).q h) ((I.seq β).k h) t s else 0 : ℝ) : EReal) := by
  have h15 := v15_at hV
  have h39 := v39_at hV
  have h54 := v54_at hV
  have h56 := v56_at hV
  unfold res_main_v62
  generalize res_main_v15 V = X at *
  generalize res_main_v39 V = Y at *
  generalize res_main_v54 V = Z at *
  generalize res_main_v56 V = W at *
  change FVec Ideal S4x2048x8784 .f32 at X
  change FVec Ideal S4x4x2048x256 .f32 at Y
  change FVec Ideal S4x4x2048x2048 .f32 at Z
  change FVec Ideal S4x4x2048 .f32 at W
  pointwise
  simp only [h15, h39, h54, h56]
  simp only [mul_comm (h : ℕ) 256]
  have e : ∑ d : Fin 256, ((I.p β t ⟨256 * h + d, by omega⟩ : ℝ) : EReal) * (((I.seq β).k h s d : ℝ) : EReal)
      = ((∑ d, (I.seq β).q h t d * (I.seq β).k h s d : ℝ) : EReal) := by
    rw [coe_sum]
    exact Finset.sum_congr rfl fun d _ => (EReal.coe_mul _ _).symm
  refine (congrArg (fun z : EReal => z * _) e).trans ?_
  by_cases hs : (s : ℕ) ≤ t
  · rw [if_pos hs, if_pos hs, ← EReal.coe_sub, exp_coe, ← EReal.coe_mul]
    refine congrArg _ ?_
    unfold score wt stab
    rw [cumBefore_succ]
    congr 2
    ring
  · rw [if_neg hs, if_neg hs, exp_bot_sub, mul_zero]
    rfl

/-- The hidden vector of a step. -/
theorem v71_at (β h : Fin 4) (t : Fin 2048) (y : Fin 256) : res_main_v71 V (ix4 β h t y)
    = ((hid ((I.seq β).lf h) ((I.seq β).ig h) ((I.seq β).q h) ((I.seq β).k h) ((I.seq β).v h) t y : ℝ) : EReal) := by
  have h62 := v62_at hV
  have h40 := v40_at hV
  have h56 := v56_at hV
  unfold res_main_v71
  generalize res_main_v62 V = X at *
  generalize res_main_v40 V = Y at *
  generalize res_main_v56 V = W at *
  change FVec Ideal S4x4x2048x2048 .f32 at X
  change FVec Ideal S4x4x2048x256 .f32 at Y
  change FVec Ideal S4x4x2048 .f32 at W
  pointwise
  simp only [h62, h40, h56]
  have e1 : ∑ s : Fin 2048, ((if (s : ℕ) ≤ t then score ((I.seq β).lf h) ((I.seq β).ig h) ((I.seq β).q h) ((I.seq β).k h) t s else 0 : ℝ) : EReal)
      * (((I.seq β).v h s y : ℝ) : EReal)
      = ((numer ((I.seq β).lf h) ((I.seq β).ig h) ((I.seq β).q h) ((I.seq β).k h) ((I.seq β).v h) t y : ℝ) : EReal) := by
    unfold numer
    rw [← sum_causal t (fun s => score ((I.seq β).lf h) ((I.seq β).ig h) ((I.seq β).q h) ((I.seq β).k h) t s * (I.seq β).v h s y), coe_sum]
    refine Finset.sum_congr rfl fun s _ => ?_
    rw [← EReal.coe_mul]
    refine congrArg _ ?_
    split <;> simp
  have e2 : ∑ s : Fin 2048, ((if (s : ℕ) ≤ t then score ((I.seq β).lf h) ((I.seq β).ig h) ((I.seq β).q h) ((I.seq β).k h) t s else 0 : ℝ) : EReal)
      = ((denom ((I.seq β).lf h) ((I.seq β).ig h) ((I.seq β).q h) ((I.seq β).k h) t : ℝ) : EReal) := by
    unfold denom
    rw [← sum_causal t (fun s => score ((I.seq β).lf h) ((I.seq β).ig h) ((I.seq β).q h) ((I.seq β).k h) t s), coe_sum]
  rw [e1, e2, absf_coe, ← EReal.coe_neg, exp_coe, ← coe_max, div_coe' _ _ (ne_of_gt (lt_max_of_lt_right (Real.exp_pos _)))]
  rfl

/-- The stabiliser after the last step. -/
theorem v73_at (β h : Fin 4) : res_main_v73 V (ix2 β h) = ((stab ((I.seq β).lf h) ((I.seq β).ig h) 2048 : ℝ) : EReal) := by
  refine Eq.trans ?_ (v56_at hV β h ⟨2047, by omega⟩)
  unfold res_main_v73
  generalize res_main_v56 V = W
  change FVec Ideal S4x4x2048 .f32 at W
  pointwise

/-- The weight of a step in the final state. -/
theorem v81_at (β h : Fin 4) (s : Fin 2048) : res_main_v81 V (ix3 β h s) = ((wt ((I.seq β).lf h) ((I.seq β).ig h) 2048 s : ℝ) : EReal) := by
  have h45 := v45_at hV
  have h41 := v41_at hV
  have h73 := v73_at hV
  unfold res_main_v81
  generalize res_main_v45 V = X at *
  generalize res_main_v41 V = Y at *
  generalize res_main_v73 V = Z at *
  change FVec Ideal S4x4x2048 .f32 at X
  change FVec Ideal S4x4x2048 .f32 at Y
  change FVec Ideal S4x4 .f32 at Z
  pointwise
  simp only [h45, h41, h73, ← EReal.coe_sub, ← EReal.coe_add, exp_coe]
  refine congrArg _ ?_
  unfold wt stab
  have e : cumBefore ((I.seq β).lf h) 2048 = cum ((I.seq β).lf h) 2047 := rfl
  rw [e]
  refine congrArg _ ?_
  show cum _ 2047 - _ + _ - (cum _ 2047 + _) = _
  ring

omit hV

/-- The reference's final matrix memory, of the weights, the keys and the values. -/
def refC (X : FVec Ideal S4x4x2048 .f32) (Y Z : FVec Ideal S4x4x2048x256 .f32) : FVec Ideal S4x4x256x256 .f32 :=
  Host.dotGeneral dot_S4x4x2048x256_S4x4x2048x256_S4x4x256x256_2_2_3_3_01_01 none (mulf (broadcastInDim S4x4x2048x256 ![0, 1, 2, 3] bcast_S4x4x2048x1_S4x4x2048x256_0_1_2_3 (broadcastInDim S4x4x2048x1 ![0, 1, 2] bcast_S4x4x2048_S4x4x2048x1_0_1_2 X)) Y) Z

/-- The reference's final normaliser, of the weights and the keys. -/
def refN (X : FVec Ideal S4x4x2048 .f32) (Y : FVec Ideal S4x4x2048x256 .f32) : FVec Ideal S4x4x256 .f32 :=
  Host.dotGeneral dot_S4x4x2048_S4x4x2048x256_S4x4x256_2_2_n_3_01_01 none X Y

/-- The reference's stabilisers, in the first four of eight rows. -/
def refM (Z : FVec Ideal S4x4 .f32) : FVec Ideal S4x8x128 .f32 :=
  Host.scatter scatter_S4x8x128_S1_S4x4x128_012_n_1_0 (fun _ b => b) (broadcastInDim S4x8x128 ![] bcast_S_S4x8x128 (constant S_ .f32 0x00000000#32)) (broadcastInDim S1 ![] bcast_S_S1 (constantI S_ 32 0#32)) (broadcastInDim S4x4x128 ![0, 1, 2] bcast_S4x4x1_S4x4x128_0_1_2 (broadcastInDim S4x4x1 ![0, 1] bcast_S4x4_S4x4x1_0_1 Z))

/-- The reference's hidden rows, normalised and gated, of the projection, the `z` gate, the hidden vectors and the heads' gain. -/
def refO (P : FVec Ideal S4x2048x8784 .f32) (Z : FVec Ideal S4x2048x1024 .f32) (H : FVec Ideal S4x4x2048x256 .f32) (G : FVec Ideal S1x1024 .f32) : FVec Ideal S8192x1024 .bf16 :=
  truncf .bf16 (shapeCast _ (mulf (mulf (mulf (shapeCast _ (transpose S4x2048x4x256 [0, 2, 1, 3] (mulf H (broadcastInDim S4x4x2048x256 ![0, 1, 2, 3] bcast_S4x4x2048x1_S4x4x2048x256_0_1_2_3 (Host.rsqrt (addf (Host.divf (broadcastInDim S4x4x2048x1 ![0, 1, 2] bcast_S4x4x2048_S4x4x2048x1_0_1_2 (Host.reduceAdd (mulf H H) (constant S_ .f32 0x00000000#32) reducesTo_S4x4x2048x256_S4x4x2048_d3 h_S_)) (broadcastInDim S4x4x2048x1 ![] bcast_S_S4x4x2048x1 (constant S_ .f32 0x43800000#32))) (broadcastInDim S4x4x2048x1 ![] bcast_S_S4x4x2048x1 (constant S_ .f32 0x358637BD#32)))))) transposes_S4x4x2048x256_S4x2048x4x256_0_2_1_3) shapeCasts_S4x2048x4x256_S4x2048x1024) (broadcastInDim S4x2048x1024 ![0, 1, 2] bcast_S1x1x1024_S4x2048x1024_0_1_2 (broadcastInDim S1x1x1024 ![2] bcast_S1024_S1x1x1024_2 (shapeCast _ G shapeCasts_S1x1024_S1024)))) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (extractStridedSlice S4x2048x1024 ![0, 0, 3072] P slices_S4x2048x8784_S4x2048x1024_0_0_3072)))))) (mulf Z (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf Z)))))) shapeCasts_S4x2048x1024_S8192x1024) bitsLt_bf16_f32

/-- Where an update of the stabilisers' rows lands: at its own place. -/
theorem lands_rows (idx : IVec S1 32) (hidx : (idx (ix1 0)).toInt = 0) (k : S4x4x128.Idx) (ι : S4x8x128.Idx) :
    scatter_S4x8x128_S1_S4x4x128_012_n_1_0.resultIdx? k idx = some ι ↔ ∀ a : Fin 3, (k a).val = (ι a).val := by
  rw [resultIdx?_eq_some]
  have hs : ∀ a : Fin 3, scatter_S4x8x128_S1_S4x4x128_012_n_1_0.start k idx a = 0 := by
    intro a
    unfold ScatterDims.start
    split
    · refine (congrArg (fun i => (idx i).toInt) (?_ : _ = ix1 0)).trans hidx
      exact funext fun b => by
        match b with
        | ⟨0, _⟩ => exact Subsingleton.elim (α := Fin 1) _ _
    · rfl
  have hw : ∀ a : Fin 3, scatter_S4x8x128_S1_S4x4x128_012_n_1_0.window k a = (k a).val := by
    intro a
    match a with
    | ⟨0, _⟩ => rfl
    | ⟨1, _⟩ => rfl
    | ⟨2, _⟩ => rfl
  refine forall_congr' fun a => ?_
  rw [hs a, hw a, zero_add]
  exact Int.natCast_inj

/-- The stabilisers' rows: one stabiliser over each of the first four rows, `0` below. -/
theorem refM_at (Z : FVec Ideal S4x4 .f32) (β : Fin 4) (r : Fin 8) (l : Fin 128) :
    refM Z (ix3 β r l) = if h : (r : ℕ) < 4 then Z (ix2 β ⟨r, h⟩) else (0 : EReal) := by
  have hidx : ((broadcastInDim S1 ![] bcast_S_S1 (constantI S_ 32 0#32) : IVec S1 32) (ix1 0)).toInt = 0 := rfl
  unfold refM
  split
  · next h =>
    refine scatter_set_hit _ _ _ _ _ _ (fun k hk => ?_) (ix3 β ⟨r, h⟩ l) ((lands_rows _ hidx _ _).mpr fun a => ?_)
    · have e := (lands_rows _ hidx _ _).mp hk
      have ek : k = ix3 β ⟨r, h⟩ l := funext fun a => Fin.ext (by
        match a with
        | ⟨0, _⟩ => exact e 0
        | ⟨1, _⟩ => exact e 1
        | ⟨2, _⟩ => exact e 2)
      rw [ek]
      pointwise
    · match a with
      | ⟨0, _⟩ => rfl
      | ⟨1, _⟩ => rfl
      | ⟨2, _⟩ => rfl
  · next h =>
    rw [scatter_set_miss _ _ _ _ _ fun k hk => ?_]
    · pointwise
    · have e := (lands_rows _ hidx _ _).mp hk 1
      have := (k 1).isLt
      change (k 1).val < 4 at this
      change (k 1).val = r.val at e
      omega

include hV

/-- The final matrix memory. -/
theorem refC_at (β h : Fin 4) (x y : Fin 256) : refC (res_main_v81 V) (res_main_v39 V) (res_main_v40 V) (ix4 β h x y)
      = ((memC ((I.seq β).lf h) ((I.seq β).ig h) ((I.seq β).k h) ((I.seq β).v h) 2048 x y : ℝ) : EReal) := by
  have h81 := v81_at hV
  have h39 := v39_at hV
  have h40 := v40_at hV
  generalize res_main_v81 V = X at *
  generalize res_main_v39 V = Y at *
  generalize res_main_v40 V = Z at *
  change FVec Ideal S4x4x2048 .f32 at X
  change FVec Ideal S4x4x2048x256 .f32 at Y
  change FVec Ideal S4x4x2048x256 .f32 at Z
  pointwise [refC]
  simp only [h81, h39, h40, ← EReal.coe_mul]
  unfold memC
  rw [Finset.sum_range, coe_sum]
  exact Finset.sum_congr rfl fun s _ => congrArg _ (by ring)

/-- The final normaliser. -/
theorem refN_at (β h : Fin 4) (x : Fin 256) : refN (res_main_v81 V) (res_main_v39 V) (ix3 β h x)
      = ((memN ((I.seq β).lf h) ((I.seq β).ig h) ((I.seq β).k h) 2048 x : ℝ) : EReal) := by
  have h81 := v81_at hV
  have h39 := v39_at hV
  generalize res_main_v81 V = X at *
  generalize res_main_v39 V = Y at *
  change FVec Ideal S4x4x2048 .f32 at X
  change FVec Ideal S4x4x2048x256 .f32 at Y
  pointwise [refN]
  simp only [h81, h39, ← EReal.coe_mul]
  unfold memN
  rw [Finset.sum_range, coe_sum]
  exact Finset.sum_congr rfl fun s _ => congrArg _ (by ring)

/-- The hidden rows: the normalised hidden vector, the heads' gain, the output gate. -/
theorem refO_at (G : FVec Ideal S1x1024 .f32) (β h : Fin 4) (t : Fin 2048) (y : Fin 256) :
    refO (res_main_v15 V) (res_main_v26 V) (res_main_v71 V) G (ix2 ⟨2048 * β + t, by omega⟩ ⟨256 * h + y, by omega⟩)
      = ((rmsn (hid ((I.seq β).lf h) ((I.seq β).ig h) ((I.seq β).q h) ((I.seq β).k h) ((I.seq β).v h) t) y : ℝ) : EReal)
          * G (ix2 0 ⟨256 * h + y, by omega⟩) * (((I.seq β).og t ⟨256 * h + y, by omega⟩ : ℝ) : EReal) := by
  have h15 := v15_at hV
  have h26 := v26_at hV
  have h71 := v71_at hV
  generalize res_main_v15 V = X at *
  generalize res_main_v26 V = Y at *
  generalize res_main_v71 V = Z at *
  change FVec Ideal S4x2048x8784 .f32 at X
  change FVec Ideal S4x2048x1024 .f32 at Y
  change FVec Ideal S4x4x2048x256 .f32 at Z
  pointwise [refO]
  simp only [h15, h26, h71]
  rw [ofBits_256, ofBits_eps, show ((256 : ℝ) : EReal) = (((256 : ℕ) : ℝ) : EReal) by norm_num, rmsn_coe (by norm_num),
    mul_assoc _ (Ideal.div 1 _) _, gates_coe]
  rfl

end Cert.ReferenceIdeal.Mlstm
-- ==== Proof.Ends.lean ====
/-
  Where the two programs meet: the arguments are real, and each of the kernel's four arrays is the reference's.
-/
module

public import proofs.«01_k».proof.Proof.Final
public import proofs.«01_k».proof.Proof.RefB
public import proofs.«01_k».proof.Defs

@[expose] public section

set_option maxRecDepth 16384
noncomputable section
open Idealize.ShloMosaic Idealize.ShloMosaic.TcCoe Idealize.SL.Sem

/-- The shape facts of the precondition. -/
theorem Cert.Pre_finite.facts : Cert.Pre_finite.Facts where
  bcast_S_S4x2048x2048 := by decide
  bcast_S_S1x2048 := by decide
  bcast_S_S1x2048x8784 := by decide
  bcast_S_S1x8 := by decide

namespace Cert.KernelIdeal.Mlstm
open Cert.KernelIdeal Cert.KernelIdeal.Gen
open _root_.Mlstm

/-- A value whose absolute value lies below the infinity is a real number. -/
theorem real_of_finite (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  have hlt : max x (-x) < ⊤ := by
    by_contra hn
    simp [Ideal.cmp, hn] at h
  rw [max_lt_iff] at hlt
  refine (EReal.coe_toReal hlt.1.ne ?_).symm
  rintro rfl
  simp at hlt

variable (m : (ℓ : Loc nD τ sig) → Buf (Elt Ideal) ℓ) (c : Dev nD)

/-- The real inputs the arguments hold. -/
def inputs : Inputs where
  x β t d := if h : t < 2048 then ((m ((c : Thread nD τ).loc main_arg0) : FVec Ideal S4x2048x2048 .f32) (ix3 β ⟨t, h⟩ d) : EReal).toReal else 0
  g d := ((m ((c : Thread nD τ).loc main_arg1) : FVec Ideal S1x2048 .f32) (ix2 0 d) : EReal).toReal
  w j d := ((m ((c : Thread nD τ).loc main_arg2) : FVec Ideal S1x2048x8784 .f32) (ix3 0 d j) : EReal).toReal
  b l := ((m ((c : Thread nD τ).loc main_arg3) : FVec Ideal S1x8 .f32) (ix2 0 l) : EReal).toReal

variable {m}

/-- Under the precondition the arguments hold real inputs. -/
theorem reals (hpre : Cert.Pre_KernelIdeal_finite (hPre_finite := Cert.Pre_finite.facts) m) : Reals m (inputs m c) c where
  x β t d := by
    refine (real_of_finite _ (congrFun (hpre c).1 (ix3 β t d))).trans ?_
    simp only [inputs, t.isLt, dif_pos]
  g d := real_of_finite _ (congrFun (hpre c).2.1 (ix2 0 d))
  w d j := real_of_finite _ (congrFun (hpre c).2.2.1 (ix3 0 d j))
  b l := real_of_finite _ (congrFun (hpre c).2.2.2 (ix2 0 l))

variable {c} {I : Inputs} {V : Valuation Cert.ReferenceIdeal.τ Cert.ReferenceIdeal.sig (Elt Ideal)}
open Cert.ReferenceIdeal.Mlstm Cert.ReferenceIdeal.Value

/-- The matrix memories agree. -/
theorem same_C (R : Reals m I c) (hV : Holds I V) :
    (dats m 0 c).arrAt 9 cfg0.N = refC (res_main_v81 V) (res_main_v39 V) (res_main_v40 V) :=
  final_C R _ fun β h x y => refC_at hV β h x y

/-- The normalisers agree. -/
theorem same_N (R : Reals m I c) (hV : Holds I V) :
    (dats m 0 c).arrAt 10 cfg0.N = refN (res_main_v81 V) (res_main_v39 V) :=
  final_N R _ fun β h x => refN_at hV β h x

/-- The stabilisers agree. -/
theorem same_M (R : Reals m I c) (hV : Holds I V) :
    (dats m 0 c).arrAt 11 cfg0.N = refM (res_main_v73 V) :=
  final_M R _ fun β r l => by
    rw [refM_at]
    unfold Seq.stabs
    split
    · exact v73_at hV β _
    · rfl

/-- The output rows agree. -/
theorem same_O (R : Reals m I c) (hV : Holds I V) :
    (dats m 0 c).arrAt 8 cfg0.N = refO (res_main_v15 V) (res_main_v26 V) (res_main_v71 V) (m ((c : Thread nD τ).loc main_arg4) : FVec Ideal S1x1024 .f32) :=
  final_O R _ fun β n r j => by
    have h := refO_at hV (m ((c : Thread nD τ).loc main_arg4) : FVec Ideal S1x1024 .f32) β ⟨j / 256, by omega⟩ ⟨256 * n + r, by omega⟩ ⟨j % 256, by omega⟩
    have hj : (⟨256 * (j / 256 : ℕ) + (j % 256 : ℕ), by omega⟩ : Fin 1024) = j := Fin.ext (by dsimp only; omega)
    simp only [hj] at h
    exact h

end Cert.KernelIdeal.Mlstm
-- ==== Proof.RefEnd.lean ====
/-
  The reference's run, its results named.
-/
module

public import proofs.«01_k».proof.Proof.RefB
public import proofs.«01_k».proof.Proof.Gen.ReferenceIdeal.Run

@[expose] public section

set_option maxRecDepth 16384
noncomputable section
open Idealize.ShloMosaic Idealize.ShloMosaic.TcCoe Idealize.SL.Sem Idealize.ShloMosaic.StableHlo
namespace Cert.ReferenceIdeal.Mlstm
open Cert.ReferenceIdeal Cert.ReferenceIdeal.Gen Cert.ReferenceIdeal.Value

/-- The reference ends with its four results at the named terms and its arguments unchanged. -/
theorem ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = refO (res_main_v15 (launchContents m c)) (res_main_v26 (launchContents m c)) (res_main_v71 (launchContents m c))
          (m ((c.tc : Thread nD τ).loc main_arg4))
      ∧ r.2.mem ((c.tc : Thread nD τ).loc main_v85) = refC (res_main_v81 (launchContents m c)) (res_main_v39 (launchContents m c)) (res_main_v40 (launchContents m c))
      ∧ r.2.mem ((c.tc : Thread nD τ).loc main_v86) = refN (res_main_v81 (launchContents m c)) (res_main_v39 (launchContents m c))
      ∧ r.2.mem ((c.tc : Thread nD τ).loc main_v116) = refM (res_main_v73 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono ?_ (Cert.ReferenceIdeal.Value.run m ρ)
  intro r h c
  obtain ⟨ho, hc, hn, hm, ha⟩ := h c
  refine ⟨?_, ?_, ?_, ?_, ha⟩
  · unfold refO
    exact ho
  · unfold refC
    exact hc
  · unfold refN
    exact hn
  · unfold refM
    exact hm

end Cert.ReferenceIdeal.Mlstm
-- ==== Proof.MixMath.lean ====
/-
  The memory read and the mix-out as one closed form over extended reals: what both programs of the second call compute.
-/
module

public import proofs.«01_k».proof.Proof.Consts
public import Idealize.ShloMosaic.Lib.Pointwise

@[expose] public section

noncomputable section

namespace Mix

open Idealize.ShloMosaic
open scoped BigOperators

/-- The largest score. -/
def peak {n : ℕ} (s : Fin n → EReal) : EReal := Finset.univ.fold max ⊥ s

/-- The weight of one score before normalising. -/
def weight {n : ℕ} (s : Fin n → EReal) (j : Fin n) : EReal := Ideal.exp (s j - peak s)

/-- The values averaged by their weights, the sum divided once. -/
def attend {n : ℕ} (s v : Fin n → EReal) : EReal := Ideal.div (∑ j, weight s j * v j) (∑ j, weight s j)

/-- The largest of real scores is real. -/
theorem peak_real {n : ℕ} (hn : 0 < n) (σ : Fin n → ℝ) : ∃ M : ℝ, peak (fun j => ((σ j : ℝ) : EReal)) = ((M : ℝ) : EReal) := by
  have ht : peak (fun j => ((σ j : ℝ) : EReal)) < ⊤ := by
    unfold peak
    rw [Finset.fold_max_lt]
    exact ⟨bot_lt_top, fun j _ => EReal.coe_lt_top _⟩
  have hb : ⊥ < peak (fun j => ((σ j : ℝ) : EReal)) := by
    unfold peak
    rw [Finset.lt_fold_max]
    exact Or.inr ⟨⟨0, hn⟩, Finset.mem_univ _, EReal.bot_lt_coe _⟩
  exact ⟨_, (EReal.coe_toReal ht.ne hb.ne').symm⟩

/-- A sum of extended reals times a real that is not negative. -/
theorem sum_mul_real {n : ℕ} (f : Fin n → EReal) (a : ℝ) (ha : 0 ≤ a) : (∑ j, f j) * (a : EReal) = ∑ j, f j * (a : EReal) := by
  have h : ∀ t : Finset (Fin n), (∑ j ∈ t, f j) * (a : EReal) = ∑ j ∈ t, f j * (a : EReal) := fun t => by
    induction t using Finset.induction_on with
    | empty => simp
    | insert j t hj ih =>
      rw [Finset.sum_insert hj, Finset.sum_insert hj, ← ih]
      exact EReal.right_distrib_of_nonneg_of_ne_top (EReal.coe_nonneg.mpr ha) (EReal.coe_ne_top a) _ _
  exact h _

/-- With real scores, averaging by the normalised weights is averaging and dividing once. -/
theorem attend_eq {n : ℕ} (hn : 0 < n) (s v : Fin n → EReal) (σ : Fin n → ℝ) (hs : ∀ j, s j = ((σ j : ℝ) : EReal)) :
    ∑ j, v j * Ideal.div (weight s j) (∑ i, weight s i) = attend s v := by
  obtain rfl : s = fun j => ((σ j : ℝ) : EReal) := funext hs
  obtain ⟨M, hM⟩ := peak_real hn σ
  have hw : ∀ j, weight (fun j => ((σ j : ℝ) : EReal)) j = ((Real.exp (σ j - M) : ℝ) : EReal) := fun j => by
    unfold weight
    rw [hM, ← EReal.coe_sub, Mlstm.exp_coe]
  have hp : 0 < ∑ j, Real.exp (σ j - M) :=
    Finset.sum_pos (fun j _ => Real.exp_pos _) ⟨⟨0, hn⟩, Finset.mem_univ _⟩
  unfold attend
  simp only [hw, ← Mlstm.coe_sum]
  have hd : ∀ x : EReal, Ideal.div x ((∑ j, Real.exp (σ j - M) : ℝ) : EReal) = x * (((∑ j, Real.exp (σ j - M))⁻¹ : ℝ) : EReal) := fun x => by
    unfold Ideal.div
    rw [if_neg (by exact_mod_cast hp.ne'), EReal.coe_inv]
  simp only [hd]
  rw [sum_mul_real _ _ (inv_nonneg.mpr hp.le)]
  refine Finset.sum_congr rfl fun j _ => ?_
  rw [← mul_assoc, mul_comm (v j)]

/-- A sum over the mixed columns, branch by branch. -/
theorem sum_branches (f : Fin 2048 → EReal) : ∑ d, f d = (∑ d : Fin 1024, f ⟨d.val, by omega⟩) + (∑ d : Fin 512, f ⟨1024 + d.val, by omega⟩)
    + ∑ d : Fin 512, f ⟨1536 + d.val, by omega⟩ := by
  rw [show ∑ d, f d = ∑ d : Fin ((1024 + 512) + 512), f d from rfl, Fin.sum_univ_add, Fin.sum_univ_add]
  rfl

/-- The gate `z · σ(z)`. -/
def gate (z : EReal) : EReal := z * Ideal.div 1 (1 + Ideal.exp (0 - z))

/-- An entry of a row divided by the row's root mean square. -/
def rms {n : ℕ} (f : Fin n → EReal) (y : Fin n) : EReal :=
  f y * Ideal.rsqrt (Ideal.div (∑ x, f x * f x) ((n : ℝ) : EReal) + (Mlstm.eps : EReal))

/-- The arrays the call takes. -/
structure Arrays where
  x : Fin 8192 → Fin 2048 → EReal
  a : Fin 8192 → Fin 1024 → EReal
  b : Fin 8192 → Fin 512 → EReal
  q : Fin 8192 → Fin 512 → EReal
  z : Fin 8192 → Fin 512 → EReal
  keys : Fin 4096 → Fin 128 → EReal
  vals : Fin 4096 → Fin 128 → EReal
  w : Fin 2048 → Fin 2048 → EReal
  g : Fin 2048 → EReal

/-- The memory's row of a request's slot and a head. -/
def slot (ρ : Fin 8192) (h : Fin 4) (j : Fin 256) : Fin 4096 := ⟨1024 * (ρ.val / 2048) + (4 * j.val + h.val), by omega⟩

/-- A head's column. -/
def col (h : Fin 4) (e : Fin 128) : Fin 512 := ⟨128 * h.val + e.val, by omega⟩

namespace Arrays
variable (A : Arrays) (ρ : Fin 8192)

/-- The score of a slot for a row's query. -/
def score (h : Fin 4) (j : Fin 256) : EReal := ∑ d, A.q ρ (col h d) * A.keys (slot ρ h j) d

/-- What a head reads of the memory, gated. -/
def read (h : Fin 4) (e : Fin 128) : EReal := attend (A.score ρ h) (fun j => A.vals (slot ρ h j) e) * gate (A.z ρ (col h e))

/-- The heads side by side. -/
def heads (d : Fin 512) : EReal := A.read ρ ⟨d.val / 128, by omega⟩ ⟨d.val % 128, by omega⟩

/-- A row through the output projection, branch by branch. -/
def mixed (y : Fin 2048) : EReal :=
  (∑ d : Fin 1024, A.a ρ d * A.w ⟨d.val, by omega⟩ y) + (∑ d : Fin 512, A.b ρ d * A.w ⟨1024 + d.val, by omega⟩ y)
    + ∑ d : Fin 512, A.heads ρ d * A.w ⟨1536 + d.val, by omega⟩ y

/-- The row after the branch. -/
def out (y : Fin 2048) : EReal := A.x ρ y + rms (A.mixed ρ) y * A.g y

end Arrays

/-- The arrays, read off the call's arguments. -/
def arrays (X : FVec Ideal ⟨3, ![4, 2048, 2048]⟩ .f32) (A : FVec Ideal ⟨2, ![8192, 1024]⟩ .bf16) (B Q : FVec Ideal ⟨2, ![8192, 512]⟩ .bf16)
    (Z : FVec Ideal ⟨2, ![8192, 512]⟩ .f32) (K V : FVec Ideal ⟨2, ![4096, 128]⟩ .f32) (W : FVec Ideal ⟨3, ![1, 2048, 2048]⟩ .f32)
    (G : FVec Ideal ⟨2, ![1, 2048]⟩ .f32) : Arrays where
  x ρ d := X (ix3 ⟨ρ.val / 2048, by omega⟩ ⟨ρ.val % 2048, by omega⟩ d)
  a ρ d := A (ix2 ρ d)
  b ρ d := B (ix2 ρ d)
  q ρ d := Q (ix2 ρ d)
  z ρ d := Z (ix2 ρ d)
  keys i d := K (ix2 i d)
  vals i d := V (ix2 i d)
  w d y := W (ix3 0 d y)
  g y := G (ix2 0 y)

end Mix
-- ==== Proof.MixPay.lean ====
/-
  The arithmetic of one block of the second call's kernel: a head's read of the memory, the heads side by side, the
  projection and the norm.
-/
module

public import proofs.«01_k».proof.Proof.Gen.Kernel2Ideal.Skeleton
public import proofs.«01_k».proof.Proof.MixMath
public import Idealize.ShloMosaic.Lib.Pointwise

@[expose] public section

set_option maxRecDepth 16384
noncomputable section
open Idealize.ShloMosaic Idealize.ShloMosaic.TcCoe Idealize.SL.Sem
namespace Cert.Kernel2Ideal.Mix
open Cert.Kernel2Ideal Cert.Kernel2Ideal.Gen
open _root_.Mix Mlstm
open scoped BigOperators

/-- A head's read of the memory, gated, from the head's blocks. -/
def headOf (K V : FVec Ideal S256x128 .f32) (Q : FVec Ideal S512x128 .bf16) (Z : FVec Ideal S512x128 .f32) (r : Fin 512) (e : Fin 128) : EReal :=
  attend (fun j : Fin 256 => ∑ d : Fin 128, Q (ix2 r d) * K (ix2 j d)) (fun j => V (ix2 j e)) * gate (Z (ix2 r e))

section
variable (K V : FVec Ideal S256x128 .f32) (Q : FVec Ideal S512x128 .bf16) (Z : FVec Ideal S512x128 .f32)

/-- The first head's payload. -/
theorem first_at (r : Fin 512) (e : Fin 128) : k0_pay2 (F := Ideal) K V Q Z (ix2 r e) = headOf K V Q Z r e := by
  pointwise [k0_pay2]
  simp only [ofBits_bot]
  rfl

/-- The second head's payload. -/
theorem second_at (r : Fin 512) (e : Fin 128) :
    k0_pay6 (F := Ideal) (k0_pay3 V) (k0_pay4 K Q) (k0_pay5 K Q) Z (ix2 r e) = headOf K V Q Z r e := by
  pointwise [k0_pay6, k0_pay3, k0_pay4, k0_pay5]
  simp only [ofBits_bot]
  rfl

variable (K' V' : FVec Ideal S256x128 .f32) (Q' : FVec Ideal S512x128 .bf16) (Z' : FVec Ideal S512x128 .f32)
  (A B : FVec Ideal S512x128 .bf16)

/-- A column's head and place in it. -/
theorem by_col (F : Fin 4 → Fin 128 → EReal) (h : Fin 4) (e : Fin 128) (d : Fin 512) (hd : d.val = 128 * h.val + e.val) :
    F h e = F ⟨d.val / 128, by omega⟩ ⟨d.val % 128, by omega⟩ :=
  congrArg₂ F (Fin.ext (show h.val = d.val / 128 by omega)) (Fin.ext (show e.val = d.val % 128 by omega))

/-- The four heads side by side. -/
theorem heads_at (F : Fin 4 → Fin 128 → EReal) (r d : Fin 512) (h0 : ∀ e, A (ix2 r e) = F 0 e) (h1 : ∀ e, B (ix2 r e) = F 1 e)
    (h2 : ∀ e, headOf K V Q Z r e = F 2 e) (h3 : ∀ e, headOf K' V' Q' Z' r e = F 3 e) :
    k0_pay9 (F := Ideal) A B (k0_pay7 K V Q) Z (k0_pay8 Z) K' V' Q' Z' (ix2 r d) = F ⟨d.val / 128, by omega⟩ ⟨d.val % 128, by omega⟩ := by
  pointwise [k0_pay9, k0_pay7, k0_pay8]
  simp only [ofBits_bot]
  by_cases g0 : d.val < 128
  · rw [dif_pos g0]
    exact (h0 _).trans (by_col F 0 _ d (by show d.val = 128 * 0 + d.val; omega))
  rw [dif_neg g0]
  by_cases g1 : d.val - 128 < 128
  · rw [dif_pos g1]
    exact (h1 _).trans (by_col F 1 _ d (by show d.val = 128 * 1 + (d.val - 128); omega))
  rw [dif_neg g1]
  by_cases g2 : d.val - 128 - 128 < 128
  · rw [dif_pos g2]
    exact (h2 ⟨d.val - 128 - 128, g2⟩).trans (by_col F 2 _ d (by show d.val = 128 * 2 + (d.val - 128 - 128); omega))
  rw [dif_neg g2]
  exact (h3 ⟨d.val - 128 - 128 - 128, by omega⟩).trans (by_col F 3 _ d (by show d.val = 128 * 3 + (d.val - 128 - 128 - 128); omega))

end

/-- A row through the projection and the norm, added to what came in. -/
theorem row_at (H : FVec Ideal S512x512 .bf16) (A : FVec Ideal S512x1024 .bf16) (WA : FVec Ideal S1024x2048 .bf16)
    (B : FVec Ideal S512x512 .bf16) (WB WC : FVec Ideal S512x2048 .bf16) (G : FVec Ideal S1x2048 .f32) (X : FVec Ideal S512x2048 .f32)
    (r : Fin 512) (y : Fin 2048) :
    k0_pay1 (F := Ideal) H A WA B WB WC G X (ix2 r y)
      = X (ix2 r y) + rms (fun y : Fin 2048 => (∑ d : Fin 1024, A (ix2 r d) * WA (ix2 d y)) + (∑ d : Fin 512, B (ix2 r d) * WB (ix2 d y))
        + ∑ d : Fin 512, H (ix2 r d) * WC (ix2 d y)) y * G (ix2 0 y) := by
  pointwise [k0_pay1]
  simp only [ofBits_eps, ofBits_2048]
  unfold rms
  norm_num

end Cert.Kernel2Ideal.Mix
-- ==== Proof.MixOut.lean ====
/-
  The second call's result array: what every grid point's windows hold, what it writes, and the array after the run.
-/
module

public import proofs.«01_k».proof.Proof.Gen.Kernel2Ideal.Value
public import proofs.«01_k».proof.Proof.MixPay
public import Idealize.ShloMosaic.Lib.Pipeline.ValueKit
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.Kernel2Ideal.Mix
open Cert.Kernel2Ideal Cert.Kernel2Ideal.Gen
open _root_.Mix
open scoped BigOperators

variable (m : (ℓ : Loc nD τ sig) → Buf (Elt Ideal) ℓ) (c : Dev nD)

/-- The arrays the call is given. -/
def given : Arrays :=
  arrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Which block each window holds at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 4, 0] ∧ win0_6.index t = ![t.val / 4, 0]
    ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

/-- The row of the arrays that a block's row is. -/
def rowOf (t : Fin cfg0.N) (r : Fin 512) : Fin 8192 := ⟨512 * t.val + r.val, by have h : t.val < 16 := t.isLt; omega⟩

section
variable (t : Fin cfg0.N) (r : Fin 512)

theorem block_x (d : Fin 2048) : (iblk m c 0 t : FVec Ideal S512x2048 .f32) (ix2 r d) = (given m c).x (rowOf t r) d := by
  show _ = (m ((c : Thread nD τ).loc main_arg0) : FVec Ideal S4x2048x2048 .f32) _
  blk_simp [iblk]
  entry_read
  pointwise
  blk_ext [idx t, rowOf]

theorem block_a (d : Fin 1024) : (iblk m c 1 t : FVec Ideal S512x1024 .bf16) (ix2 r d) = (given m c).a (rowOf t r) d := by
  show _ = (m ((c : Thread nD τ).loc main_arg1) : FVec Ideal S8192x1024 .bf16) _
  blk_simp [iblk]
  rw [show V m c (Pipeline.arrRef spec0 1) = _ from V_main_arg1 m c]
  blk_ext [idx t, rowOf]

theorem block_b (d : Fin 512) : (iblk m c 2 t : FVec Ideal S512x512 .bf16) (ix2 r d) = (given m c).b (rowOf t r) d := by
  show _ = (m ((c : Thread nD τ).loc main_arg2) : FVec Ideal S8192x512 .bf16) _
  blk_simp [iblk]
  rw [show V m c (Pipeline.arrRef spec0 2) = _ from V_main_arg2 m c]
  blk_ext [idx t, rowOf]

theorem block_q (d : Fin 512) : (iblk m c 3 t : FVec Ideal S512x512 .bf16) (ix2 r d) = (given m c).q (rowOf t r) d := by
  show _ = (m ((c : Thread nD τ).loc main_arg3) : FVec Ideal S8192x512 .bf16) _
  blk_simp [iblk]
  rw [show V m c (Pipeline.arrRef spec0 3) = _ from V_main_arg3 m c]
  blk_ext [idx t, rowOf]

theorem block_z (d : Fin 512) : (iblk m c 4 t : FVec Ideal S512x512 .f32) (ix2 r d) = (given m c).z (rowOf t r) d := by
  show _ = (m ((c : Thread nD τ).loc main_arg4) : FVec Ideal S8192x512 .f32) _
  blk_simp [iblk]
  rw [show V m c (Pipeline.arrRef spec0 4) = _ from V_main_arg4 m c]
  blk_ext [idx t, rowOf]

theorem block_k (i : Fin 1024) (d : Fin 128) (p : Fin 4096) (hp : p.val = 1024 * (t.val / 4) + i.val) :
    (iblk m c 5 t : FVec Ideal S1024x128 .f32) (ix2 i d) = (given m c).keys p d := by
  show _ = (m ((c : Thread nD τ).loc main_arg5) : FVec Ideal S4096x128 .f32) _
  blk_simp [iblk]
  rw [show V m c (Pipeline.arrRef spec0 5) = _ from V_main_arg5 m c]
  blk_ext [idx t]

theorem block_v (i : Fin 1024) (d : Fin 128) (p : Fin 4096) (hp : p.val = 1024 * (t.val / 4) + i.val) :
    (iblk m c 6 t : FVec Ideal S1024x128 .f32) (ix2 i d) = (given m c).vals p d := by
  show _ = (m ((c : Thread nD τ).loc main_arg6) : FVec Ideal S4096x128 .f32) _
  blk_simp [iblk]
  rw [show V m c (Pipeline.arrRef spec0 6) = _ from V_main_arg6 m c]
  blk_ext [idx t]

theorem block_wa (d : Fin 1024) (y : Fin 2048) : (iblk m c 7 t : FVec Ideal S1024x2048 .bf16) (ix2 d y) = (given m c).w ⟨d.val, by omega⟩ y := by
  show _ = (m ((c : Thread nD τ).loc main_arg7) : FVec Ideal S1x2048x2048 .f32) _
  blk_simp [iblk]
  entry_read
  pointwise
  blk_ext [idx t]

theorem block_wb (d : Fin 512) (y : Fin 2048) : (iblk m c 8 t : FVec Ideal S512x2048 .bf16) (ix2 d y) = (given m c).w ⟨1024 + d.val, by omega⟩ y := by
  show _ = (m ((c : Thread nD τ).loc main_arg7) : FVec Ideal S1x2048x2048 .f32) _
  blk_simp [iblk]
  entry_read
  pointwise
  blk_ext [idx t]

theorem block_wc (d : Fin 512) (y : Fin 2048) : (iblk m c 9 t : FVec Ideal S512x2048 .bf16) (ix2 d y) = (given m c).w ⟨1536 + d.val, by omega⟩ y := by
  show _ = (m ((c : Thread nD τ).loc main_arg7) : FVec Ideal S1x2048x2048 .f32) _
  blk_simp [iblk]
  entry_read
  pointwise
  blk_ext [idx t]

theorem block_g (y : Fin 2048) : (iblk m c 10 t : FVec Ideal S1x2048 .f32) (ix2 0 y) = (given m c).g y := by
  show _ = (m ((c : Thread nD τ).loc main_arg8) : FVec Ideal S1x2048 .f32) _
  blk_simp [iblk]
  entry_read
  pointwise
  blk_ext [idx t]

end

/-- Every fourth row of a block, loaded through a whole buffer. -/
theorem every_fourth {mr : Memref sig .tc .vmem S1024x128 .f32} (hm : mr.IsWhole) (X : FVec Ideal S1024x128 .f32) (o : ℕ) (ho : o < 4)
    (inb) (j : Fin 256) (d : Fin 128) :
    (View.readAt (Elt Ideal) mr.view ⟨![o, 0], ![256, 128], ![4, 1], inb⟩ (hm.unread X) : FVec Ideal S256x128 .f32) (ix2 j d)
      = X (ix2 ⟨4 * j.val + o, by omega⟩ d) := by
  rw [View.readAt_apply, Memref.IsWhole.read_unread]
  refine congrArg X (funext fun a => Fin.ext ?_)
  match a with
  | ⟨0, _⟩ => show o + 4 * j.val = 4 * j.val + o; omega
  | ⟨1, _⟩ => show 0 + 1 * d.val = d.val; omega

/-- A head's columns of a block. -/
theorem columns_at {e : EltTy} (X : S512x512.Idx → Elt Ideal e) (h : Fin 4) (o : ℕ) (ho : o = 128 * h.val) (inb) (r : Fin 512) (d : Fin 128) :
    (View.ld (Val := Elt Ideal) X (Rect.unit (s := S512x512) ![0, o] ![512, 128] inb) : S512x128.Idx → Elt Ideal e) (ix2 r d) = X (ix2 r (col h d)) := by
  refine congrArg X (funext fun a => Fin.ext ?_)
  match a with
  | ⟨0, _⟩ => show 0 + 1 * r.val = r.val; omega
  | ⟨1, _⟩ => show o + 1 * d.val = 128 * h.val + d.val; omega

section
variable (t : Fin cfg0.N) (r : Fin 512)

/-- What a head's blocks hold, so what it reads. -/
theorem head_at (h : Fin 4) (K V : FVec Ideal S256x128 .f32) (Q : FVec Ideal S512x128 .bf16) (Z : FVec Ideal S512x128 .f32)
    (hK : ∀ j d, K (ix2 j d) = (iblk m c 5 t : FVec Ideal S1024x128 .f32) (ix2 ⟨4 * j.val + h.val, by omega⟩ d))
    (hV : ∀ j d, V (ix2 j d) = (iblk m c 6 t : FVec Ideal S1024x128 .f32) (ix2 ⟨4 * j.val + h.val, by omega⟩ d))
    (hQ : ∀ d, Q (ix2 r d) = (iblk m c 3 t : FVec Ideal S512x512 .bf16) (ix2 r (col h d)))
    (hZ : ∀ d, Z (ix2 r d) = (iblk m c 4 t : FVec Ideal S512x512 .f32) (ix2 r (col h d))) (e : Fin 128) :
    headOf K V Q Z r e = (given m c).read (rowOf t r) h e := by
  have hs : ∀ j : Fin 256, (slot (rowOf t r) h j).val = 1024 * (t.val / 4) + (4 * j.val + h.val) := fun j => by
    show 1024 * ((512 * t.val + r.val) / 2048) + (4 * j.val + h.val) = _; omega
  unfold headOf Arrays.read Arrays.score
  simp only [hK, hV, hQ, hZ, block_q, block_z, fun j d => block_k m c t ⟨4 * j.val + h.val, by omega⟩ d (slot (rowOf t r) h j) (hs j),
    fun j d => block_v m c t ⟨4 * j.val + h.val, by omega⟩ d (slot (rowOf t r) h j) (hs j)]
end

/-- What a point writes at an entry. -/
theorem point_at (t : Fin cfg0.N) (r : Fin 512) (y : Fin 2048) (H : FVec Ideal S512x512 .bf16)
    (hH : ∀ d, H (ix2 r d) = (given m c).heads (rowOf t r) d) :
    k0_pay1 (F := Ideal) H (iblk m c 1 t) (iblk m c 7 t) (iblk m c 2 t) (iblk m c 8 t) (iblk m c 9 t) (iblk m c 10 t) (iblk m c 0 t) (ix2 r y)
      = (given m c).out (rowOf t r) y := by
  rw [row_at]
  unfold Arrays.out Arrays.mixed
  simp only [block_x, block_a, block_b, block_wa, block_wb, block_wc, block_g, hH]

/-- The result array after the run. -/
theorem final (X : FVec Ideal S8192x2048 .f32) (hX : ∀ ρ y, X (ix2 ρ y) = (given m c).out ρ y) : (dats m 0 c).arrAt 11 cfg0.N = X := by
  refine (dats m 0 c).arrAt_eq_of_covers 11 _ (by decide +kernel) fun t hf y => ?_
  blk_simp
  rw [after0_11]
  unfold outsAt0
  frame_out
  idx_vars y
  refine Eq.trans (point_at m c t y0 y1 _ fun d => ?_) ((hX (rowOf t y0) y1).symm.trans ?_)
  · refine heads_at _ _ _ _ _ _ _ _ _ _ ((given m c).read (rowOf t y0)) y0 d (fun e => ?_) (fun e => ?_) (fun e => ?_) (fun e => ?_)
    · rw [first_at]
      exact head_at m c t y0 0 _ _ _ _ (fun j d => every_fourth _ _ 0 (by omega) _ j d) (fun j d => every_fourth _ _ 0 (by omega) _ j d)
        (fun d => columns_at _ 0 0 rfl _ _ _) (fun d => columns_at _ 0 0 rfl _ _ _) e
    · rw [second_at]
      exact head_at m c t y0 1 _ _ _ _ (fun j d => every_fourth _ _ 1 (by omega) _ j d) (fun j d => every_fourth _ _ 1 (by omega) _ j d)
        (fun d => columns_at _ 1 128 rfl _ _ _) (fun d => columns_at _ 1 128 rfl _ _ _) e
    · exact head_at m c t y0 2 _ _ _ _ (fun j d => every_fourth _ _ 2 (by omega) _ j d) (fun j d => every_fourth _ _ 2 (by omega) _ j d)
        (fun d => columns_at _ 2 256 rfl _ _ _) (fun d => columns_at _ 2 256 rfl _ _ _) e
    · exact head_at m c t y0 3 _ _ _ _ (fun j d => every_fourth _ _ 3 (by omega) _ j d) (fun j d => every_fourth _ _ 3 (by omega) _ j d)
        (fun d => columns_at _ 3 384 rfl _ _ _) (fun d => columns_at _ 3 384 rfl _ _ _) e
  · blk_ext [idx t, rowOf]

end Cert.Kernel2Ideal.Mix
-- ==== Proof.MixRef.lean ====
/-
  The second call's reference, read at an index.
-/
module

public import proofs.«01_k».proof.Proof.Gen.Reference2Ideal.Run
public import proofs.«01_k».proof.Proof.MixMath
public import Idealize.ShloMosaic.Lib.Pointwise

@[expose] public section

set_option maxRecDepth 16384
noncomputable section
open Idealize.ShloMosaic Idealize.ShloMosaic.TcCoe Idealize.SL.Sem
namespace Cert.Reference2Ideal.Mix
open Cert.Reference2Ideal Cert.Reference2Ideal.Gen Cert.Reference2Ideal.Value
open _root_.Mix Mlstm
open scoped BigOperators

variable (X : FVec Ideal S4x2048x2048 .f32) (A : FVec Ideal S8192x1024 .bf16) (B Q : FVec Ideal S8192x512 .bf16) (Z : FVec Ideal S8192x512 .f32)
  (K V : FVec Ideal S4096x128 .f32) (W : FVec Ideal S1x2048x2048 .f32) (G : FVec Ideal S1x2048 .f32)

/-- The scores of the slots. -/
def scores : FVec Ideal S4x4x2048x256 .f32 :=
  Host.dotGeneral dot_S4x2048x4x128_S4x256x4x128_S4x4x2048x256_3_3_1_1_02_02 none
    (shapeCast _ (extf .f32 Q bitsLt_bf16_f32) shapeCasts_S8192x512_S4x2048x4x128) (shapeCast _ K shapeCasts_S4096x128_S4x256x4x128)

/-- The exponentials of scores less the largest. -/
def raised (S : FVec Ideal S4x4x2048x256 .f32) : FVec Ideal S4x4x2048x256 .f32 :=
  Host.exp (subf S (broadcastInDim S4x4x2048x256 ![0, 1, 2, 3] bcast_S4x4x2048x1_S4x4x2048x256_0_1_2_3
    (broadcastInDim S4x4x2048x1 ![0, 1, 2] bcast_S4x4x2048_S4x4x2048x1_0_1_2
      (maximumf (broadcastInDim S4x4x2048 ![] bcast_S_S4x4x2048 (constant S_ .f32 0xFF800000#32))
        (Host.reduce FloatOps.maximumf S (constant S_ .f32 0xFF800000#32) reducesTo_S4x4x2048x256_S4x4x2048_d3 h_S_)))))

/-- The weights normalised. -/
def shares (E : FVec Ideal S4x4x2048x256 .f32) : FVec Ideal S4x4x2048x256 .f32 :=
  Host.divf E (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd E (constant S_ .f32 0x00000000#32) reducesTo_S4x4x2048x256_S4x4x2048_d3 h_S_)))

/-- The heads' reads, gated. -/
def gated (P : FVec Ideal S4x4x2048x256 .f32) : FVec Ideal S8192x512 .f32 :=
  mulf (shapeCast _ (transpose S4x2048x4x128 [0, 3, 1, 2]
      (Host.dotGeneral dot_S4x256x4x128_S4x4x2048x256_S4x4x128x2048_1_3_3_2_02_01 none (shapeCast _ V shapeCasts_S4096x128_S4x256x4x128) P)
      transposes_S4x4x128x2048_S4x2048x4x128_0_3_1_2) shapeCasts_S4x2048x4x128_S8192x512)
    (mulf Z (Host.divf (broadcastInDim S8192x512 ![] bcast_S_S8192x512 (constant S_ .f32 0x3F800000#32))
      (addf (broadcastInDim S8192x512 ![] bcast_S_S8192x512 (constant S_ .f32 0x3F800000#32)) (Host.exp (Host.negf Z)))))

/-- The branches side by side, through the output projection. -/
def product (C : FVec Ideal S8192x512 .f32) : FVec Ideal S8192x2048 .f32 :=
  Host.dotGeneral (φ₁ := .f32) (φ₂ := .f32) dot_S8192x2048_S2048x2048_S8192x2048_1_0_0_1_n_n none
    ((concatenate S8192x2048 1 [⟨S8192x1024, ((extf .f32 A bitsLt_bf16_f32) : (⟨S8192x1024, .f32⟩ : BufTy).Contents (Elt Ideal))⟩,
      ⟨S8192x512, ((extf .f32 B bitsLt_bf16_f32) : (⟨S8192x512, .f32⟩ : BufTy).Contents (Elt Ideal))⟩,
      ⟨S8192x512, (C : (⟨S8192x512, .f32⟩ : BufTy).Contents (Elt Ideal))⟩]
      concatenates_S8192x1024_S8192x512_S8192x512_S8192x2048_d1 : (⟨S8192x2048, .f32⟩ : BufTy).Contents (Elt Ideal)))
    (shapeCast _ W shapeCasts_S1x2048x2048_S2048x2048)

/-- The norm of the projected rows, added to what came in. -/
def ended (D : FVec Ideal S8192x2048 .f32) : FVec Ideal S8192x2048 .f32 :=
  addf (shapeCast _ X shapeCasts_S4x2048x2048_S8192x2048) (mulf (mulf D
    (broadcastInDim S8192x2048 ![0, 1] bcast_S8192x1_S8192x2048_0_1 (Host.rsqrt (addf (Host.divf (broadcastInDim S8192x1 ![0] bcast_S8192_S8192x1_0
      (Host.reduceAdd (mulf D D) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 (shapeCast _ G shapeCasts_S1x2048_S2048))))

/-- The reference's result, stage by stage. -/
def result : FVec Ideal S8192x2048 .f32 :=
  ended X G (product A B W (gated Z V (shares (raised (scores Q K)))))

set_option maxHeartbeats 2000000 in
/-- The run's term is the stages' composition. -/
theorem res_eq (m : (ℓ : Loc nD τ sig) → Buf (Elt Ideal) ℓ) (c : Dev nD) :
    res_out0 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- A slot's score. -/
theorem scores_at (β h : Fin 4) (t : Fin 2048) (j : Fin 256) (ρ : Fin 8192) (hρ : ρ.val = 2048 * β.val + t.val) :
    scores Q K (ix4 β h t j) = (arrays X A B Q Z K V W G).score ρ h j := by
  pointwise [scores]
  unfold Arrays.score
  refine Finset.sum_congr rfl fun d _ => congrArg₂ (fun a b : EReal => a * b) (congrArg Q ?_) (congrArg K ?_)
  · exact congrArg₂ ix2 (Fin.ext (show β.val * 2048 + t.val = ρ.val by omega)) (Fin.ext (show h.val * 128 + d.val = 128 * h.val + d.val by omega))
  · exact congrArg (ix2 · d) (Fin.ext (show β.val * 1024 + j.val * 4 + h.val = 1024 * (ρ.val / 2048) + (4 * j.val + h.val) by omega))

/-- The largest score of a row and a head. -/
theorem top_at (S : FVec Ideal S4x4x2048x256 .f32) (init : FVec Ideal S_ .f32) (hi : init ix0 = (⊥ : EReal)) (β h : Fin 4) (t : Fin 2048) :
    Host.reduce FloatOps.maximumf S init reducesTo_S4x4x2048x256_S4x4x2048_d3 h_S_ (ix3 β h t) = peak (fun i : Fin 256 => S (ix4 β h t i)) := by
  rw [Host.reduce_eq_fold, Shape.ReducesTo.fold_fiber_r4_a3, show init (Shape.Idx.first h_S_) = (⊥ : EReal) from (congrArg init (funext fun a => a.elim0)).trans hi]
  rfl

/-- A slot's weight before normalising. -/
theorem raised_at (S : FVec Ideal S4x4x2048x256 .f32) (β h : Fin 4) (t : Fin 2048) (j : Fin 256) :
    raised S (ix4 β h t j) = weight (fun i : Fin 256 => S (ix4 β h t i)) j := by
  have hM := top_at S (constant S_ .f32 0xFF800000#32) (by pointwise; exact ofBits_bot) β h t
  unfold raised weight
  rw [← hM]
  generalize Host.reduce FloatOps.maximumf S (constant S_ .f32 0xFF800000#32) reducesTo_S4x4x2048x256_S4x4x2048_d3 h_S_ = M
  change FVec Ideal S4x4x2048 .f32 at M
  pointwise
  rw [ofBits_bot, max_eq_right bot_le]

/-- A slot's normalised weight. -/
theorem shares_at (S : FVec Ideal S4x4x2048x256 .f32) (β h : Fin 4) (t : Fin 2048) (j : Fin 256) :
    shares S (ix4 β h t j) = Ideal.div (S (ix4 β h t j)) (∑ i : Fin 256, S (ix4 β h t i)) := by
  pointwise [shares]

/-- A head's read at a column, gated. -/
theorem gated_at (P : FVec Ideal S4x4x2048x256 .f32) (ρ : Fin 8192) (d : Fin 512) :
    gated Z V P (ix2 ρ d) = (∑ j : Fin 256, V (ix2 (slot ρ ⟨d.val / 128, by omega⟩ j) ⟨d.val % 128, by omega⟩)
      * P (ix4 ⟨ρ.val / 2048, by omega⟩ ⟨d.val / 128, by omega⟩ ⟨ρ.val % 2048, by omega⟩ j)) * gate (Z (ix2 ρ d)) := by
  pointwise [gated]
  unfold gate
  rw [zero_sub]
  refine congrArg (· * _) (Finset.sum_congr rfl fun j _ => congrArg (· * _) (congrArg V ?_))
  exact congrArg (ix2 · _) (Fin.ext (show ρ.val / 2048 * 1024 + j.val * 4 + d.val / 128 = 1024 * (ρ.val / 2048) + (4 * j.val + d.val / 128) by omega))

/-- An entry of the projected rows, branch by branch. -/
theorem product_at (C : FVec Ideal S8192x512 .f32) (ρ : Fin 8192) (y : Fin 2048) :
    product A B W C (ix2 ρ y) = (∑ d : Fin 1024, A (ix2 ρ d) * W (ix3 0 ⟨d.val, by omega⟩ y)) + (∑ d : Fin 512, B (ix2 ρ d) * W (ix3 0 ⟨1024 + d.val, by omega⟩ y))
    + ∑ d : Fin 512, C (ix2 ρ d) * W (ix3 0 ⟨1536 + d.val, by omega⟩ y) := by
  pointwise [product]
  rw [sum_branches]
  have hd : ∀ d : Fin 512, ¬ 1024 + d.val < 1024 ∧ 1024 + d.val - 1024 < 512 ∧ ¬ 1536 + d.val < 1024 ∧ ¬ 1536 + d.val - 1024 < 512 := by
    intro d; omega
  refine congrArg₂ (fun a b : EReal => a + b) (congrArg₂ (fun a b : EReal => a + b) ?_ ?_) ?_
  · refine Finset.sum_congr rfl fun d _ => congrArg (· * _) ?_
    rw [dif_pos d.isLt]
  · refine Finset.sum_congr rfl fun d _ => congrArg (· * _) ?_
    rw [dif_neg (hd d).1, dif_pos (hd d).2.1]
    exact congrArg (fun i => B (ix2 ρ i)) (Fin.ext (show 1024 + d.val - 1024 = d.val by omega))
  · refine Finset.sum_congr rfl fun d _ => congrArg (· * _) ?_
    rw [dif_neg (hd d).2.2.1, dif_neg (hd d).2.2.2]
    exact congrArg (fun i => C (ix2 ρ i)) (Fin.ext (show 1536 + d.val - 1024 - 512 = d.val by omega))

/-- An entry of the result. -/
theorem ended_at (D : FVec Ideal S8192x2048 .f32) (ρ : Fin 8192) (y : Fin 2048) :
    ended X G D (ix2 ρ y) = X (ix3 ⟨ρ.val / 2048, by omega⟩ ⟨ρ.val % 2048, by omega⟩ y) + rms (fun y : Fin 2048 => D (ix2 ρ y)) y * G (ix2 0 y) := by
  pointwise [ended]
  simp only [ofBits_eps, ofBits_2048]
  unfold rms
  norm_num

/-- With real queries and keys, the reference's result is the closed form. -/
theorem result_at (hQ : ∀ ρ d, ∃ a : ℝ, Q (ix2 ρ d) = ((a : ℝ) : EReal)) (hK : ∀ i d, ∃ a : ℝ, K (ix2 i d) = ((a : ℝ) : EReal))
    (ρ : Fin 8192) (y : Fin 2048) : result X A B Q Z K V W G (ix2 ρ y) = (arrays X A B Q Z K V W G).out ρ y := by
  choose q hq using hQ
  choose k hk using hK
  have hs : ∀ h j, (arrays X A B Q Z K V W G).score ρ h j = ((∑ d, q ρ (col h d) * k (slot ρ h j) d : ℝ) : EReal) := fun h j => by
    unfold Arrays.score
    show ∑ d, Q (ix2 ρ (col h d)) * K (ix2 (slot ρ h j) d) = _
    simp only [hq, hk, ← EReal.coe_mul, ← coe_sum]
  unfold result Arrays.out
  rw [ended_at]
  refine congrArg (fun f : Fin 2048 → EReal => X (ix3 ⟨ρ.val / 2048, by omega⟩ ⟨ρ.val % 2048, by omega⟩ y) + rms f y * G (ix2 0 y)) (funext fun y => ?_)
  rw [product_at]
  unfold Arrays.mixed
  refine congrArg₂ (fun a b : EReal => a + b) rfl (Finset.sum_congr rfl fun d _ => congrArg (· * _) ?_)
  rw [gated_at]
  unfold Arrays.heads Arrays.read
  refine congrArg₂ (fun a b : EReal => a * b) ?_ (congrArg (fun i => gate (Z (ix2 ρ i))) (Fin.ext (show d.val = 128 * (d.val / 128) + d.val % 128 by omega)))
  rw [← attend_eq (by norm_num) _ _ _ (hs _)]
  refine Finset.sum_congr rfl fun j _ => congrArg (fun e : EReal => V (ix2 (slot ρ ⟨d.val / 128, by omega⟩ j) ⟨d.val % 128, by omega⟩) * e) ?_
  rw [shares_at]
  have hr : ∀ j, scores Q K (ix4 ⟨ρ.val / 2048, by omega⟩ ⟨d.val / 128, by omega⟩ ⟨ρ.val % 2048, by omega⟩ j)
      = (arrays X A B Q Z K V W G).score ρ ⟨d.val / 128, by omega⟩ j := fun j =>
    scores_at X A B Q Z K V W G _ _ _ _ ρ (show ρ.val = 2048 * (ρ.val / 2048) + ρ.val % 2048 by omega)
  simp only [raised_at, hr]

end Cert.Reference2Ideal.Mix
-- ==== Proof.MixEnds.lean ====
/-
  Where the second call's two programs meet: real queries and keys, and one closed form.
-/
module

public import proofs.«01_k».proof.Proof.MixOut
public import proofs.«01_k».proof.Proof.MixRef
public import proofs.«01_k».proof.Proof.Ends

@[expose] public section

set_option maxRecDepth 16384
noncomputable section
open Idealize.ShloMosaic Idealize.ShloMosaic.TcCoe Idealize.SL.Sem

/-- The shape facts of the second call's precondition. -/
theorem Cert.Pre_finite2.facts : Cert.Pre_finite2.Facts where
  bitsLt_bf16_f32 := by decide
  bcast_S_S8192x512 := by decide
  bcast_S_S4096x128 := by decide

namespace Cert.Kernel2Ideal.Mix
open Cert.Kernel2Ideal Cert.Kernel2Ideal.Gen
open _root_.Mix

/-- Under the precondition the kernel's result array is the reference's term. -/
theorem same (m : (ℓ : Loc nD τ sig) → Buf (Elt Ideal) ℓ) (c : Dev nD)
    (hpre : Cert.Pre_Kernel2Ideal_finite2 (hPre_finite2 := Cert.Pre_finite2.facts) m) :
    (dats m 0 c).arrAt 11 cfg0.N = Cert.Reference2Ideal.Mix.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) :=
  final m c _ fun ρ y => Cert.Reference2Ideal.Mix.result_at _ _ _ _ _ _ _ _ _
    (fun ρ d => ⟨_, Cert.KernelIdeal.Mlstm.real_of_finite _ (congrFun (hpre c).1 (ix2 ρ d))⟩)
    (fun i d => ⟨_, Cert.KernelIdeal.Mlstm.real_of_finite _ (congrFun (hpre c).2 (ix2 i d))⟩) ρ y

end Cert.Kernel2Ideal.Mix
-- ==== Proof.Stripes.lean ====
/-
  Stripes: every fourth row of an array of four heads' rows, and buffers written or read whole.
-/
module

public import Idealize.ShloMosaic.Lib.Pipeline.FrameBody
public import Idealize.ShloMosaic.Lib.Pointwise

@[expose] public section

set_option maxRecDepth 16384
noncomputable section
open Idealize.ShloMosaic
namespace Mem

/-- An entry lies in the stripe that its row's remainder names. -/
theorem in_stripe {N n : ℕ} {y : Shape.Idx ⟨2, ![N, 128]⟩} (o : ℕ) (h : (y (0 : Fin 2)).val % 4 = o) (inb) (pos) (hN : N ≤ 4 * n := by decide) :
    y ∈ (⟨⟨![o, 0], ![n, 128], ![4, 1], inb⟩, pos⟩ : Rect ⟨2, ![N, 128]⟩).set := by
  have h0 : (y (0 : Fin 2)).val < N := (y (0 : Fin 2)).isLt
  have h1 : (y (1 : Fin 2)).val < 128 := (y (1 : Fin 2)).isLt
  refine (Rect.toLoadRect _).mem_set.mpr fun a => ?_
  match a with
  | ⟨0, _⟩ => exact ⟨(y (0 : Fin 2)).val / 4, by show _ < n; omega, by show (y (0 : Fin 2)).val = o + 4 * ((y (0 : Fin 2)).val / 4); omega⟩
  | ⟨1, _⟩ => exact ⟨(y (1 : Fin 2)).val, h1, by show (y (1 : Fin 2)).val = 0 + 1 * (y (1 : Fin 2)).val; omega⟩

/-- The stripe written last holds its rows, -/
theorem stripe_hit {N n : ℕ} {Val : EltTy → Type} [∀ e, Nonempty (Val e)] {e : EltTy} (o : ℕ) (inb) (pos)
    (w : (⟨⟨![o, 0], ![n, 128], ![4, 1], inb⟩, pos⟩ : Rect ⟨2, ![N, 128]⟩).shape.Idx → Val e) (L : List (View.Piece Val ⟨2, ![N, 128]⟩ e))
    (j : Fin n) (d : Fin 128) (i : Fin N) (hi : i.val = 4 * j.val + o) :
    View.canon (⟨⟨⟨![o, 0], ![n, 128], ![4, 1], inb⟩, pos⟩, w⟩ :: L) (ix2 i d) = w (ix2 j d) := by
  rw [show (ix2 i d : Shape.Idx ⟨2, ![N, 128]⟩) = (⟨⟨![o, 0], ![n, 128], ![4, 1], inb⟩, pos⟩ : Rect ⟨2, ![N, 128]⟩).emb (ix2 j d) from funext fun a => Fin.ext (by
    match a with
    | ⟨0, _⟩ => show i.val = o + 4 * j.val; omega
    | ⟨1, _⟩ => show d.val = 0 + 1 * d.val; omega)]
  exact View.canon_cons_emb _ _ _ _

/-- and leaves the others as they were. -/
theorem stripe_miss {N n : ℕ} {Val : EltTy → Type} [∀ e, Nonempty (Val e)] {e : EltTy} (o : ℕ) (ho : o < 4) (inb) (pos)
    (w : (⟨⟨![o, 0], ![n, 128], ![4, 1], inb⟩, pos⟩ : Rect ⟨2, ![N, 128]⟩).shape.Idx → Val e) (L : List (View.Piece Val ⟨2, ![N, 128]⟩ e))
    (i : Fin N) (d : Fin 128) (hi : i.val % 4 ≠ o) :
    View.canon (⟨⟨⟨![o, 0], ![n, 128], ![4, 1], inb⟩, pos⟩, w⟩ :: L) (ix2 i d) = View.canon L (ix2 i d) := by
  refine View.canon_cons_of_not_mem _ _ fun h => hi ?_
  obtain ⟨j, -, hj⟩ := (Rect.toLoadRect _).mem_set.mp h 0
  have hj : i.val = o + 4 * j := hj
  omega

/-- A load of a whole buffer reads it. -/
theorem whole_read {sig : RefSig} {κ : Kind} {sp : Space} {d : Fin 2 → ℕ} {e : EltTy} {Val : EltTy → Type} (v : View sig κ sp ⟨2, d⟩ e)
    (f : v.ty.Contents Val) (inb) : v.readAt Val (Rect.unit (s := ⟨2, d⟩) ![0, 0] d inb).toLoadRect f = v.read Val f := by
  funext x
  refine congrArg (v.read Val f) (funext fun a => Fin.ext ?_)
  match a with
  | ⟨0, _⟩ => show 0 + 1 * (x 0).val = (x 0).val; omega
  | ⟨1, _⟩ => show 0 + 1 * (x 1).val = (x 1).val; omega

/-- The rectangle of a whole array keeps every index, -/
theorem whole_emb {d : Fin 2 → ℕ} (inb) (y : Shape.Idx ⟨2, d⟩) : (Rect.unit (s := ⟨2, d⟩) ![0, 0] d inb).emb y = y := funext fun a => Fin.ext (by
  match a with
  | ⟨0, _⟩ => show 0 + 1 * (y 0).val = (y 0).val; omega
  | ⟨1, _⟩ => show 0 + 1 * (y 1).val = (y 1).val; omega)

/-- and contains it. -/
theorem whole_mem {d : Fin 2 → ℕ} (inb) (y : Shape.Idx ⟨2, d⟩) : y ∈ (Rect.unit (s := ⟨2, d⟩) ![0, 0] d inb).set :=
  (Rect.toLoadRect _).mem_set.mpr fun a => by
    match a with
    | ⟨0, _⟩ => exact ⟨(y 0).val, (y 0).isLt, by show (y 0).val = 0 + 1 * (y 0).val; omega⟩
    | ⟨1, _⟩ => exact ⟨(y 1).val, (y 1).isLt, by show (y 1).val = 0 + 1 * (y 1).val; omega⟩

/-- A whole array written at once is what was written. -/
theorem read_filled {sig : RefSig} {κ : Kind} {sp : Space} {d : Fin 2 → ℕ} {e : EltTy} {Val : EltTy → Type} [∀ e, Nonempty (Val e)]
    (v : View sig κ sp ⟨2, d⟩ e) (f : v.ty.Contents Val) (w : Shape.Idx ⟨2, d⟩ → Val e) (inb) :
    v.read Val (v.writes Val f [⟨Rect.unit (s := ⟨2, d⟩) ![0, 0] d inb, w⟩]) = w := by
  have hc : ∀ y : Shape.Idx ⟨2, d⟩, ∃ p ∈ ([⟨Rect.unit (s := ⟨2, d⟩) ![0, 0] d inb, w⟩] : List (View.Piece Val ⟨2, d⟩ e)), y ∈ p.1.set :=
    fun y => ⟨⟨Rect.unit (s := ⟨2, d⟩) ![0, 0] d inb, w⟩, List.mem_singleton.mpr rfl, whole_mem inb y⟩
  refine (View.read_writes_eq_canon v f _ hc).trans (funext fun y => ?_)
  have h := View.canon_cons_emb (Val := Val) (Rect.unit (s := ⟨2, d⟩) ![0, 0] d inb) w [] y
  rwa [whole_emb inb y] at h

end Mem
-- ==== Proof.MemRun.lean ====
/-
  The third call's frame, idealized: a body that writes its two outputs in stripes of every fourth row, run at every grid point.
-/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Stripes
public import Idealize.ShloMosaic.Lib.Pipeline.FrameBody
public import Idealize.ShloMosaic.Lib.Ring
public import Idealize.ShloMosaic.Lib.Tactic
public import Idealize.ShloMosaic.Lib.Claim

@[expose] public section

set_option maxRecDepth 16384
noncomputable section
namespace Cert.Kernel3Ideal.Mem
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call begins. -/
abbrev V (c : Dev nD) (b : Ref sig .tc) : Buf (Elt F) ((c : Thread nD τ).loc b) := StableHlo.after hostOps0 (fun b => m (c, b)) b

/-- The host's operations are all old. -/
theorem host_fresh : (hostOps0 : List (HloOp τ sig (Elt F))).Forall fun op => op.fresh = ∅ := by
  simp only [List.Forall]; repeat' constructor

/-- The host's operations, then the call. -/
theorem enters (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The host's operations write none of the arguments. -/
theorem V_arg (c : Dev nD) (b : Ref sig .tc) (h0 : b ≠ main_v0) (h1 : b ≠ main_v1) (h2 : b ≠ main_v2) (h3 : b ≠ main_v3) (h4 : b ≠ main_v4)
    (h5 : b ≠ main_v5) (h6 : b ≠ main_v6) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- Window `w`'s block at point `t`. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A product's columns in their four heads, each head's written to every fourth row; the last written comes first. -/
def stripes (a : FVec F S256x512 .f32) : List (View.Piece (Elt F) S1024x128 .f32) :=
  [⟨⟨(⟨![3, 0], S256x128.size, ![4, 1], inb_S1024x128_S256x128_3_0_s_4_1⟩ : LoadRect S1024x128), spos_4_1⟩,
      extractStridedSlice S256x128 ![0, 384] a slices_S256x512_o0_384_S256x128⟩,
    ⟨⟨(⟨![2, 0], S256x128.size, ![4, 1], inb_S1024x128_S256x128_2_0_s_4_1⟩ : LoadRect S1024x128), spos_4_1⟩,
      extractStridedSlice S256x128 ![0, 256] a slices_S256x512_o0_256_S256x128⟩,
    ⟨⟨(⟨![1, 0], S256x128.size, ![4, 1], inb_S1024x128_S256x128_1_0_s_4_1⟩ : LoadRect S1024x128), spos_4_1⟩,
      extractStridedSlice S256x128 ![0, 128] a slices_S256x512_o0_128_S256x128⟩,
    ⟨⟨(⟨![0, 0], S256x128.size, ![4, 1], inb_S1024x128_S256x128_0_0_s_4_1⟩ : LoadRect S1024x128), spos_4_1⟩,
      extractStridedSlice S256x128 ![0, 0] a slices_S256x512_o0_0_S256x128⟩]

/-- The four stripes fill the block. -/
theorem stripes_cover (a : FVec F S256x512 .f32) (y : S1024x128.Idx) : ∃ p ∈ stripes a, y ∈ p.1.set := by
  obtain h | h | h | h : (y (0 : Fin 2)).val % 4 = 3 ∨ (y (0 : Fin 2)).val % 4 = 2 ∨ (y (0 : Fin 2)).val % 4 = 1 ∨ (y (0 : Fin 2)).val % 4 = 0 := by omega
  · exact ⟨_, List.mem_cons_self, Mem.in_stripe 3 h _ _⟩
  · exact ⟨_, List.mem_cons_of_mem _ List.mem_cons_self, Mem.in_stripe 2 h _ _⟩
  · exact ⟨_, List.mem_cons_of_mem _ (List.mem_cons_of_mem _ List.mem_cons_self), Mem.in_stripe 1 h _ _⟩
  · exact ⟨_, List.mem_cons_of_mem _ (List.mem_cons_of_mem _ (List.mem_cons_of_mem _ List.mem_cons_self)), Mem.in_stripe 0 h _ _⟩

set_option maxHeartbeats 1000000 in
/-- The body keeps its inputs and fills its outputs with the stripes of the two products. -/
theorem body_run (c : Dev nD) (i : grid0.Coords) (arg1 : Memref sig .tc .vmem S256x2048 .f32) (harg1 : arg1.IsWhole)
    (arg2 : Memref sig .tc .vmem S1x2048 .f32) (harg2 : arg2.IsWhole) (arg3 : Memref sig .tc .vmem S2048x512 .bf16) (harg3 : arg3.IsWhole)
    (arg4 : Memref sig .tc .vmem S2048x512 .bf16) (harg4 : arg4.IsWhole) (arg5 : Memref sig .tc .vmem S1024x128 .f32) (harg5 : arg5.IsWhole)
    (arg6 : Memref sig .tc .vmem S1024x128 .f32) (harg6 : arg6.IsWhole)
    (x0 : Vec F S256x2048 .f32) (x1 : Vec F S1x2048 .f32) (x2 x3 : Vec F S2048x512 .bf16) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (View.canon (stripes (k0_pay5 x0 x1 x2)))
            ∗ owns (c : Thread nD τ) arg6 fullShare (View.canon (stripes (k0_pay6 x0 x1 x3)))) -∗ K ⟨⟩))
      ⊢ wp frame (wpE (defs₀ (F := F)) Variants.none c none) E
          (cc0_memkv i arg1 harg1 arg2 harg2 arg3 harg3 arg4 harg4 arg5 harg5 arg6 harg6) K := by
  simp only [cc0_memkv_eq_skeleton]; unfold cc0_memkv_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    show View.read (Elt F) arg5.view (arg5.view.writes (Elt F) f4 (stripes (k0_pay5
      (View.readAt (Elt F) arg1.view (Rect.unit (s := S256x2048) ![0, 0] S256x2048.size inb_S256x2048_S256x2048_0_0).toLoadRect (harg1.unread x0))
      (View.readAt (Elt F) arg2.view (Rect.unit (s := S1x2048) ![0, 0] S1x2048.size inb_S1x2048_S1x2048_0_0).toLoadRect (harg2.unread x1))
      (View.readAt (Elt F) arg3.view (Rect.unit (s := S2048x512) ![0, 0] S2048x512.size inb_S2048x512_S2048x512_0_0).toLoadRect (harg3.unread x2))))) = _
    rw [(Mem.whole_read _ _ _).trans hf0, (Mem.whole_read _ _ _).trans hf1, (Mem.whole_read _ _ _).trans hf2]
    exact View.read_writes_eq_canon arg5.view _ _ (stripes_cover _)
  · iexists _; isplitr
    swap; · iexact H5
    ipureintro
    show View.read (Elt F) arg6.view (arg6.view.writes (Elt F) f5 (stripes (k0_pay6
      (View.readAt (Elt F) arg1.view (Rect.unit (s := S256x2048) ![0, 0] S256x2048.size inb_S256x2048_S256x2048_0_0).toLoadRect (harg1.unread x0))
      (View.readAt (Elt F) arg2.view (Rect.unit (s := S1x2048) ![0, 0] S1x2048.size inb_S1x2048_S1x2048_0_0).toLoadRect (harg2.unread x1))
      (View.readAt (Elt F) arg4.view (Rect.unit (s := S2048x512) ![0, 0] S2048x512.size inb_S2048x512_S2048x512_0_0).toLoadRect (harg4.unread x3))))) = _
    rw [(Mem.whole_read _ _ _).trans hf0, (Mem.whole_read _ _ _).trans hf1, (Mem.whole_read _ _ _).trans hf3]
    exact View.read_writes_eq_canon arg6.view _ _ (stripes_cover _)

/-- What the windows hold after the body at each point. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => View.canon (stripes (k0_pay5 (blockAt m c 0 t) (blockAt m c 1 t) (blockAt m c 2 t)))
    | ⟨5, _⟩ => View.canon (stripes (k0_pay6 (blockAt m c 0 t) (blockAt m c 1 t) (blockAt m c 3 t)))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) :
    (dats m 0 c).after 4 t = View.canon (stripes (k0_pay5 (blockAt m c 0 t) (blockAt m c 1 t) (blockAt m c 2 t))) := by dsimp only [dats]
theorem after_5 (c : Dev nD) (t : Fin cfg0.N) :
    (dats m 0 c).after 5 t = View.canon (stripes (k0_pay6 (blockAt m c 0 t) (blockAt m c 1 t) (blockAt m c 3 t))) := by dsimp only [dats]

/-- An input's buffer holds its block at every point, fetched there or kept from an earlier one. -/
theorem before_0 (c : Dev nD) (t : Fin cfg0.N) (d) : (dats m 0 c).before 0 t d = blockAt m c 0 t :=
  ((dats m 0 c).before_in_eq_fetched 0 rfl (fun _ => rfl) (fun _ _ _ => rfl) (fun t => by rw [after_0]; unfold Dat.blockOf blockAt; rw [A_eq]) t d).trans
    (by unfold Dat.fetched Dat.blockOf blockAt; rw [A_eq]; rfl)
theorem before_1 (c : Dev nD) (t : Fin cfg0.N) (d) : (dats m 0 c).before 1 t d = blockAt m c 1 t :=
  ((dats m 0 c).before_in_eq_fetched 1 rfl (fun _ => rfl) (fun _ _ _ => rfl) (fun t => by rw [after_1]; unfold Dat.blockOf blockAt; rw [A_eq]) t d).trans
    (by unfold Dat.fetched Dat.blockOf blockAt; rw [A_eq]; rfl)
theorem before_2 (c : Dev nD) (t : Fin cfg0.N) (d) : (dats m 0 c).before 2 t d = blockAt m c 2 t :=
  ((dats m 0 c).before_in_eq_fetched 2 rfl (fun _ => rfl) (fun _ _ _ => rfl) (fun t => by rw [after_2]; unfold Dat.blockOf blockAt; rw [A_eq]) t d).trans
    (by unfold Dat.fetched Dat.blockOf blockAt; rw [A_eq]; rfl)
theorem before_3 (c : Dev nD) (t : Fin cfg0.N) (d) : (dats m 0 c).before 3 t d = blockAt m c 3 t :=
  ((dats m 0 c).before_in_eq_fetched 3 rfl (fun _ => rfl) (fun _ _ _ => rfl) (fun t => by rw [after_3]; unfold Dat.blockOf blockAt; rw [A_eq]) t d).trans
    (by unfold Dat.fetched Dat.blockOf blockAt; rw [A_eq]; rfl)

/-- The body's obligation at a point: its windows before, its windows after. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (P := iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))))
    (Q := fun _ => iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t))) ?_ rfl .rfl fun _ => .rfl
  unfold bodyAt0
  simp only [before_0, before_1, before_2, before_3]
  rw [show (dats m 0 c).Φ t.succ = (dats m 0 c).Φ t.castSucc from rfl,
    show (dats m 0 c).owesAt () t.succ = (dats m 0 c).owesAt () t.castSucc from rfl, after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (blockAt m c 0 t) (blockAt m c 1 t) (blockAt m c 2 t) (blockAt m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- The launch: it terminates with every window's array written as the windows say and every counter at zero. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := enters m Variants.none) (hA := A_eq m) (hΦ := fun _ _ => rfl)

/-- The call's results, its arguments kept, and every counter at zero. -/
theorem ends : θ_run defs (onTc (τ := τ) (main (F := F))) ⟨m, fun _ => 0, ρ⟩ (fun r => (∀ c : Dev nD,
      r.2.mem ((c : Thread nD τ).loc main_v7_0) = (dats m 0 c).arrAt 4 cfg0.N
      ∧ r.2.mem ((c : Thread nD τ).loc main_v7_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨(h.1 c).1 4, (h.1 c).1 5,
      ((h.1 c).2 main_arg0 (Pipeline.mem_restRefs_of main_arg0 (by decide) (by decide))).trans
        (V_arg m c _ (by decide) (by decide) (by decide) (by decide) (by decide) (by decide) (by decide)),
      ((h.1 c).2 main_arg1 (Pipeline.mem_restRefs_of main_arg1 (by decide) (by decide))).trans
        (V_arg m c _ (by decide) (by decide) (by decide) (by decide) (by decide) (by decide) (by decide)),
      ((h.1 c).2 main_arg2 (Pipeline.mem_restRefs_of main_arg2 (by decide) (by decide))).trans
        (V_arg m c _ (by decide) (by decide) (by decide) (by decide) (by decide) (by decide) (by decide)),
      ((h.1 c).2 main_arg3 (Pipeline.mem_restRefs_of main_arg3 (by decide) (by decide))).trans
        (V_arg m c _ (by decide) (by decide) (by decide) (by decide) (by decide) (by decide) (by decide))⟩, h.2⟩) (launched m ρ)

end Cert.Kernel3Ideal.Mem
-- ==== Proof.MemMath.lean ====
/-
  What the third call computes: the memory's rows normalised and projected, the four heads' columns laid out as rows.
-/
module

public import proofs.«01_k».proof.Proof.MixMath

@[expose] public section

noncomputable section
open Idealize.ShloMosaic
namespace Mem
open Mix
open scoped BigOperators

/-- A product's entry in a row of the memory, normalised, and a column of the weights. -/
def entry (X : FVec Ideal ⟨3, ![4, 256, 2048]⟩ .f32) (G : FVec Ideal ⟨2, ![1, 2048]⟩ .f32) (W : FVec Ideal ⟨3, ![1, 2048, 512]⟩ .f32)
    (i : Fin 1024) (y : Fin 512) : EReal :=
  ∑ d : Fin 2048, rms (fun d : Fin 2048 => X (ix3 ⟨i.val / 256, by omega⟩ ⟨i.val % 256, by omega⟩ d)) d * G (ix2 0 d) * W (ix3 0 d y)

/-- The entries in the call's layout: four rows, one for each head, for every row of the memory. -/
def laid (X : FVec Ideal ⟨3, ![4, 256, 2048]⟩ .f32) (G : FVec Ideal ⟨2, ![1, 2048]⟩ .f32) (W : FVec Ideal ⟨3, ![1, 2048, 512]⟩ .f32)
    (ρ : Fin 4096) (e : Fin 128) : EReal :=
  entry X G W ⟨ρ.val / 4, by omega⟩ ⟨128 * (ρ.val % 4) + e.val, by omega⟩

end Mem
-- ==== Proof.MemOut.lean ====
/-
  The third call's two result arrays after the run.
-/
module

public import proofs.«01_k».proof.Proof.MemRun
public import proofs.«01_k».proof.Proof.MemMath
public import Idealize.ShloMosaic.Lib.Pointwise
public import Idealize.ShloMosaic.Lib.Pipeline.ValueKit
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.Kernel3Ideal.Mem
open Cert.Kernel3Ideal Cert.Kernel3Ideal.Gen
open _root_.Mem _root_.Mix Mlstm
open scoped BigOperators

/-- A block's product with the keys' weights, at an entry. -/
theorem keys_at (X : FVec Ideal S256x2048 .f32) (G : FVec Ideal S1x2048 .f32) (W : FVec Ideal S2048x512 .bf16) (r : Fin 256) (y : Fin 512) :
    k0_pay5 (F := Ideal) X G W (ix2 r y) = ∑ d : Fin 2048, rms (fun d : Fin 2048 => X (ix2 r d)) d * G (ix2 0 d) * W (ix2 d y) := by
  pointwise [k0_pay5, k0_pay4]
  simp only [ofBits_eps, ofBits_2048]
  unfold rms
  norm_num

/-- … and with the values' weights. -/
theorem vals_at (X : FVec Ideal S256x2048 .f32) (G : FVec Ideal S1x2048 .f32) (W : FVec Ideal S2048x512 .bf16) (r : Fin 256) (y : Fin 512) :
    k0_pay6 (F := Ideal) X G W (ix2 r y) = ∑ d : Fin 2048, rms (fun d : Fin 2048 => X (ix2 r d)) d * G (ix2 0 d) * W (ix2 d y) :=
  keys_at X G W r y

/-- The stripes of a product, read at a row of the block. -/
theorem stripes_at (a : FVec Ideal S256x512 .f32) (i : Fin 1024) (e : Fin 128) :
    (View.canon (stripes a) : FVec Ideal S1024x128 .f32) (ix2 i e) = a (ix2 ⟨i.val / 4, by omega⟩ ⟨128 * (i.val % 4) + e.val, by omega⟩) := by
  unfold stripes
  by_cases h3 : i.val % 4 = 3
  · refine (stripe_hit 3 _ _ _ _ ⟨i.val / 4, by omega⟩ e i (by show i.val = 4 * (i.val / 4) + 3; omega)).trans ?_
    pointwise
    exact congrArg (fun y => a (ix2 _ y)) (Fin.ext (show 384 + e.val = 128 * (i.val % 4) + e.val by omega))
  refine (stripe_miss 3 (by omega) _ _ _ _ i e h3).trans ?_
  by_cases h2 : i.val % 4 = 2
  · refine (stripe_hit 2 _ _ _ _ ⟨i.val / 4, by omega⟩ e i (by show i.val = 4 * (i.val / 4) + 2; omega)).trans ?_
    pointwise
    exact congrArg (fun y => a (ix2 _ y)) (Fin.ext (show 256 + e.val = 128 * (i.val % 4) + e.val by omega))
  refine (stripe_miss 2 (by omega) _ _ _ _ i e h2).trans ?_
  by_cases h1 : i.val % 4 = 1
  · refine (stripe_hit 1 _ _ _ _ ⟨i.val / 4, by omega⟩ e i (by show i.val = 4 * (i.val / 4) + 1; omega)).trans ?_
    pointwise
    exact congrArg (fun y => a (ix2 _ y)) (Fin.ext (show 128 + e.val = 128 * (i.val % 4) + e.val by omega))
  refine (stripe_miss 1 (by omega) _ _ _ _ i e h1).trans ?_
  refine (stripe_hit 0 _ _ _ _ ⟨i.val / 4, by omega⟩ e i (by show i.val = 4 * (i.val / 4) + 0; omega)).trans ?_
  pointwise
  exact congrArg (fun y => a (ix2 _ y)) (Fin.ext (show e.val = 128 * (i.val % 4) + e.val by omega))

variable (m : (ℓ : Loc nD τ sig) → Buf (Elt Ideal) ℓ) (c : Dev nD)

/-- Which block each window holds at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

section
variable (t : Fin cfg0.N)

/-- A point's rows of the memory. -/
theorem block_x (r : Fin 256) (d : Fin 2048) : (blockAt m c 0 t : FVec Ideal S256x2048 .f32) (ix2 r d)
    = (m ((c : Thread nD τ).loc main_arg0) : FVec Ideal S4x256x2048 .f32) (ix3 ⟨t.val, t.isLt⟩ r d) := by
  blk_simp [blockAt]
  entry_read
  pointwise
  blk_ext [idx t]

/-- The norm's gain. -/
theorem block_g (d : Fin 2048) : (blockAt m c 1 t : FVec Ideal S1x2048 .f32) (ix2 0 d)
    = (m ((c : Thread nD τ).loc main_arg1) : FVec Ideal S1x2048 .f32) (ix2 0 d) := by
  blk_simp [blockAt]
  entry_read
  pointwise
  blk_ext [idx t]

/-- The keys' weights. -/
theorem block_k (d : Fin 2048) (y : Fin 512) : (blockAt m c 2 t : FVec Ideal S2048x512 .bf16) (ix2 d y)
    = (m ((c : Thread nD τ).loc main_arg2) : FVec Ideal S1x2048x512 .f32) (ix3 0 d y) := by
  blk_simp [blockAt]
  entry_read
  pointwise
  blk_ext [idx t]

/-- The values' weights. -/
theorem block_v (d : Fin 2048) (y : Fin 512) : (blockAt m c 3 t : FVec Ideal S2048x512 .bf16) (ix2 d y)
    = (m ((c : Thread nD τ).loc main_arg3) : FVec Ideal S1x2048x512 .f32) (ix3 0 d y) := by
  blk_simp [blockAt]
  entry_read
  pointwise
  blk_ext [idx t]

end

/-- The keys' array after the run. -/
theorem final_k (X : FVec Ideal S4096x128 .f32) (hX : ∀ ρ e, X (ix2 ρ e) = laid (m ((c : Thread nD τ).loc main_arg0))
    (m ((c : Thread nD τ).loc main_arg1)) (m ((c : Thread nD τ).loc main_arg2)) ρ e) : (dats m 0 c).arrAt 4 cfg0.N = X := by
  refine (dats m 0 c).arrAt_eq_of_covers 4 _ (by decide +kernel) fun t hf y => ?_
  have ht : t.val < 4 := t.isLt
  blk_simp
  rw [after_4]
  idx_vars y
  refine (stripes_at _ y0 y1).trans (((keys_at _ _ _ _ _).trans ?_).trans ((hX ⟨1024 * t.val + y0.val, by omega⟩ y1).symm.trans ?_))
  · unfold laid entry
    simp only [block_x, block_g, block_k]
    have e0 : (1024 * t.val + y0.val) / 4 / 256 = t.val := by omega
    have e1 : (1024 * t.val + y0.val) / 4 % 256 = y0.val / 4 := by omega
    have e2 : (1024 * t.val + y0.val) % 4 = y0.val % 4 := by omega
    simp only [e0, e1, e2]
  · blk_ext [idx t]

/-- The values' array after the run. -/
theorem final_v (X : FVec Ideal S4096x128 .f32) (hX : ∀ ρ e, X (ix2 ρ e) = laid (m ((c : Thread nD τ).loc main_arg0))
    (m ((c : Thread nD τ).loc main_arg1)) (m ((c : Thread nD τ).loc main_arg3)) ρ e) : (dats m 0 c).arrAt 5 cfg0.N = X := by
  refine (dats m 0 c).arrAt_eq_of_covers 5 _ (by decide +kernel) fun t hf y => ?_
  have ht : t.val < 4 := t.isLt
  blk_simp
  rw [after_5]
  idx_vars y
  refine (stripes_at _ y0 y1).trans (((vals_at _ _ _ _ _).trans ?_).trans ((hX ⟨1024 * t.val + y0.val, by omega⟩ y1).symm.trans ?_))
  · unfold laid entry
    simp only [block_x, block_g, block_v]
    have e0 : (1024 * t.val + y0.val) / 4 / 256 = t.val := by omega
    have e1 : (1024 * t.val + y0.val) / 4 % 256 = y0.val / 4 := by omega
    have e2 : (1024 * t.val + y0.val) % 4 = y0.val % 4 := by omega
    simp only [e0, e1, e2]
  · blk_ext [idx t]

end Cert.Kernel3Ideal.Mem
-- ==== Proof.MemRef.lean ====
/-
  The third call's reference, read at an index.
-/
module

public import proofs.«01_k».proof.Proof.Gen.Reference3Ideal.Run
public import proofs.«01_k».proof.Proof.MemMath
public import Idealize.ShloMosaic.Lib.Pointwise

@[expose] public section

set_option maxRecDepth 16384
noncomputable section
open Idealize.ShloMosaic Idealize.ShloMosaic.TcCoe Idealize.SL.Sem
namespace Cert.Reference3Ideal.Mem
open Cert.Reference3Ideal Cert.Reference3Ideal.Gen Cert.Reference3Ideal.Value
open _root_.Mem _root_.Mix Mlstm
open scoped BigOperators

variable (X : FVec Ideal S4x256x2048 .f32) (G : FVec Ideal S1x2048 .f32) (W : FVec Ideal S1x2048x512 .f32)

/-- The memory normalised. -/
def normed : FVec Ideal S4x256x2048 .f32 :=
  mulf (mulf X (broadcastInDim S4x256x2048 ![0, 1, 2] bcast_S4x256x1_S4x256x2048_0_1_2 (Host.rsqrt (addf
      (Host.divf (broadcastInDim S4x256x1 ![0, 1] bcast_S4x256_S4x256x1_0_1
        (Host.reduceAdd (mulf X X) (constant S_ .f32 0x00000000#32) reducesTo_S4x256x2048_S4x256_d2 h_S_))
        (broadcastInDim S4x256x1 ![] bcast_S_S4x256x1 (constant S_ .f32 0x45000000#32)))
      (broadcastInDim S4x256x1 ![] bcast_S_S4x256x1 (constant S_ .f32 0x358637BD#32))))))
    (broadcastInDim S4x256x2048 ![0, 1, 2] bcast_S1x1x2048_S4x256x2048_0_1_2
      (broadcastInDim S1x1x2048 ![2] bcast_S2048_S1x1x2048_2 (shapeCast _ G shapeCasts_S1x2048_S2048)))

/-- Its product with the weights, its heads laid out as rows. -/
def result : FVec Ideal S4096x128 .f32 :=
  shapeCast _ (Host.dotGeneral (φ₁ := .f32) (φ₂ := .f32) dot_S4x256x2048_S2048x512_S4x256x512_2_0_01_1_n_n none (normed X G)
    (shapeCast _ W shapeCasts_S1x2048x512_S2048x512)) shapeCasts_S4x256x512_S4096x128

/-- The normalised memory at an entry. -/
theorem normed_at (β : Fin 4) (r : Fin 256) (d : Fin 2048) :
    normed X G (ix3 β r d) = rms (fun d : Fin 2048 => X (ix3 β r d)) d * G (ix2 0 d) := by
  pointwise [normed]
  simp only [ofBits_eps, ofBits_2048]
  unfold rms
  norm_num

/-- The reference's result is the closed form. -/
theorem result_at (ρ : Fin 4096) (e : Fin 128) : result X G W (ix2 ρ e) = laid X G W ρ e := by
  unfold result
  generalize hN : normed X G = N
  pointwise
  unfold laid entry
  subst hN
  simp only [normed_at]
  have e0 : ρ.val / 4 / 256 = ρ.val / 1024 := by omega
  have e1 : 128 * (ρ.val % 4) + e.val = ρ.val % 4 * 128 + e.val := by omega
  simp only [e0, e1]

end Cert.Reference3Ideal.Mem
-- ==== Proof.MemEnds.lean ====
/-
  Where the third call's two programs meet, and what its frames claim.
-/
module

public import proofs.«01_k».proof.Defs
public import proofs.«01_k».proof.Proof.MemOut
public import proofs.«01_k».proof.Proof.MemRef
public import proofs.«01_k».proof.Proof.MemRunBits
public import Idealize.ShloMosaic.Adequacy

@[expose] public section

set_option maxRecDepth 16384
noncomputable section
open Idealize.ShloMosaic Idealize.ShloMosaic.TcCoe Idealize.SL.Sem
namespace Mem

/-- The kernel terminates, keeps its arguments and leaves every counter at zero. -/
theorem frame_bits : Cert.quiescent_Kernel3 (hKernel3 := Cert.Kernel3.Gen.facts) := fun m g _ =>
  (θ_run Cert.Kernel3.defs _ _).mono (fun _ h => ⟨fun c => (h.1 c).2.2, h.2⟩) (Cert.Kernel3.Mem.ends m g)

/-- So does the idealized one, -/
theorem frame_ideal : Cert.quiescent_Kernel3Ideal (hKernel3Ideal := Cert.Kernel3Ideal.Gen.facts) := fun m g _ =>
  (θ_run Cert.Kernel3Ideal.defs _ _).mono (fun _ h => ⟨fun c => (h.1 c).2.2, h.2⟩) (Cert.Kernel3Ideal.Mem.ends m g)

/-- and the reference. -/
theorem frame_reference : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run m g)

/-- The third call's two results are its reference's, at every index. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨_, _, (θ_run Cert.Kernel3Ideal.defs _ _).mono (fun _ h => h.1) (Cert.Kernel3Ideal.Mem.ends m g), ?_⟩
  refine (θ_run Cert.Reference3Ideal.defs _ _).mono ?_ (Cert.Reference3Ideal.Value.run m' g')
  intro r h c
  obtain ⟨e0, e1, e2, e3⟩ := hagree c
  obtain ⟨hk, hv, ha⟩ := h c
  refine ⟨hk.trans ?_, hv.trans ?_, ha⟩
  · rw [e0, e1, e2]
    exact (Cert.Kernel3Ideal.Mem.final_k m c _ (Cert.Reference3Ideal.Mem.result_at _ _ _)).symm
  · rw [e0, e1, e3]
    exact (Cert.Kernel3Ideal.Mem.final_v m c _ (Cert.Reference3Ideal.Mem.result_at _ _ _)).symm

end Mem
-- ==== Proof.RestRun.lean ====
/-
  The remaining projections' call, its frame, idealized: a body that fills one scratch and ten outputs, run at every grid point.
-/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Stripes
public import Idealize.ShloMosaic.Lib.Pipeline.FrameBody
public import Idealize.ShloMosaic.Lib.Ring
public import Idealize.ShloMosaic.Lib.Tactic
public import Idealize.ShloMosaic.Lib.Claim

@[expose] public section

set_option maxRecDepth 16384
noncomputable section
namespace Cert.Kernel4Ideal.Rest
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call begins. -/
abbrev V (c : Dev nD) (b : Ref sig .tc) : Buf (Elt F) ((c : Thread nD τ).loc b) := StableHlo.after hostOps0 (fun b => m (c, b)) b

/-- The host's operations are all old. -/
theorem host_fresh : (hostOps0 : List (HloOp τ sig (Elt F))).Forall fun op => op.fresh = ∅ := by
  simp only [List.Forall]; repeat' constructor

/-- The host's operations, then the call. -/
theorem enters (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The host's operations write none of the arguments. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.binary_writes, StableHlo.nullary_writes,
      StableHlo.nary_writes, Finset.mem_singleton]
    and_intros <;> exact StableHlo.devRef_ne_of_ne (by decide)))

/-- … -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.binary_writes, StableHlo.nullary_writes,
      StableHlo.nary_writes, Finset.mem_singleton]
    and_intros <;> exact StableHlo.devRef_ne_of_ne (by decide)))

/-- … -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.binary_writes, StableHlo.nullary_writes,
      StableHlo.nary_writes, Finset.mem_singleton]
    and_intros <;> exact StableHlo.devRef_ne_of_ne (by decide)))

/-- Window `w`'s block at point `t`. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the launch hands a point: the scratch at anything, and the generator's register. -/
theorem handed (c : Dev nD) : (Pipeline.ΦA spec0 c : sProp 𝕄)
    = iprop((∃ d, owns (c : Thread nD τ) (Memref.whole cc0_scratch0 : Memref sig .tc .vmem S512x2048 .bf16) fullShare d) ∗ ∃ r, prngReg c r) := by
  unfold Pipeline.ΦA; rw [scopedRest0_eq]; simp only [owns_whole]; try rfl

/-- Rows of the attention's weights. -/
abbrev rowsA (x : Vec F S2560x2048 .bf16) (o : Fin 2 → ℕ) (inb : ∀ a, o a + S512x2048.size a ≤ S2560x2048.size a) : Vec F S512x2048 .bf16 :=
  fun j => x ((Rect.unit (s := S2560x2048) o S512x2048.size inb).emb j)

/-- Rows of the memory's weights. -/
abbrev rowsB (x : Vec F S1024x2048 .bf16) (o : Fin 2 → ℕ) (inb : ∀ a, o a + S512x2048.size a ≤ S1024x2048.size a) : Vec F S512x2048 .bf16 :=
  fun j => x ((Rect.unit (s := S1024x2048) o S512x2048.size inb).emb j)

/-- What a point stores: the scaled queries, turned by their positions. -/
def queries (x0 : Vec F S512x2048 .f32) (x1 : Vec F S1x2048 .f32) (x2 : Vec F S2560x2048 .bf16) (x6 : Vec F S512x128 .f32) (x7 : Vec F S512x128 .f32) : FVec F S512x512 .bf16 :=
  k0_pay14 (k0_pay11 (k0_pay4 x0 x1) (rowsA x2 ![0, 0] inb_S2560x2048_S512x2048_0_0)) (k0_pay12 (k0_pay4 x0 x1) (rowsA x2 ![0, 0] inb_S2560x2048_S512x2048_0_0)) (k0_pay13 x6) x7 x6 x7 x6 x7 x6 x7

/-- What a point stores: the attention gates. -/
def gates (x0 : Vec F S512x2048 .f32) (x1 : Vec F S1x2048 .f32) (x2 : Vec F S2560x2048 .bf16) : FVec F S512x512 .f32 :=
  k0_pay25 (k0_pay4 x0 x1) (rowsA x2 ![1536, 0] inb_S2560x2048_S512x2048_1536_0)

/-- What a point stores: the memory's scaled queries. -/
def memQueries (x0 : Vec F S512x2048 .f32) (x1 : Vec F S1x2048 .f32) (x3 : Vec F S1024x2048 .bf16) : FVec F S512x512 .bf16 :=
  k0_pay2 (k0_pay4 x0 x1) (rowsB x3 ![0, 0] inb_S1024x2048_S512x2048_0_0)

/-- What a point stores: the memory's gates. -/
def memGates (x0 : Vec F S512x2048 .f32) (x1 : Vec F S1x2048 .f32) (x3 : Vec F S1024x2048 .bf16) : FVec F S512x512 .f32 :=
  k0_pay3 (k0_pay4 x0 x1) (rowsB x3 ![512, 0] inb_S1024x2048_S512x2048_512_0)

/-- What a point stores: the index queries, turned. -/
def idxQueries (x0 : Vec F S512x2048 .f32) (x1 : Vec F S1x2048 .f32) (x2 : Vec F S2560x2048 .bf16) (x8 : Vec F S512x128 .f32) (x9 : Vec F S512x128 .f32) : FVec F S512x512 .bf16 :=
  k0_pay1 (k0_pay27 (k0_pay4 x0 x1) (rowsA x2 ![2048, 0] inb_S2560x2048_S512x2048_2048_0) x8 x9) (k0_pay30 (k0_pay28 (k0_pay4 x0 x1) (rowsA x2 ![2048, 0] inb_S2560x2048_S512x2048_2048_0)) (k0_pay29 x8) x9) (k0_pay37 (k0_pay31 (k0_pay26 (k0_pay4 x0 x1) (rowsA x2 ![2048, 0] inb_S2560x2048_S512x2048_2048_0))) (k0_pay32 x8) (k0_pay33 x9) (Scalar.select (Scalar.cmpi .eq 64#32 0#32) 1#32 64#32) (k0_pay34) (k0_pay35) (k0_pay36) (Scalar.cmpi .slt (Scalar.select (Scalar.cmpi .eq 64#32 0#32) 1#32 64#32) 0#32)) (k0_pay39 (k0_pay26 (k0_pay4 x0 x1) (rowsA x2 ![2048, 0] inb_S2560x2048_S512x2048_2048_0)) x8) (k0_pay40 (k0_pay26 (k0_pay4 x0 x1) (rowsA x2 ![2048, 0] inb_S2560x2048_S512x2048_2048_0)) x9)

/-- What a point stores: the index keys, turned. -/
def idxKeys (x0 : Vec F S512x2048 .f32) (x1 : Vec F S1x2048 .f32) (x4 : Vec F S2048x128 .bf16) (x8 : Vec F S512x128 .f32) (x9 : Vec F S512x128 .f32) : FVec F S512x64 .f32 :=
  k0_pay9 (k0_pay5 (k0_pay4 x0 x1) x4) (k0_pay6 x8) (k0_pay7 x9) (Scalar.select (Scalar.cmpi .eq 64#32 0#32) 1#32 64#32) (k0_pay8) (0#32)

/-- What a point stores: the narrow columns. -/
def narrow (x0 : Vec F S512x2048 .f32) (x1 : Vec F S1x2048 .f32) (x4 : Vec F S2048x128 .bf16) : FVec F S512x128 .f32 :=
  k0_pay5 (k0_pay4 x0 x1) x4

/-- What a point stores: the narrow columns, transposed. -/
def narrowT (x0 : Vec F S512x2048 .f32) (x1 : Vec F S1x2048 .f32) (x5 : Vec F S128x2048 .bf16) : FVec F S128x512 .f32 :=
  k0_pay10 x5 (k0_pay4 x0 x1)

/-- What a point stores: the keys, turned by their positions, head by head to every fourth row; the last written comes first. -/
def keys (x0 : Vec F S512x2048 .f32) (x1 : Vec F S1x2048 .f32) (x2 : Vec F S2560x2048 .bf16) (x6 : Vec F S512x128 .f32) (x7 : Vec F S512x128 .f32) : List (View.Piece (Elt F) S2048x128 .f32) :=
  [⟨⟨(⟨![3, 0], S512x128.size, ![4, 1], inb_S2048x128_S512x128_3_0_s_4_1⟩ : LoadRect S2048x128), spos_4_1⟩,
      k0_pay23 (k0_pay15 (k0_pay4 x0 x1) (rowsA x2 ![512, 0] inb_S2560x2048_S512x2048_512_0)) x6 x7⟩,
    ⟨⟨(⟨![2, 0], S512x128.size, ![4, 1], inb_S2048x128_S512x128_2_0_s_4_1⟩ : LoadRect S2048x128), spos_4_1⟩,
      k0_pay21 (k0_pay15 (k0_pay4 x0 x1) (rowsA x2 ![512, 0] inb_S2560x2048_S512x2048_512_0)) x6 x7⟩,
    ⟨⟨(⟨![1, 0], S512x128.size, ![4, 1], inb_S2048x128_S512x128_1_0_s_4_1⟩ : LoadRect S2048x128), spos_4_1⟩,
      k0_pay19 (k0_pay4 x0 x1) (rowsA x2 ![512, 0] inb_S2560x2048_S512x2048_512_0) x6 x7⟩,
    ⟨⟨(⟨![0, 0], S512x128.size, ![4, 1], inb_S2048x128_S512x128_0_0_s_4_1⟩ : LoadRect S2048x128), spos_4_1⟩,
      k0_pay17 (k0_pay4 x0 x1) (rowsA x2 ![512, 0] inb_S2560x2048_S512x2048_512_0) x6 x7⟩]

/-- The four stripes fill the block. -/
theorem keys_cover (x0 : Vec F S512x2048 .f32) (x1 : Vec F S1x2048 .f32) (x2 : Vec F S2560x2048 .bf16) (x6 : Vec F S512x128 .f32) (x7 : Vec F S512x128 .f32) (y : S2048x128.Idx) : ∃ p ∈ keys x0 x1 x2 x6 x7, y ∈ p.1.set := by
  obtain h | h | h | h : (y (0 : Fin 2)).val % 4 = 3 ∨ (y (0 : Fin 2)).val % 4 = 2 ∨ (y (0 : Fin 2)).val % 4 = 1 ∨ (y (0 : Fin 2)).val % 4 = 0 := by omega
  · exact ⟨_, List.mem_cons_self, Mem.in_stripe 3 h _ _⟩
  · exact ⟨_, List.mem_cons_of_mem _ List.mem_cons_self, Mem.in_stripe 2 h _ _⟩
  · exact ⟨_, List.mem_cons_of_mem _ (List.mem_cons_of_mem _ List.mem_cons_self), Mem.in_stripe 1 h _ _⟩
  · exact ⟨_, List.mem_cons_of_mem _ (List.mem_cons_of_mem _ (List.mem_cons_of_mem _ List.mem_cons_self)), Mem.in_stripe 0 h _ _⟩

/-- What a point stores: the values, head by head to every fourth row; the last written comes first. -/
def values (x0 : Vec F S512x2048 .f32) (x1 : Vec F S1x2048 .f32) (x2 : Vec F S2560x2048 .bf16) : List (View.Piece (Elt F) S2048x128 .f32) :=
  [⟨⟨(⟨![3, 0], S512x128.size, ![4, 1], inb_S2048x128_S512x128_3_0_s_4_1⟩ : LoadRect S2048x128), spos_4_1⟩,
      k0_pay24 (k0_pay16 (k0_pay4 x0 x1) (rowsA x2 ![1024, 0] inb_S2560x2048_S512x2048_1024_0))⟩,
    ⟨⟨(⟨![2, 0], S512x128.size, ![4, 1], inb_S2048x128_S512x128_2_0_s_4_1⟩ : LoadRect S2048x128), spos_4_1⟩,
      k0_pay22 (k0_pay16 (k0_pay4 x0 x1) (rowsA x2 ![1024, 0] inb_S2560x2048_S512x2048_1024_0))⟩,
    ⟨⟨(⟨![1, 0], S512x128.size, ![4, 1], inb_S2048x128_S512x128_1_0_s_4_1⟩ : LoadRect S2048x128), spos_4_1⟩,
      k0_pay20 (k0_pay4 x0 x1) (rowsA x2 ![1024, 0] inb_S2560x2048_S512x2048_1024_0)⟩,
    ⟨⟨(⟨![0, 0], S512x128.size, ![4, 1], inb_S2048x128_S512x128_0_0_s_4_1⟩ : LoadRect S2048x128), spos_4_1⟩,
      k0_pay18 (k0_pay4 x0 x1) (rowsA x2 ![1024, 0] inb_S2560x2048_S512x2048_1024_0)⟩]

/-- The four stripes fill the block. -/
theorem values_cover (x0 : Vec F S512x2048 .f32) (x1 : Vec F S1x2048 .f32) (x2 : Vec F S2560x2048 .bf16) (y : S2048x128.Idx) : ∃ p ∈ values x0 x1 x2, y ∈ p.1.set := by
  obtain h | h | h | h : (y (0 : Fin 2)).val % 4 = 3 ∨ (y (0 : Fin 2)).val % 4 = 2 ∨ (y (0 : Fin 2)).val % 4 = 1 ∨ (y (0 : Fin 2)).val % 4 = 0 := by omega
  · exact ⟨_, List.mem_cons_self, Mem.in_stripe 3 h _ _⟩
  · exact ⟨_, List.mem_cons_of_mem _ List.mem_cons_self, Mem.in_stripe 2 h _ _⟩
  · exact ⟨_, List.mem_cons_of_mem _ (List.mem_cons_of_mem _ List.mem_cons_self), Mem.in_stripe 1 h _ _⟩
  · exact ⟨_, List.mem_cons_of_mem _ (List.mem_cons_of_mem _ (List.mem_cons_of_mem _ List.mem_cons_self)), Mem.in_stripe 0 h _ _⟩

set_option maxHeartbeats 4000000 in
/-- The body keeps its inputs and fills its outputs with what it stores. -/
theorem body_run (c : Dev nD) (i : grid0.Coords) (arg1 : Memref sig .tc .vmem S512x2048 .f32) (harg1 : arg1.IsWhole) (arg2 : Memref sig .tc .vmem S1x2048 .f32) (harg2 : arg2.IsWhole) (arg3 : Memref
    sig .tc .vmem S2560x2048 .bf16) (harg3 : arg3.IsWhole) (arg4 : Memref sig .tc .vmem S1024x2048 .bf16) (harg4 : arg4.IsWhole) (arg5 : Memref sig .tc
    .vmem S2048x128 .bf16) (harg5 : arg5.IsWhole) (arg6 : Memref sig .tc .vmem S128x2048 .bf16) (harg6 : arg6.IsWhole) (arg7 : Memref sig .tc .vmem
    S512x128 .f32) (harg7 : arg7.IsWhole) (arg8 : Memref sig .tc .vmem S512x128 .f32) (harg8 : arg8.IsWhole) (arg9 : Memref sig .tc .vmem S512x128
    .f32) (harg9 : arg9.IsWhole) (arg10 : Memref sig .tc .vmem S512x128 .f32) (harg10 : arg10.IsWhole) (arg11 : Memref sig .tc .vmem S512x512 .bf16)
    (harg11 : arg11.IsWhole) (arg12 : Memref sig .tc .vmem S2048x128 .f32) (harg12 : arg12.IsWhole) (arg13 : Memref sig .tc .vmem S2048x128 .f32)
    (harg13 : arg13.IsWhole) (arg14 : Memref sig .tc .vmem S512x512 .f32) (harg14 : arg14.IsWhole) (arg15 : Memref sig .tc .vmem S512x512 .bf16)
    (harg15 : arg15.IsWhole) (arg16 : Memref sig .tc .vmem S512x512 .f32) (harg16 : arg16.IsWhole) (arg17 : Memref sig .tc .vmem S512x512 .bf16)
    (harg17 : arg17.IsWhole) (arg18 : Memref sig .tc .vmem S512x64 .f32) (harg18 : arg18.IsWhole) (arg19 : Memref sig .tc .vmem S512x128 .f32) (harg19
    : arg19.IsWhole) (arg20 : Memref sig .tc .vmem S128x512 .f32) (harg20 : arg20.IsWhole) (arg21 : Memref sig .tc .vmem S512x2048 .bf16) (harg21 :
    arg21.IsWhole)
    (x0 : Vec F S512x2048 .f32) (x1 : Vec F S1x2048 .f32) (x2 : Vec F S2560x2048 .bf16) (x3 : Vec F S1024x2048 .bf16) (x4 : Vec F S2048x128 .bf16)
    (x5 : Vec F S128x2048 .bf16) (x6 x7 x8 x9 : Vec F S512x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ)
    arg4 fullShare x3 ∗ owns (c : Thread nD τ) arg5 fullShare x4 ∗ owns (c : Thread nD τ) arg6 fullShare x5 ∗ owns (c : Thread nD τ) arg7 fullShare x6
    ∗ owns (c : Thread nD τ) arg8 fullShare x7 ∗ owns (c : Thread nD τ) arg9 fullShare x8 ∗ owns (c : Thread nD τ) arg10 fullShare x9 ∗ (∃ d, owns (c :
    Thread nD τ) arg11 fullShare d) ∗ (∃ d, owns (c : Thread nD τ) arg12 fullShare d) ∗ (∃ d, owns (c : Thread nD τ) arg13 fullShare d) ∗ (∃ d, owns (c
    : Thread nD τ) arg14 fullShare d) ∗ (∃ d, owns (c : Thread nD τ) arg15 fullShare d) ∗ (∃ d, owns (c : Thread nD τ) arg16 fullShare d) ∗ (∃ d, owns
    (c : Thread nD τ) arg17 fullShare d) ∗ (∃ d, owns (c : Thread nD τ) arg18 fullShare d) ∗ (∃ d, owns (c : Thread nD τ) arg19 fullShare d) ∗ (∃ d,
    owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ)
    arg4 fullShare x3 ∗ owns (c : Thread nD τ) arg5 fullShare x4 ∗ owns (c : Thread nD τ) arg6 fullShare x5 ∗ owns (c : Thread nD τ) arg7 fullShare x6
    ∗ owns (c : Thread nD τ) arg8 fullShare x7 ∗ owns (c : Thread nD τ) arg9 fullShare x8 ∗ owns (c : Thread nD τ) arg10 fullShare x9 ∗ owns (c :
    Thread nD τ) arg11 fullShare (queries x0 x1 x2 x6 x7) ∗ owns (c : Thread nD τ) arg12 fullShare (View.canon (keys x0 x1 x2 x6 x7)) ∗ owns (c :
    Thread nD τ) arg13 fullShare (View.canon (values x0 x1 x2)) ∗ owns (c : Thread nD τ) arg14 fullShare (gates x0 x1 x2) ∗ owns (c : Thread nD τ)
    arg15 fullShare (memQueries x0 x1 x3) ∗ owns (c : Thread nD τ) arg16 fullShare (memGates x0 x1 x3) ∗ owns (c : Thread nD τ) arg17 fullShare
    (idxQueries x0 x1 x2 x8 x9) ∗ owns (c : Thread nD τ) arg18 fullShare (idxKeys x0 x1 x4 x8 x9) ∗ owns (c : Thread nD τ) arg19 fullShare (narrow x0
    x1 x4) ∗ owns (c : Thread nD τ) arg20 fullShare (narrowT x0 x1 x5) ∗ (∃ d, owns (c : Thread nD τ) arg21 fullShare d)) -∗ K ⟨⟩))
      ⊢ wp frame (wpE (defs₀ (F := F)) Variants.none c none) E
          (cc0_proj_rest i arg1 harg1 arg2 harg2 arg3 harg3 arg4 harg4 arg5 harg5 arg6 harg6 arg7 harg7 arg8 harg8 arg9 harg9 arg10 harg10 arg11 harg11 arg12 harg12 arg13 harg13
    arg14 harg14 arg15 harg15 arg16 harg16 arg17 harg17 arg18 harg18 arg19 harg19 arg20 harg20 arg21 harg21) K := by
  simp only [cc0_proj_rest_eq_skeleton]; unfold cc0_proj_rest_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec
  have wholearg1 := (Mem.whole_read arg1.view (harg1.unread x0) inb_S512x2048_S512x2048_0_0).trans (harg1.read_unread x0)
  have wholearg2 := (Mem.whole_read arg2.view (harg2.unread x1) inb_S1x2048_S1x2048_0_0).trans (harg2.read_unread x1)
  have partarg3 : ∀ (o : Fin 2 → ℕ) (inb : ∀ a, o a + S512x2048.size a ≤ S2560x2048.size a), View.readAt (Elt F) arg3.view (Rect.unit (s := S2560x2048) o S512x2048.size inb).toLoadRect (harg3.unread x2)
      = rowsA x2 o inb := fun o inb => funext fun j => congrFun (harg3.read_unread x2) _
  have partarg4 : ∀ (o : Fin 2 → ℕ) (inb : ∀ a, o a + S512x2048.size a ≤ S1024x2048.size a), View.readAt (Elt F) arg4.view (Rect.unit (s := S1024x2048) o S512x2048.size inb).toLoadRect (harg4.unread x3)
      = rowsB x3 o inb := fun o inb => funext fun j => congrFun (harg4.read_unread x3) _
  have wholearg5 := (Mem.whole_read arg5.view (harg5.unread x4) inb_S2048x128_S2048x128_0_0).trans (harg5.read_unread x4)
  have wholearg6 := (Mem.whole_read arg6.view (harg6.unread x5) inb_S128x2048_S128x2048_0_0).trans (harg6.read_unread x5)
  have wholearg7 := (Mem.whole_read arg7.view (harg7.unread x6) inb_S512x128_S512x128_0_0).trans (harg7.read_unread x6)
  have wholearg8 := (Mem.whole_read arg8.view (harg8.unread x7) inb_S512x128_S512x128_0_0).trans (harg8.read_unread x7)
  have wholearg9 := (Mem.whole_read arg9.view (harg9.unread x8) inb_S512x128_S512x128_0_0).trans (harg9.read_unread x8)
  have wholearg10 := (Mem.whole_read arg10.view (harg10.unread x9) inb_S512x128_S512x128_0_0).trans (harg10.read_unread x9)
  have hU : arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩]
      (Rect.unit (s := S512x2048) ![0, 0] S512x2048.size inb_S512x2048_S512x2048_0_0).toLoadRect = k0_pay4 x0 x1 := by
    rw [wholearg1, wholearg2]
    exact (Mem.whole_read arg21.view _ _).trans (Mem.read_filled arg21.view _ _ _)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    show View.read (Elt F) arg11.view (arg11.view.writes (Elt F) f10 [⟨Rect.unit (s := S512x512) ![0, 0] S512x512.size inb_S512x512_S512x512_0_0, (k0_pay14 (k0_pay11 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![0, 0] S512x2048.size inb_S2560x2048_S512x2048_0_0).toLoadRect (harg3.unread x2))) (k0_pay12 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![0, 0] S512x2048.size inb_S2560x2048_S512x2048_0_0).toLoadRect (harg3.unread x2))) (k0_pay13 (View.readAt (Elt F) arg7.view (Rect.unit (s := S512x128) ![0, 0] S512x128.size inb_S512x128_S512x128_0_0).toLoadRect (harg7.unread x6))) (View.readAt (Elt F) arg8.view (Rect.unit (s := S512x128) ![0, 0] S512x128.size inb_S512x128_S512x128_0_0).toLoadRect (harg8.unread x7)) (View.readAt (Elt F) arg7.view (Rect.unit (s := S512x128) ![0, 0] S512x128.size inb_S512x128_S512x128_0_0).toLoadRect (harg7.unread x6)) (View.readAt (Elt F) arg8.view (Rect.unit (s := S512x128) ![0, 0] S512x128.size inb_S512x128_S512x128_0_0).toLoadRect (harg8.unread x7)) (View.readAt (Elt F) arg7.view (Rect.unit (s := S512x128) ![0, 0] S512x128.size inb_S512x128_S512x128_0_0).toLoadRect (harg7.unread x6)) (View.readAt (Elt F) arg8.view (Rect.unit (s := S512x128) ![0, 0] S512x128.size inb_S512x128_S512x128_0_0).toLoadRect (harg8.unread x7)) (View.readAt (Elt F) arg7.view (Rect.unit (s := S512x128) ![0, 0] S512x128.size inb_S512x128_S512x128_0_0).toLoadRect (harg7.unread x6)) (View.readAt (Elt F) arg8.view (Rect.unit (s := S512x128) ![0, 0] S512x128.size inb_S512x128_S512x128_0_0).toLoadRect (harg8.unread x7)))⟩]) = _
    rw [hU, partarg3 ![0, 0] inb_S2560x2048_S512x2048_0_0, wholearg7, wholearg8]
    exact Mem.read_filled arg11.view _ _ _
  isplitl [H11]
  · iexists _; isplitr
    swap; · iexact H11
    ipureintro
    show View.read (Elt F) arg12.view (arg12.view.writes (Elt F) f11 [⟨⟨(⟨![3, 0], S512x128.size, ![4, 1], inb_S2048x128_S512x128_3_0_s_4_1⟩ : LoadRect S2048x128), spos_4_1⟩, (k0_pay23 (k0_pay15 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![512, 0] S512x2048.size inb_S2560x2048_S512x2048_512_0).toLoadRect (harg3.unread x2))) (View.readAt (Elt F) arg7.view (Rect.unit (s := S512x128) ![0, 0] S512x128.size inb_S512x128_S512x128_0_0).toLoadRect (harg7.unread x6)) (View.readAt (Elt F) arg8.view (Rect.unit (s := S512x128) ![0, 0] S512x128.size inb_S512x128_S512x128_0_0).toLoadRect (harg8.unread x7)))⟩, ⟨⟨(⟨![2, 0], S512x128.size, ![4, 1], inb_S2048x128_S512x128_2_0_s_4_1⟩ : LoadRect S2048x128), spos_4_1⟩, (k0_pay21 (k0_pay15 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![512, 0] S512x2048.size inb_S2560x2048_S512x2048_512_0).toLoadRect (harg3.unread x2))) (View.readAt (Elt F) arg7.view (Rect.unit (s := S512x128) ![0, 0] S512x128.size inb_S512x128_S512x128_0_0).toLoadRect (harg7.unread x6)) (View.readAt (Elt F) arg8.view (Rect.unit (s := S512x128) ![0, 0] S512x128.size inb_S512x128_S512x128_0_0).toLoadRect (harg8.unread x7)))⟩, ⟨⟨(⟨![1, 0], S512x128.size, ![4, 1], inb_S2048x128_S512x128_1_0_s_4_1⟩ : LoadRect S2048x128), spos_4_1⟩, (k0_pay19 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![512, 0] S512x2048.size inb_S2560x2048_S512x2048_512_0).toLoadRect (harg3.unread x2)) (View.readAt (Elt F) arg7.view (Rect.unit (s := S512x128) ![0, 0] S512x128.size inb_S512x128_S512x128_0_0).toLoadRect (harg7.unread x6)) (View.readAt (Elt F) arg8.view (Rect.unit (s := S512x128) ![0, 0] S512x128.size inb_S512x128_S512x128_0_0).toLoadRect (harg8.unread x7)))⟩, ⟨⟨(⟨![0, 0], S512x128.size, ![4, 1], inb_S2048x128_S512x128_0_0_s_4_1⟩ : LoadRect S2048x128), spos_4_1⟩, (k0_pay17 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![512, 0] S512x2048.size inb_S2560x2048_S512x2048_512_0).toLoadRect (harg3.unread x2)) (View.readAt (Elt F) arg7.view (Rect.unit (s := S512x128) ![0, 0] S512x128.size inb_S512x128_S512x128_0_0).toLoadRect (harg7.unread x6)) (View.readAt (Elt F) arg8.view (Rect.unit (s := S512x128) ![0, 0] S512x128.size inb_S512x128_S512x128_0_0).toLoadRect (harg8.unread x7)))⟩]) = _
    rw [hU, partarg3 ![512, 0] inb_S2560x2048_S512x2048_512_0, wholearg7, wholearg8]
    exact View.read_writes_eq_canon arg12.view _ _ (keys_cover x0 x1 x2 x6 x7)
  isplitl [H12]
  · iexists _; isplitr
    swap; · iexact H12
    ipureintro
    show View.read (Elt F) arg13.view (arg13.view.writes (Elt F) f12 [⟨⟨(⟨![3, 0], S512x128.size, ![4, 1], inb_S2048x128_S512x128_3_0_s_4_1⟩ : LoadRect S2048x128), spos_4_1⟩, (k0_pay24 (k0_pay16 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![1024, 0] S512x2048.size inb_S2560x2048_S512x2048_1024_0).toLoadRect (harg3.unread x2))))⟩, ⟨⟨(⟨![2, 0], S512x128.size, ![4, 1], inb_S2048x128_S512x128_2_0_s_4_1⟩ : LoadRect S2048x128), spos_4_1⟩, (k0_pay22 (k0_pay16 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![1024, 0] S512x2048.size inb_S2560x2048_S512x2048_1024_0).toLoadRect (harg3.unread x2))))⟩, ⟨⟨(⟨![1, 0], S512x128.size, ![4, 1], inb_S2048x128_S512x128_1_0_s_4_1⟩ : LoadRect S2048x128), spos_4_1⟩, (k0_pay20 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![1024, 0] S512x2048.size inb_S2560x2048_S512x2048_1024_0).toLoadRect (harg3.unread x2)))⟩, ⟨⟨(⟨![0, 0], S512x128.size, ![4, 1], inb_S2048x128_S512x128_0_0_s_4_1⟩ : LoadRect S2048x128), spos_4_1⟩, (k0_pay18 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![1024, 0] S512x2048.size inb_S2560x2048_S512x2048_1024_0).toLoadRect (harg3.unread x2)))⟩]) = _
    rw [hU, partarg3 ![1024, 0] inb_S2560x2048_S512x2048_1024_0]
    exact View.read_writes_eq_canon arg13.view _ _ (values_cover x0 x1 x2)
  isplitl [H13]
  · iexists _; isplitr
    swap; · iexact H13
    ipureintro
    show View.read (Elt F) arg14.view (arg14.view.writes (Elt F) f13 [⟨Rect.unit (s := S512x512) ![0, 0] S512x512.size inb_S512x512_S512x512_0_0, (k0_pay25 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![1536, 0] S512x2048.size inb_S2560x2048_S512x2048_1536_0).toLoadRect (harg3.unread x2)))⟩]) = _
    rw [hU, partarg3 ![1536, 0] inb_S2560x2048_S512x2048_1536_0]
    exact Mem.read_filled arg14.view _ _ _
  isplitl [H14]
  · iexists _; isplitr
    swap; · iexact H14
    ipureintro
    show View.read (Elt F) arg15.view (arg15.view.writes (Elt F) f14 [⟨Rect.unit (s := S512x512) ![0, 0] S512x512.size inb_S512x512_S512x512_0_0, (k0_pay2 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg4.view (Rect.unit (s := S1024x2048) ![0, 0] S512x2048.size inb_S1024x2048_S512x2048_0_0).toLoadRect (harg4.unread x3)))⟩]) = _
    rw [hU, partarg4 ![0, 0] inb_S1024x2048_S512x2048_0_0]
    exact Mem.read_filled arg15.view _ _ _
  isplitl [H15]
  · iexists _; isplitr
    swap; · iexact H15
    ipureintro
    show View.read (Elt F) arg16.view (arg16.view.writes (Elt F) f15 [⟨Rect.unit (s := S512x512) ![0, 0] S512x512.size inb_S512x512_S512x512_0_0, (k0_pay3 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg4.view (Rect.unit (s := S1024x2048) ![512, 0] S512x2048.size inb_S1024x2048_S512x2048_512_0).toLoadRect (harg4.unread x3)))⟩]) = _
    rw [hU, partarg4 ![512, 0] inb_S1024x2048_S512x2048_512_0]
    exact Mem.read_filled arg16.view _ _ _
  isplitl [H16]
  · iexists _; isplitr
    swap; · iexact H16
    ipureintro
    show View.read (Elt F) arg17.view (arg17.view.writes (Elt F) f16 [⟨Rect.unit (s := S512x512) ![0, 0] S512x512.size inb_S512x512_S512x512_0_0, (k0_pay1 (k0_pay27 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![2048, 0] S512x2048.size inb_S2560x2048_S512x2048_2048_0).toLoadRect (harg3.unread x2)) (View.readAt (Elt F) arg9.view (Rect.unit (s := S512x128) ![0, 0] S512x128.size inb_S512x128_S512x128_0_0).toLoadRect (harg9.unread x8)) (View.readAt (Elt F) arg10.view (Rect.unit (s := S512x128) ![0, 0] S512x128.size inb_S512x128_S512x128_0_0).toLoadRect (harg10.unread x9))) (k0_pay30 (k0_pay28 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![2048, 0] S512x2048.size inb_S2560x2048_S512x2048_2048_0).toLoadRect (harg3.unread x2))) (k0_pay29 (View.readAt (Elt F) arg9.view (Rect.unit (s := S512x128) ![0, 0] S512x128.size inb_S512x128_S512x128_0_0).toLoadRect (harg9.unread x8))) (View.readAt (Elt F) arg10.view (Rect.unit (s := S512x128) ![0, 0] S512x128.size inb_S512x128_S512x128_0_0).toLoadRect (harg10.unread x9))) (k0_pay37 (k0_pay31 (k0_pay26 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![2048, 0] S512x2048.size inb_S2560x2048_S512x2048_2048_0).toLoadRect (harg3.unread x2)))) (k0_pay32 (View.readAt (Elt F) arg9.view (Rect.unit (s := S512x128) ![0, 0] S512x128.size inb_S512x128_S512x128_0_0).toLoadRect (harg9.unread x8))) (k0_pay33 (View.readAt (Elt F) arg10.view (Rect.unit (s := S512x128) ![0, 0] S512x128.size inb_S512x128_S512x128_0_0).toLoadRect (harg10.unread x9))) (Scalar.select (Scalar.cmpi .eq 64#32 0#32) 1#32 64#32) (k0_pay34) (k0_pay35) (k0_pay36) (Scalar.cmpi .slt (Scalar.select (Scalar.cmpi .eq 64#32 0#32) 1#32 64#32) 0#32)) (k0_pay39 (k0_pay26 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![2048, 0] S512x2048.size inb_S2560x2048_S512x2048_2048_0).toLoadRect (harg3.unread x2))) (View.readAt (Elt F) arg9.view (Rect.unit (s := S512x128) ![0, 0] S512x128.size inb_S512x128_S512x128_0_0).toLoadRect (harg9.unread x8))) (k0_pay40 (k0_pay26 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg3.view (Rect.unit (s := S2560x2048) ![2048, 0] S512x2048.size inb_S2560x2048_S512x2048_2048_0).toLoadRect (harg3.unread x2))) (View.readAt (Elt F) arg10.view (Rect.unit (s := S512x128) ![0, 0] S512x128.size inb_S512x128_S512x128_0_0).toLoadRect (harg10.unread x9))))⟩]) = _
    rw [hU, partarg3 ![2048, 0] inb_S2560x2048_S512x2048_2048_0, wholearg9, wholearg10]
    exact Mem.read_filled arg17.view _ _ _
  isplitl [H17]
  · iexists _; isplitr
    swap; · iexact H17
    ipureintro
    show View.read (Elt F) arg18.view (arg18.view.writes (Elt F) f17 [⟨Rect.unit (s := S512x64) ![0, 0] S512x64.size inb_S512x64_S512x64_0_0, (k0_pay9 (k0_pay5 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg5.view (Rect.unit (s := S2048x128) ![0, 0] S2048x128.size inb_S2048x128_S2048x128_0_0).toLoadRect (harg5.unread x4))) (k0_pay6 (View.readAt (Elt F) arg9.view (Rect.unit (s := S512x128) ![0, 0] S512x128.size inb_S512x128_S512x128_0_0).toLoadRect (harg9.unread x8))) (k0_pay7 (View.readAt (Elt F) arg10.view (Rect.unit (s := S512x128) ![0, 0] S512x128.size inb_S512x128_S512x128_0_0).toLoadRect (harg10.unread x9))) (Scalar.select (Scalar.cmpi .eq 64#32 0#32) 1#32 64#32) (k0_pay8) (0#32))⟩]) = _
    rw [hU, wholearg5, wholearg9, wholearg10]
    exact Mem.read_filled arg18.view _ _ _
  isplitl [H18]
  · iexists _; isplitr
    swap; · iexact H18
    ipureintro
    show View.read (Elt F) arg19.view (arg19.view.writes (Elt F) f18 [⟨Rect.unit (s := S512x128) ![0, 0] S512x128.size inb_S512x128_S512x128_0_0, (k0_pay5 (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect) (View.readAt (Elt F) arg5.view (Rect.unit (s := S2048x128) ![0, 0] S2048x128.size inb_S2048x128_S2048x128_0_0).toLoadRect (harg5.unread x4)))⟩]) = _
    rw [hU, wholearg5]
    exact Mem.read_filled arg19.view _ _ _
  isplitl [H19]
  · iexists _; isplitr
    swap; · iexact H19
    ipureintro
    show View.read (Elt F) arg20.view (arg20.view.writes (Elt F) f19 [⟨Rect.unit (s := S128x512) ![0, 0] S128x512.size inb_S128x512_S128x512_0_0, (k0_pay10 (View.readAt (Elt F) arg6.view (Rect.unit (s := S128x2048) ![0, 0] S128x2048.size inb_S128x2048_S128x2048_0_0).toLoadRect (harg6.unread x5)) (arg21.view.readCov (Val := Elt F) [⟨Rect.unit (s := S512x2048) ![0, 0] S512x2048.size inb_S512x2048_S512x2048_0_0, k0_pay4 (View.readAt (Elt F) arg1.view (Rect.unit (s := S512x2048) ![0, 0] S512x2048.size inb_S512x2048_S512x2048_0_0).toLoadRect (harg1.unread x0)) (View.readAt (Elt F) arg2.view (Rect.unit (s := S1x2048) ![0, 0] S1x2048.size inb_S1x2048_S1x2048_0_0).toLoadRect (harg2.unread x1))⟩] (Rect.unit (s := S512x2048) ![0, 0] S512x2048.size inb_S512x2048_S512x2048_0_0).toLoadRect))⟩]) = _
    rw [wholearg6, hU]
    exact Mem.read_filled arg20.view _ _ _
  iexists _, _; isplitr
  swap; · iexact H20
  ipureintro; rfl

/-- What the windows hold after the body at each point. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => queries (blockAt m c 0 t) (blockAt m c 1 t) (blockAt m c 2 t) (blockAt m c 6 t) (blockAt m c 7 t)
    | ⟨11, _⟩ => View.canon (keys (blockAt m c 0 t) (blockAt m c 1 t) (blockAt m c 2 t) (blockAt m c 6 t) (blockAt m c 7 t))
    | ⟨12, _⟩ => View.canon (values (blockAt m c 0 t) (blockAt m c 1 t) (blockAt m c 2 t))
    | ⟨13, _⟩ => gates (blockAt m c 0 t) (blockAt m c 1 t) (blockAt m c 2 t)
    | ⟨14, _⟩ => memQueries (blockAt m c 0 t) (blockAt m c 1 t) (blockAt m c 3 t)
    | ⟨15, _⟩ => memGates (blockAt m c 0 t) (blockAt m c 1 t) (blockAt m c 3 t)
    | ⟨16, _⟩ => idxQueries (blockAt m c 0 t) (blockAt m c 1 t) (blockAt m c 2 t) (blockAt m c 8 t) (blockAt m c 9 t)
    | ⟨17, _⟩ => idxKeys (blockAt m c 0 t) (blockAt m c 1 t) (blockAt m c 4 t) (blockAt m c 8 t) (blockAt m c 9 t)
    | ⟨18, _⟩ => narrow (blockAt m c 0 t) (blockAt m c 1 t) (blockAt m c 4 t)
    | ⟨19, _⟩ => narrowT (blockAt m c 0 t) (blockAt m c 1 t) (blockAt m c 5 t)
    | ⟨n + 20, h⟩ => absurd h (by show ¬ n + 20 < 20; omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = blockAt m c 9 t := by dsimp only [dats]
theorem after_10 (c : Dev nD) (t : Fin cfg0.N) : (dats m 0 c).after 10 t = queries (blockAt m c 0 t) (blockAt m c 1 t) (blockAt m c 2 t) (blockAt m c 6 t) (blockAt m c 7 t) := by dsimp only [dats]
theorem after_11 (c : Dev nD) (t : Fin cfg0.N) : (dats m 0 c).after 11 t = View.canon (keys (blockAt m c 0 t) (blockAt m c 1 t) (blockAt m c 2 t) (blockAt m c 6 t) (blockAt m c 7 t)) := by dsimp only [dats]
theorem after_12 (c : Dev nD) (t : Fin cfg0.N) : (dats m 0 c).after 12 t = View.canon (values (blockAt m c 0 t) (blockAt m c 1 t) (blockAt m c 2 t)) := by dsimp only [dats]
theorem after_13 (c : Dev nD) (t : Fin cfg0.N) : (dats m 0 c).after 13 t = gates (blockAt m c 0 t) (blockAt m c 1 t) (blockAt m c 2 t) := by dsimp only [dats]
theorem after_14 (c : Dev nD) (t : Fin cfg0.N) : (dats m 0 c).after 14 t = memQueries (blockAt m c 0 t) (blockAt m c 1 t) (blockAt m c 3 t) := by dsimp only [dats]
theorem after_15 (c : Dev nD) (t : Fin cfg0.N) : (dats m 0 c).after 15 t = memGates (blockAt m c 0 t) (blockAt m c 1 t) (blockAt m c 3 t) := by dsimp only [dats]
theorem after_16 (c : Dev nD) (t : Fin cfg0.N) : (dats m 0 c).after 16 t = idxQueries (blockAt m c 0 t) (blockAt m c 1 t) (blockAt m c 2 t) (blockAt m c 8 t) (blockAt m c 9 t) := by dsimp only [dats]
theorem after_17 (c : Dev nD) (t : Fin cfg0.N) : (dats m 0 c).after 17 t = idxKeys (blockAt m c 0 t) (blockAt m c 1 t) (blockAt m c 4 t) (blockAt m c 8 t) (blockAt m c 9 t) := by dsimp only [dats]
theorem after_18 (c : Dev nD) (t : Fin cfg0.N) : (dats m 0 c).after 18 t = narrow (blockAt m c 0 t) (blockAt m c 1 t) (blockAt m c 4 t) := by dsimp only [dats]
theorem after_19 (c : Dev nD) (t : Fin cfg0.N) : (dats m 0 c).after 19 t = narrowT (blockAt m c 0 t) (blockAt m c 1 t) (blockAt m c 5 t) := by dsimp only [dats]

/-- An input's buffer holds its block at every point, fetched there or kept from an earlier one. -/
theorem before_0 (c : Dev nD) (t : Fin cfg0.N) (d) : (dats m 0 c).before 0 t d = blockAt m c 0 t :=
  ((dats m 0 c).before_in_eq_fetched 0 rfl (fun _ => rfl) (fun _ _ _ => rfl) (fun t => by rw [after_0]; unfold Dat.blockOf blockAt; rw [A_eq]) t d).trans
    (by unfold Dat.fetched Dat.blockOf blockAt; rw [A_eq]; rfl)
theorem before_1 (c : Dev nD) (t : Fin cfg0.N) (d) : (dats m 0 c).before 1 t d = blockAt m c 1 t :=
  ((dats m 0 c).before_in_eq_fetched 1 rfl (fun _ => rfl) (fun _ _ _ => rfl) (fun t => by rw [after_1]; unfold Dat.blockOf blockAt; rw [A_eq]) t d).trans
    (by unfold Dat.fetched Dat.blockOf blockAt; rw [A_eq]; rfl)
theorem before_2 (c : Dev nD) (t : Fin cfg0.N) (d) : (dats m 0 c).before 2 t d = blockAt m c 2 t :=
  ((dats m 0 c).before_in_eq_fetched 2 rfl (fun _ => rfl) (fun _ _ _ => rfl) (fun t => by rw [after_2]; unfold Dat.blockOf blockAt; rw [A_eq]) t d).trans
    (by unfold Dat.fetched Dat.blockOf blockAt; rw [A_eq]; rfl)
theorem before_3 (c : Dev nD) (t : Fin cfg0.N) (d) : (dats m 0 c).before 3 t d = blockAt m c 3 t :=
  ((dats m 0 c).before_in_eq_fetched 3 rfl (fun _ => rfl) (fun _ _ _ => rfl) (fun t => by rw [after_3]; unfold Dat.blockOf blockAt; rw [A_eq]) t d).trans
    (by unfold Dat.fetched Dat.blockOf blockAt; rw [A_eq]; rfl)
theorem before_4 (c : Dev nD) (t : Fin cfg0.N) (d) : (dats m 0 c).before 4 t d = blockAt m c 4 t :=
  ((dats m 0 c).before_in_eq_fetched 4 rfl (fun _ => rfl) (fun _ _ _ => rfl) (fun t => by rw [after_4]; unfold Dat.blockOf blockAt; rw [A_eq]) t d).trans
    (by unfold Dat.fetched Dat.blockOf blockAt; rw [A_eq]; rfl)
theorem before_5 (c : Dev nD) (t : Fin cfg0.N) (d) : (dats m 0 c).before 5 t d = blockAt m c 5 t :=
  ((dats m 0 c).before_in_eq_fetched 5 rfl (fun _ => rfl) (fun _ _ _ => rfl) (fun t => by rw [after_5]; unfold Dat.blockOf blockAt; rw [A_eq]) t d).trans
    (by unfold Dat.fetched Dat.blockOf blockAt; rw [A_eq]; rfl)
theorem before_6 (c : Dev nD) (t : Fin cfg0.N) (d) : (dats m 0 c).before 6 t d = blockAt m c 6 t :=
  ((dats m 0 c).before_in_eq_fetched 6 rfl (fun _ => rfl) (fun _ _ _ => rfl) (fun t => by rw [after_6]; unfold Dat.blockOf blockAt; rw [A_eq]) t d).trans
    (by unfold Dat.fetched Dat.blockOf blockAt; rw [A_eq]; rfl)
theorem before_7 (c : Dev nD) (t : Fin cfg0.N) (d) : (dats m 0 c).before 7 t d = blockAt m c 7 t :=
  ((dats m 0 c).before_in_eq_fetched 7 rfl (fun _ => rfl) (fun _ _ _ => rfl) (fun t => by rw [after_7]; unfold Dat.blockOf blockAt; rw [A_eq]) t d).trans
    (by unfold Dat.fetched Dat.blockOf blockAt; rw [A_eq]; rfl)
theorem before_8 (c : Dev nD) (t : Fin cfg0.N) (d) : (dats m 0 c).before 8 t d = blockAt m c 8 t :=
  ((dats m 0 c).before_in_eq_fetched 8 rfl (fun _ => rfl) (fun _ _ _ => rfl) (fun t => by rw [after_8]; unfold Dat.blockOf blockAt; rw [A_eq]) t d).trans
    (by unfold Dat.fetched Dat.blockOf blockAt; rw [A_eq]; rfl)
theorem before_9 (c : Dev nD) (t : Fin cfg0.N) (d) : (dats m 0 c).before 9 t d = blockAt m c 9 t :=
  ((dats m 0 c).before_in_eq_fetched 9 rfl (fun _ => rfl) (fun _ _ _ => rfl) (fun t => by rw [after_9]; unfold Dat.blockOf blockAt; rw [A_eq]) t d).trans
    (by unfold Dat.fetched Dat.blockOf blockAt; rw [A_eq]; rfl)

set_option maxHeartbeats 1000000 in
/-- The body's obligation at a point: its windows before, its windows after. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (P := iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1
    t d)) ∗ (∃ d, owns (c : Thread nD τ) (st0_2 t) fullShare ((dats m 0 c).before 2 t d)) ∗ (∃ d, owns (c : Thread nD τ) (st0_3 t) fullShare ((dats m 0
    c).before 3 t d)) ∗ (∃ d, owns (c : Thread nD τ) (st0_4 t) fullShare ((dats m 0 c).before 4 t d)) ∗ (∃ d, owns (c : Thread nD τ) (st0_5 t)
    fullShare ((dats m 0 c).before 5 t d)) ∗ (∃ d, owns (c : Thread nD τ) (st0_6 t) fullShare ((dats m 0 c).before 6 t d)) ∗ (∃ d, owns (c : Thread nD
    τ) (st0_7 t) fullShare ((dats m 0 c).before 7 t d)) ∗ (∃ d, owns (c : Thread nD τ) (st0_8 t) fullShare ((dats m 0 c).before 8 t d)) ∗ (∃ d, owns (c
    : Thread nD τ) (st0_9 t) fullShare ((dats m 0 c).before 9 t d)) ∗ (∃ d, owns (c : Thread nD τ) (st0_10 t) fullShare ((dats m 0 c).before 10 t d)) ∗
    (∃ d, owns (c : Thread nD τ) (st0_11 t) fullShare ((dats m 0 c).before 11 t d)) ∗ (∃ d, owns (c : Thread nD τ) (st0_12 t) fullShare ((dats m 0
    c).before 12 t d)) ∗ (∃ d, owns (c : Thread nD τ) (st0_13 t) fullShare ((dats m 0 c).before 13 t d)) ∗ (∃ d, owns (c : Thread nD τ) (st0_14 t)
    fullShare ((dats m 0 c).before 14 t d)) ∗ (∃ d, owns (c : Thread nD τ) (st0_15 t) fullShare ((dats m 0 c).before 15 t d)) ∗ (∃ d, owns (c : Thread
    nD τ) (st0_16 t) fullShare ((dats m 0 c).before 16 t d)) ∗ (∃ d, owns (c : Thread nD τ) (st0_17 t) fullShare ((dats m 0 c).before 17 t d)) ∗ (∃ d,
    owns (c : Thread nD τ) (st0_18 t) fullShare ((dats m 0 c).before 18 t d)) ∗ (∃ d, owns (c : Thread nD τ) (st0_19 t) fullShare ((dats m 0 c).before
    19 t d))))
    (Q := fun _ => iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t) ∗ owns (c :
    Thread nD τ) (st0_2 t) fullShare ((dats m 0 c).after 2 t) ∗ owns (c : Thread nD τ) (st0_3 t) fullShare ((dats m 0 c).after 3 t) ∗ owns (c : Thread
    nD τ) (st0_4 t) fullShare ((dats m 0 c).after 4 t) ∗ owns (c : Thread nD τ) (st0_5 t) fullShare ((dats m 0 c).after 5 t) ∗ owns (c : Thread nD τ)
    (st0_6 t) fullShare ((dats m 0 c).after 6 t) ∗ owns (c : Thread nD τ) (st0_7 t) fullShare ((dats m 0 c).after 7 t) ∗ owns (c : Thread nD τ) (st0_8
    t) fullShare ((dats m 0 c).after 8 t) ∗ owns (c : Thread nD τ) (st0_9 t) fullShare ((dats m 0 c).after 9 t) ∗ owns (c : Thread nD τ) (st0_10 t)
    fullShare ((dats m 0 c).after 10 t) ∗ owns (c : Thread nD τ) (st0_11 t) fullShare ((dats m 0 c).after 11 t) ∗ owns (c : Thread nD τ) (st0_12 t)
    fullShare ((dats m 0 c).after 12 t) ∗ owns (c : Thread nD τ) (st0_13 t) fullShare ((dats m 0 c).after 13 t) ∗ owns (c : Thread nD τ) (st0_14 t)
    fullShare ((dats m 0 c).after 14 t) ∗ owns (c : Thread nD τ) (st0_15 t) fullShare ((dats m 0 c).after 15 t) ∗ owns (c : Thread nD τ) (st0_16 t)
    fullShare ((dats m 0 c).after 16 t) ∗ owns (c : Thread nD τ) (st0_17 t) fullShare ((dats m 0 c).after 17 t) ∗ owns (c : Thread nD τ) (st0_18 t)
    fullShare ((dats m 0 c).after 18 t) ∗ owns (c : Thread nD τ) (st0_19 t) fullShare ((dats m 0 c).after 19 t))) ?_ rfl .rfl fun _ => .rfl
  unfold bodyAt0
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl, handed c,
    show (dats m 0 c).owesAt () t.succ = (dats m 0 c).owesAt () t.castSucc from rfl, after_0, after_1, after_2, after_3, after_4, after_5, after_6, after_7, after_8, after_9, after_10, after_11, after_12, after_13, after_14, after_15, after_16, after_17, after_18, after_19]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (body_run c (grid0.coords t) _ _ _ _ _ _ _ _ _ _ _ _ _ _ _ _ _ _ _ _ _ _ _ _ _ _ _ _ _ _ _ _ _ _ _ _ _ _ _ _ _ _  (blockAt m c 0 t) (blockAt m c 1 t) (blockAt m c 2 t) (blockAt m c 3 t) (blockAt m c 4 t) (blockAt m c 5 t) (blockAt m c 6 t) (blockAt m c 7 t) (blockAt m c 8 t) (blockAt m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [Hs]; · iexact Hs
  iintro ⟨H0, H1, H2, H3, H4, H5, H6, H7, H8, H9, H10, H11, H12, H13, H14, H15, H16, H17, H18, H19, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option backward.isDefEq.respectTransparency.types false in
/-- The launch: it terminates with every window's array written as the windows say and every counter at zero. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := enters m Variants.none) (hA := A_eq m) (hΦ := fun _ _ => rfl)

/-- The call's results, its arguments kept, and every counter at zero. -/
theorem ends : θ_run defs (onTc (τ := τ) (main (F := F))) ⟨m, fun _ => 0, ρ⟩ (fun r => (∀ c : Dev nD,
      r.2.mem ((c : Thread nD τ).loc main_v52_0) = (dats m 0 c).arrAt 10 cfg0.N
      ∧ r.2.mem ((c : Thread nD τ).loc main_v52_1) = (dats m 0 c).arrAt 11 cfg0.N
      ∧ r.2.mem ((c : Thread nD τ).loc main_v52_2) = (dats m 0 c).arrAt 12 cfg0.N
      ∧ r.2.mem ((c : Thread nD τ).loc main_v52_3) = (dats m 0 c).arrAt 13 cfg0.N
      ∧ r.2.mem ((c : Thread nD τ).loc main_v52_4) = (dats m 0 c).arrAt 14 cfg0.N
      ∧ r.2.mem ((c : Thread nD τ).loc main_v52_5) = (dats m 0 c).arrAt 15 cfg0.N
      ∧ r.2.mem ((c : Thread nD τ).loc main_v52_6) = (dats m 0 c).arrAt 16 cfg0.N
      ∧ r.2.mem ((c : Thread nD τ).loc main_v52_7) = (dats m 0 c).arrAt 17 cfg0.N
      ∧ r.2.mem ((c : Thread nD τ).loc main_v52_8) = (dats m 0 c).arrAt 18 cfg0.N
      ∧ r.2.mem ((c : Thread nD τ).loc main_v52_9) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => ⟨(h.1 c).1 10, (h.1 c).1 11, (h.1 c).1 12, (h.1 c).1 13, (h.1 c).1 14, (h.1 c).1 15, (h.1 c).1 16, (h.1 c).1 17, (h.1 c).1 18, (h.1 c).1 19,
      ((h.1 c).2 main_arg0 (Pipeline.mem_restRefs_of main_arg0 (by decide) (by decide))).trans (V_arg0 m c),
      ((h.1 c).1 1).trans (((dats m 0 c).arrAt_in 1 rfl _).trans ((A_eq m c 1).trans (V_arg1 m c))),
      ((h.1 c).2 main_arg2 (Pipeline.mem_restRefs_of main_arg2 (by decide) (by decide))).trans (V_arg2 m c)⟩, h.2⟩) (launched m ρ)

end Cert.Kernel4Ideal.Rest
-- ==== Proof.RestMath.lean ====
/-
  What the fourth call computes: the prompt's rows normalised and projected, and the turn of a head by its position.
-/
module

public import proofs.«01_k».proof.Proof.MixMath

@[expose] public section

noncomputable section
open Idealize.ShloMosaic
namespace Rest
open Mix
open scoped BigOperators

/-- A row of the prompt, normalised, with the gain. -/
def row (X : FVec Ideal ⟨3, ![4, 2048, 2048]⟩ .f32) (G : FVec Ideal ⟨2, ![1, 2048]⟩ .f32) (i : Fin 8192) (d : Fin 2048) : EReal :=
  rms (fun d : Fin 2048 => X (ix3 ⟨i.val / 2048, by omega⟩ ⟨i.val % 2048, by omega⟩ d)) d * G (ix2 0 d)

/-- Its product with a column of the weights. -/
def entry (X : FVec Ideal ⟨3, ![4, 2048, 2048]⟩ .f32) (G : FVec Ideal ⟨2, ![1, 2048]⟩ .f32) (W : FVec Ideal ⟨3, ![1, 2048, 8784]⟩ .f32)
    (i : Fin 8192) (y : Fin 8784) : EReal :=
  ∑ d : Fin 2048, row X G i d * W (ix3 0 d y)

/-- A product's entry is told by its row and its column. -/
theorem entry_congr (X : FVec Ideal ⟨3, ![4, 2048, 2048]⟩ .f32) (G : FVec Ideal ⟨2, ![1, 2048]⟩ .f32) (W : FVec Ideal ⟨3, ![1, 2048, 8784]⟩ .f32)
    {i i' : Fin 8192} {y y' : Fin 8784} (hi : i.val = i'.val) (hy : y.val = y'.val) : entry X G W i y = entry X G W i' y' :=
  congrArg₂ (entry X G W) (Fin.ext hi) (Fin.ext hy)

/-- The angle of a position and a pair of a head; `b` holds the bits of the number of pairs. -/
def angle (b : BitVec 32) (p j : ℕ) : EReal :=
  (FloatOps.sitofp .f32 (BitVec.ofNat 32 p) : Ideal .f32) *
    Ideal.pow (Ideal.ofBits .f32 0x461C4000#32) (Ideal.div (-(FloatOps.sitofp .f32 (BitVec.ofNat 32 j) : Ideal .f32)) (Ideal.ofBits .f32 b))

/-- A head of 128 turned by its angles: the first half with the second. -/
def turned128 (θ : ℕ → EReal) (a : Fin 128 → EReal) (e : Fin 128) : EReal :=
  if h : e.val < 64 then a e * Ideal.cos (θ e.val) - a ⟨64 + e.val, by omega⟩ * Ideal.sin (θ e.val)
  else a ⟨e.val - 64, by omega⟩ * Ideal.sin (θ (e.val - 64)) + a e * Ideal.cos (θ (e.val - 64))

/-- A head of 64 turned so. -/
def turned64 (θ : ℕ → EReal) (a : Fin 64 → EReal) (e : Fin 64) : EReal :=
  if h : e.val < 32 then a e * Ideal.cos (θ e.val) - a ⟨32 + e.val, by omega⟩ * Ideal.sin (θ e.val)
  else a ⟨e.val - 32, by omega⟩ * Ideal.sin (θ (e.val - 32)) + a e * Ideal.cos (θ (e.val - 32))

/-- A turned head is told by its angles, its entries and the place asked. -/
theorem turned128_congr {θ θ' : ℕ → EReal} {a a' : Fin 128 → EReal} {e e' : Fin 128} (hθ : θ = θ') (ha : ∀ e, a e = a' e) (he : e.val = e'.val) :
    turned128 θ a e = turned128 θ' a' e' := by
  obtain rfl := hθ
  obtain rfl := funext ha
  obtain rfl := Fin.ext he
  rfl

/-- So is a short one. -/
theorem turned64_congr {θ θ' : ℕ → EReal} {a a' : Fin 64 → EReal} {e e' : Fin 64} (hθ : θ = θ') (ha : ∀ e, a e = a' e) (he : e.val = e'.val) :
    turned64 θ a e = turned64 θ' a' e' := by
  obtain rfl := hθ
  obtain rfl := funext ha
  obtain rfl := Fin.ext he
  rfl

section
variable (X : FVec Ideal ⟨3, ![4, 2048, 2048]⟩ .f32) (G : FVec Ideal ⟨2, ![1, 2048]⟩ .f32) (W : FVec Ideal ⟨3, ![1, 2048, 8784]⟩ .f32)

/-- The scaled queries, four heads in a row. -/
def queries (i : Fin 8192) (y : Fin 512) : EReal :=
  turned128 (angle 0x42800000#32 (i.val % 2048)) (fun e => entry X G W i ⟨5128 + 128 * (y.val / 128) + e.val, by omega⟩) ⟨y.val % 128, by omega⟩
    * Ideal.ofBits .f32 0x3E0293EE#32

/-- The keys, four rows for each of the prompt's. -/
def keys (ρ : Fin 32768) (e : Fin 128) : EReal :=
  turned128 (angle 0x42800000#32 (ρ.val / 4 % 2048)) (fun e => entry X G W ⟨ρ.val / 4, by omega⟩ ⟨5640 + 128 * (ρ.val % 4) + e.val, by omega⟩) e

/-- The values, laid out like the keys. -/
def values (ρ : Fin 32768) (e : Fin 128) : EReal := entry X G W ⟨ρ.val / 4, by omega⟩ ⟨6152 + 128 * (ρ.val % 4) + e.val, by omega⟩

/-- The attention's gates. -/
def gates (i : Fin 8192) (y : Fin 512) : EReal := entry X G W i ⟨6664 + y.val, by omega⟩

/-- The memory's scaled queries. -/
def memQueries (i : Fin 8192) (y : Fin 512) : EReal := entry X G W i ⟨7760 + y.val, by omega⟩ * Ideal.ofBits .f32 0x3DB504F3#32

/-- The memory's gates. -/
def memGates (i : Fin 8192) (y : Fin 512) : EReal := entry X G W i ⟨8272 + y.val, by omega⟩

/-- The index queries, eight heads in a row. -/
def idxQueries (i : Fin 8192) (y : Fin 512) : EReal :=
  turned64 (angle 0x42000000#32 (i.val % 2048)) (fun e => entry X G W i ⟨7176 + 64 * (y.val / 64) + e.val, by omega⟩) ⟨y.val % 64, by omega⟩

/-- The index keys. -/
def idxKeys (i : Fin 8192) (e : Fin 64) : EReal :=
  turned64 (angle 0x42000000#32 (i.val % 2048)) (fun e => entry X G W i ⟨7688 + e.val, by omega⟩) e

/-- The narrow columns: the index keys before their turn, the gates of the recurrence, the index's weights, and nothing. -/
def narrow (i : Fin 8192) (y : Fin 128) : EReal :=
  if h : y.val < 64 then entry X G W i ⟨7688 + y.val, by omega⟩
  else if h : y.val < 72 then entry X G W i ⟨5120 + (y.val - 64), by omega⟩
  else if h : y.val < 80 then entry X G W i ⟨7752 + (y.val - 72), by omega⟩ else 0

end

end Rest
-- ==== Proof.RestPay.lean ====
/-
  What a point of the fourth call stores, read at an index.
-/
module

public import proofs.«01_k».proof.Proof.RestRun
public import proofs.«01_k».proof.Proof.RestMath
public import Idealize.ShloMosaic.Lib.Pointwise

@[expose] public section

set_option maxRecDepth 16384
noncomputable section
open Idealize.ShloMosaic Idealize.ShloMosaic.TcCoe Idealize.SL.Sem
namespace Cert.Kernel4Ideal.Rest
open Cert.Kernel4Ideal Cert.Kernel4Ideal.Gen
open _root_.Rest _root_.Mem _root_.Mix Mlstm
open scoped BigOperators

/-- A block's normalised rows, at an entry. -/
theorem rows_at (X : FVec Ideal S512x2048 .f32) (G : FVec Ideal S1x2048 .f32) (r : Fin 512) (d : Fin 2048) :
    k0_pay4 (F := Ideal) X G (ix2 r d) = rms (fun d : Fin 2048 => X (ix2 r d)) d * G (ix2 0 d) := by
  pointwise [k0_pay4]
  simp only [ofBits_eps, ofBits_2048]
  unfold rms
  norm_num

/-- A block's product with rows of the weights, at an entry. -/
theorem product_at (U W : FVec Ideal S512x2048 .bf16) (r y : Fin 512) :
    k0_pay11 (F := Ideal) U W (ix2 r y) = ∑ d : Fin 2048, U (ix2 r d) * W (ix2 y d) := by
  pointwise [k0_pay11]

/-- Rows taken from the first weights, -/
theorem rowsA_at (x : FVec Ideal S2560x2048 .bf16) (o : ℕ) (inb) (y : Fin 512) (d : Fin 2048) (i : Fin 2560) (hi : i.val = o + y.val) :
    rowsA (F := Ideal) x ![o, 0] inb (ix2 y d) = x (ix2 i d) := by
  refine congrArg x (funext fun a => Fin.ext ?_)
  match a with
  | ⟨0, _⟩ => show o + 1 * y.val = i.val; omega
  | ⟨1, _⟩ => show 0 + 1 * d.val = d.val; omega

/-- and from the memory's. -/
theorem rowsB_at (x : FVec Ideal S1024x2048 .bf16) (o : ℕ) (inb) (y : Fin 512) (d : Fin 2048) (i : Fin 1024) (hi : i.val = o + y.val) :
    rowsB (F := Ideal) x ![o, 0] inb (ix2 y d) = x (ix2 i d) := by
  refine congrArg x (funext fun a => Fin.ext ?_)
  match a with
  | ⟨0, _⟩ => show o + 1 * y.val = i.val; omega
  | ⟨1, _⟩ => show 0 + 1 * d.val = d.val; omega

/-- A head of 128 turned with the cosines `c` and the signed sines `s`. -/
def turn (a c s : FVec Ideal S512x128 .f32) : FVec Ideal S512x128 .f32 :=
  addf (mulf a c) (mulf (dynamicRotate 1 64#32 none a rotates_S512x128_d1) s)

/-- … at an entry. -/
theorem turn_at (a c s : FVec Ideal S512x128 .f32) (θ : ℕ → EReal) (r : Fin 512) (hc : ∀ e : Fin 128, c (ix2 r e) = Ideal.cos (θ (e.val % 64)))
    (hs : ∀ e : Fin 128, s (ix2 r e) = if e.val < 64 then -Ideal.sin (θ e.val) else Ideal.sin (θ (e.val - 64))) (e : Fin 128) :
    turn a c s (ix2 r e) = turned128 θ (fun e => a (ix2 r e)) e := by
  pointwise [turn]
  rw [hc, hs]
  unfold turned128
  by_cases he : e.val < 64
  · have e0 : e.val % 64 = e.val := by omega
    have e1 : (e.val + 128 - 64) % 128 = 64 + e.val := by omega
    simp only [e0, e1, he, if_true, dif_pos, mul_neg]
    rfl
  · have e0 : e.val % 64 = e.val - 64 := by omega
    have e1 : (e.val + 128 - 64) % 128 = e.val - 64 := by omega
    simp only [e0, e1, he, if_false, dif_neg, not_false_eq_true]
    exact add_comm _ _

/-- The test for the first half of a head of 64, as the kernel writes it for lane `e`. -/
def inFirst (e : ℕ) : BitVec 1 :=
  let n : BitVec 32 := Scalar.select (Scalar.cmpi .eq 64#32 0#32) 1#32 64#32
  let q : BitVec 32 := IntOp.remsi .vector (BitVec.ofNat 32 e) n
  IntOp.cmpi .slt (Scalar.select (IntOp.andi (IntOp.xori (IntOp.cmpi .slt q 0#32) (Scalar.cmpi .slt n 0#32)) (IntOp.cmpi .ne q 0#32)) (IntOp.addi q n) q) 32#32

/-- It tells the halves. -/
theorem inFirst_at : ∀ e : Fin 128, inFirst e.val = if e.val % 64 < 32 then 1#1 else 0#1 := by decide +kernel

/-- Two heads of 64 turned. -/
theorem turn64_at (a c s : FVec Ideal S512x128 .f32) (θ : ℕ → EReal) (r : Fin 512) (hc : ∀ e : Fin 128, c (ix2 r e) = Ideal.cos (θ (e.val % 32)))
    (hs : ∀ e : Fin 128, s (ix2 r e) = if e.val % 64 < 32 then -Ideal.sin (θ (e.val % 32)) else Ideal.sin (θ (e.val % 32))) (e : Fin 128) :
    k0_pay30 (F := Ideal) a c s (ix2 r e) = turned64 θ (fun j => a (ix2 r ⟨64 * (e.val / 64) + j.val, by omega⟩)) ⟨e.val % 64, by omega⟩ := by
  pointwise [k0_pay30]
  change a (ix2 r e) * c (ix2 r e) + Scalar.select (inFirst e.val) (a (ix2 r _)) (a (ix2 r _)) * s (ix2 r e) = _
  rw [inFirst_at, hc, hs]
  unfold turned64
  have e2 : 64 * (e.val / 64) + e.val % 64 = e.val := by omega
  by_cases he : e.val % 64 < 32
  · have e0 : e.val % 64 % 32 = e.val % 32 := by omega
    have e1 : (e.val + 128 - 96) % 128 = 64 * (e.val / 64) + (32 + e.val % 64) := by omega
    have e3 : e.val % 32 = e.val % 64 := by omega
    simp only [e1, e2, e3, he, if_true, dif_pos, mul_neg]
    rfl
  · have e1 : (e.val + 128 - 32) % 128 = 64 * (e.val / 64) + (e.val % 64 - 32) := by omega
    have e3 : e.val % 32 = e.val % 64 - 32 := by omega
    simp only [e1, e2, e3, he, if_false, dif_neg, not_false_eq_true]
    exact add_comm _ _

section
variable (X : FVec Ideal S512x2048 .f32) (G : FVec Ideal S1x2048 .f32) (A : FVec Ideal S2560x2048 .bf16) (B : FVec Ideal S1024x2048 .bf16)
variable (N : FVec Ideal S2048x128 .bf16) (T : FVec Ideal S128x2048 .bf16) (c s : FVec Ideal S512x128 .f32) (θ : ℕ → EReal) (r : Fin 512)

/-- A block's row times a row of the first weights, -/
def dotA (y : Fin 2560) : EReal := ∑ d : Fin 2048, rms (fun d : Fin 2048 => X (ix2 r d)) d * G (ix2 0 d) * A (ix2 y d)

/-- of the memory's, -/
def dotB (y : Fin 1024) : EReal := ∑ d : Fin 2048, rms (fun d : Fin 2048 => X (ix2 r d)) d * G (ix2 0 d) * B (ix2 y d)

/-- and a column of the narrow ones. -/
def dotN (y : Fin 128) : EReal := ∑ d : Fin 2048, rms (fun d : Fin 2048 => X (ix2 r d)) d * G (ix2 0 d) * N (ix2 d y)

/-- The product with rows of the first weights, at an entry, -/
theorem prodA (o : ℕ) (ho : o ≤ 2048) (inb) (y : Fin 512) :
    k0_pay11 (F := Ideal) (k0_pay4 (F := Ideal) X G) (rowsA A ![o, 0] inb) (ix2 r y) = dotA X G A r ⟨o + y.val, by omega⟩ := by
  rw [product_at]
  exact Finset.sum_congr rfl fun d _ => congrArg₂ (· * ·) (rows_at X G r d) (rowsA_at A o inb y d _ rfl)

/-- and of the memory's. -/
theorem prodB (o : ℕ) (ho : o ≤ 512) (inb) (y : Fin 512) :
    k0_pay11 (F := Ideal) (k0_pay4 (F := Ideal) X G) (rowsB B ![o, 0] inb) (ix2 r y) = dotB X G B r ⟨o + y.val, by omega⟩ := by
  rw [product_at]
  exact Finset.sum_congr rfl fun d _ => congrArg₂ (· * ·) (rows_at X G r d) (rowsB_at B o inb y d _ rfl)

/-- The gates. -/
theorem gates_at (y : Fin 512) : gates (F := Ideal) X G A (ix2 r y) = dotA X G A r ⟨1536 + y.val, by omega⟩ := prodA X G A r 1536 (by decide) _ y

/-- The memory's gates, -/
theorem memGates_at (y : Fin 512) : memGates (F := Ideal) X G B (ix2 r y) = dotB X G B r ⟨512 + y.val, by omega⟩ := prodB X G B r 512 (by decide) _ y

/-- and its scaled queries. -/
theorem memQueries_at (y : Fin 512) :
    memQueries (F := Ideal) X G B (ix2 r y) = dotB X G B r ⟨y.val, by omega⟩ * Ideal.ofBits .f32 0x3DB504F3#32 := by
  refine Eq.trans ?_ (congrArg (· * _) ((prodB X G B r 0 (by decide) inb_S1024x2048_S512x2048_0_0 y).trans (congrArg (dotB X G B r) (Fin.ext (Nat.zero_add _)))))
  show truncf .bf16 (mulf (k0_pay11 (F := Ideal) (k0_pay4 (F := Ideal) X G) (rowsB B ![0, 0] inb_S1024x2048_S512x2048_0_0)) (broadcast S512x512 (Scalar.ofBits .f32 0x3DB504F3#32))) bitsLt_bf16_f32 (ix2 r y) = _
  generalize k0_pay11 (F := Ideal) _ _ = P
  pointwise

/-- The narrow columns, -/
theorem narrow_at (y : Fin 128) : narrow (F := Ideal) X G N (ix2 r y) = dotN X G N r y := by
  unfold narrow
  generalize hU : k0_pay4 (F := Ideal) X G = U
  pointwise [k0_pay5]
  subst hU
  simp only [rows_at]
  rfl

/-- and the narrow columns transposed. -/
theorem narrowT_at (y : Fin 128) : narrowT (F := Ideal) X G T (ix2 y r)
    = ∑ d : Fin 2048, rms (fun d : Fin 2048 => X (ix2 r d)) d * G (ix2 0 d) * T (ix2 y d) := by
  unfold narrowT
  generalize hU : k0_pay4 (F := Ideal) X G = U
  pointwise [k0_pay10]
  subst hU
  simp only [rows_at]
  exact Finset.sum_congr rfl fun d _ => mul_comm _ _

/-- Four blocks of 128 columns side by side, at an entry. -/
theorem side_at (a b c d : FVec Ideal S512x128 .f32) (f : Fin 4 → Fin 128 → EReal) (ha : ∀ e, a (ix2 r e) = f 0 e) (hb : ∀ e, b (ix2 r e) = f 1 e)
    (hc : ∀ e, c (ix2 r e) = f 2 e) (hd : ∀ e, d (ix2 r e) = f 3 e) (y : Fin 512) :
    concatenate S512x512 1 [⟨S512x128, a⟩, ⟨S512x128, b⟩, ⟨S512x128, c⟩, ⟨S512x128, d⟩]
      concatenates_S512x128_S512x128_S512x128_S512x128_S512x512_d1 (ix2 r y) = f ⟨y.val / 128, by omega⟩ ⟨y.val % 128, by omega⟩ := by
  pointwise
  by_cases h0 : y.val < 128
  · rw [dif_pos h0, ha]
    exact congrArg₂ f (Fin.ext (show 0 = y.val / 128 by omega)) (Fin.ext (show y.val = y.val % 128 by omega))
  rw [dif_neg h0]
  by_cases h1 : y.val < 256
  · rw [dif_pos (show y.val - 128 < 128 by omega), hb]
    exact congrArg₂ f (Fin.ext (show 1 = y.val / 128 by omega)) (Fin.ext (show y.val - 128 = y.val % 128 by omega))
  rw [dif_neg (show ¬ y.val - 128 < 128 by omega)]
  by_cases h2 : y.val < 384
  · rw [dif_pos (show y.val - 128 - 128 < 128 by omega), hc]
    exact congrArg₂ f (Fin.ext (show 2 = y.val / 128 by omega)) (Fin.ext (show y.val - 128 - 128 = y.val % 128 by omega))
  rw [dif_neg (show ¬ y.val - 128 - 128 < 128 by omega), hd]
  exact congrArg₂ f (Fin.ext (show 3 = y.val / 128 by omega)) (Fin.ext (show y.val - 128 - 128 - 128 = y.val % 128 by omega))

/-- A block of 128 columns of a product, at an entry. -/
theorem cut_at (P : FVec Ideal S512x512 .f32) (o : ℕ) (h) (e : Fin 128) (y : Fin 512) (hy : y.val = o + e.val) :
    extractStridedSlice S512x128 ![0, o] P h (ix2 r e) = P (ix2 r y) := by
  have hy : y = ⟨o + e.val, by omega⟩ := Fin.ext hy
  rw [hy]
  pointwise

/-- A cast to the same shape keeps the array. -/
theorem same_at : k0_pay13 (F := Ideal) c = c := by
  funext y
  idx_vars y
  pointwise [k0_pay13]

/-- The values' stripes. -/
theorem values_at (i : Fin 2048) (hr : r.val = i.val / 4) (e : Fin 128) :
    (View.canon (values (F := Ideal) X G A) : FVec Ideal S2048x128 .f32) (ix2 i e) = dotA X G A r ⟨1024 + 128 * (i.val % 4) + e.val, by omega⟩ := by
  have hP := prodA X G A r 1024 (by decide) inb_S2560x2048_S512x2048_1024_0
  have key : ∀ o (ho : o ≤ 384) (h), o = 128 * (i.val % 4) →
      extractStridedSlice S512x128 ![0, o] (k0_pay11 (F := Ideal) (k0_pay4 (F := Ideal) X G) (rowsA A ![1024, 0] inb_S2560x2048_S512x2048_1024_0)) h (ix2 r e)
        = dotA X G A r ⟨1024 + 128 * (i.val % 4) + e.val, by omega⟩ := fun o ho h hi =>
    (cut_at r _ o h e ⟨o + e.val, by omega⟩ rfl).trans ((hP _).trans (congrArg (dotA X G A r) (Fin.ext
      (show 1024 + (o + e.val) = 1024 + 128 * (i.val % 4) + e.val by omega))))
  unfold values
  by_cases h3 : i.val % 4 = 3
  · exact (stripe_hit 3 _ _ _ _ r e i (by omega)).trans (key 384 (by decide) slices_S512x512_o0_384_S512x128 (by omega))
  refine (stripe_miss 3 (by omega) _ _ _ _ i e h3).trans ?_
  by_cases h2 : i.val % 4 = 2
  · exact (stripe_hit 2 _ _ _ _ r e i (by omega)).trans (key 256 (by decide) slices_S512x512_o0_256_S512x128 (by omega))
  refine (stripe_miss 2 (by omega) _ _ _ _ i e h2).trans ?_
  by_cases h1 : i.val % 4 = 1
  · exact (stripe_hit 1 _ _ _ _ r e i (by omega)).trans (key 128 (by decide) slices_S512x512_o0_128_S512x128 (by omega))
  refine (stripe_miss 1 (by omega) _ _ _ _ i e h1).trans ?_
  exact (stripe_hit 0 _ _ _ _ r e i (by omega)).trans (key 0 (by decide) slices_S512x512_o0_0_S512x128 (by omega))

section
variable (hc : ∀ e : Fin 128, c (ix2 r e) = Ideal.cos (θ (e.val % 32)))
variable (hs : ∀ e : Fin 128, s (ix2 r e) = if e.val % 64 < 32 then -Ideal.sin (θ (e.val % 32)) else Ideal.sin (θ (e.val % 32)))
include hc hs

/-- Two short heads of a product, turned. -/
theorem short_at (P : FVec Ideal S512x512 .f32) (o : ℕ) (ho : o ≤ 384) (h) (e : Fin 128) :
    k0_pay30 (F := Ideal) (extractStridedSlice S512x128 ![0, o] P h) c s (ix2 r e)
      = turned64 θ (fun j => P (ix2 r ⟨o + 64 * (e.val / 64) + j.val, by omega⟩)) ⟨e.val % 64, by omega⟩ :=
  (turn64_at _ c s θ r hc hs e).trans (turned64_congr rfl (fun j => cut_at r P o h _ _ (by dsimp only; omega)) rfl)

/-- The index queries. -/
theorem idxQueries_at (y : Fin 512) : idxQueries (F := Ideal) X G A c s (ix2 r y)
    = turned64 θ (fun e => dotA X G A r ⟨2048 + 64 * (y.val / 64) + e.val, by omega⟩) ⟨y.val % 64, by omega⟩ := by
  have hP := prodA X G A r 2048 (by decide) inb_S2560x2048_S512x2048_2048_0
  have hq : idxQueries (F := Ideal) X G A c s = truncf .bf16 (concatenate S512x512 1
      [⟨S512x128, k0_pay30 (extractStridedSlice S512x128 ![0, 0] (k0_pay11 (F := Ideal) (k0_pay4 (F := Ideal) X G) (rowsA A ![2048, 0] inb_S2560x2048_S512x2048_2048_0)) slices_S512x512_o0_0_S512x128) (k0_pay13 c) s⟩,
       ⟨S512x128, k0_pay30 (extractStridedSlice S512x128 ![0, 128] (k0_pay11 (F := Ideal) (k0_pay4 (F := Ideal) X G) (rowsA A ![2048, 0] inb_S2560x2048_S512x2048_2048_0)) slices_S512x512_o0_128_S512x128) (k0_pay13 c) s⟩,
       ⟨S512x128, k0_pay30 (extractStridedSlice S512x128 ![0, 256] (k0_pay11 (F := Ideal) (k0_pay4 (F := Ideal) X G) (rowsA A ![2048, 0] inb_S2560x2048_S512x2048_2048_0)) slices_S512x512_o0_256_S512x128) (k0_pay13 c) s⟩,
       ⟨S512x128, k0_pay30 (extractStridedSlice S512x128 ![0, 384] (k0_pay11 (F := Ideal) (k0_pay4 (F := Ideal) X G) (rowsA A ![2048, 0] inb_S2560x2048_S512x2048_2048_0)) slices_S512x512_o0_384_S512x128) (k0_pay13 c) s⟩]
      concatenates_S512x128_S512x128_S512x128_S512x128_S512x512_d1) bitsLt_bf16_f32 := rfl
  rw [hq, same_at c]
  generalize k0_pay11 (F := Ideal) (k0_pay4 (F := Ideal) X G) (rowsA A ![2048, 0] inb_S2560x2048_S512x2048_2048_0) = P at hP ⊢
  refine (side_at r _ _ _ _ (fun h e => turned64 θ (fun j => P (ix2 r ⟨128 * h.val + 64 * (e.val / 64) + j.val, by omega⟩)) ⟨e.val % 64, by omega⟩)
    (short_at c s θ r hc hs P 0 (by decide) _) (short_at c s θ r hc hs P 128 (by decide) _) (short_at c s θ r hc hs P 256 (by decide) _)
    (short_at c s θ r hc hs P 384 (by decide) _) y).trans (turned64_congr rfl (fun e => (hP _).trans ?_) (by dsimp only; omega))
  exact congrArg (dotA X G A r) (Fin.ext (by dsimp only; omega))

/-- The index keys. -/
theorem idxKeys_at (e : Fin 64) : idxKeys (F := Ideal) X G N c s (ix2 r e)
    = turned64 θ (fun e => dotN X G N r ⟨e.val, by omega⟩) e := by
  have hq : idxKeys (F := Ideal) X G N c s
      = extractStridedSlice S512x64 ![0, 0] (k0_pay30 (narrow (F := Ideal) X G N) (k0_pay13 c) s) slices_S512x128_o0_0_S512x64 := rfl
  rw [hq, same_at c]
  refine Eq.trans ?_ ((turn64_at (narrow (F := Ideal) X G N) c s θ r hc hs ⟨e.val, by omega⟩).trans (turned64_congr rfl
    (fun j => (narrow_at X G N r _).trans (congrArg (dotN X G N r) (Fin.ext (by dsimp only; omega)))) (by dsimp only; omega)))
  generalize k0_pay30 (F := Ideal) _ _ _ = Q
  pointwise

end

variable (hc : ∀ e : Fin 128, c (ix2 r e) = Ideal.cos (θ (e.val % 64)))
variable (hs : ∀ e : Fin 128, s (ix2 r e) = if e.val < 64 then -Ideal.sin (θ e.val) else Ideal.sin (θ (e.val - 64)))
include hc hs

/-- A head of a product, turned. -/
theorem head_at (P : FVec Ideal S512x512 .f32) (o : ℕ) (ho : o ≤ 384) (h) (e : Fin 128) :
    turn (extractStridedSlice S512x128 ![0, o] P h) c s (ix2 r e) = turned128 θ (fun e => P (ix2 r ⟨o + e.val, by omega⟩)) e :=
  (turn_at _ c s θ r hc hs e).trans (turned128_congr rfl (fun e => cut_at r P o h e _ rfl) rfl)

/-- The scaled queries. -/
theorem queries_at (y : Fin 512) : queries (F := Ideal) X G A c s (ix2 r y)
    = turned128 θ (fun e => dotA X G A r ⟨128 * (y.val / 128) + e.val, by omega⟩) ⟨y.val % 128, by omega⟩ * Ideal.ofBits .f32 0x3E0293EE#32 := by
  have hP := prodA X G A r 0 (by decide) inb_S2560x2048_S512x2048_0_0
  have hq : queries (F := Ideal) X G A c s = k0_pay14 (F := Ideal) (k0_pay11 (F := Ideal) (k0_pay4 (F := Ideal) X G) (rowsA A ![0, 0] inb_S2560x2048_S512x2048_0_0))
    (extractStridedSlice S512x128 ![0, 0] (k0_pay11 (F := Ideal) (k0_pay4 (F := Ideal) X G) (rowsA A ![0, 0] inb_S2560x2048_S512x2048_0_0)) slices_S512x512_o0_0_S512x128)
    (k0_pay13 c) s c s c s c s := rfl
  rw [hq]
  generalize k0_pay11 (F := Ideal) (k0_pay4 (F := Ideal) X G) (rowsA A ![0, 0] inb_S2560x2048_S512x2048_0_0) = P at hP ⊢
  show concatenate S512x512 1 [⟨S512x128, turn (extractStridedSlice S512x128 ![0, 0] P slices_S512x512_o0_0_S512x128) (k0_pay13 (F := Ideal) c) (k0_pay13 (F := Ideal) s)⟩,
    ⟨S512x128, turn (extractStridedSlice S512x128 ![0, 128] P slices_S512x512_o0_128_S512x128) (k0_pay13 (F := Ideal) c) (k0_pay13 (F := Ideal) s)⟩,
    ⟨S512x128, turn (extractStridedSlice S512x128 ![0, 256] P slices_S512x512_o0_256_S512x128) (k0_pay13 (F := Ideal) c) (k0_pay13 (F := Ideal) s)⟩,
    ⟨S512x128, turn (extractStridedSlice S512x128 ![0, 384] P slices_S512x512_o0_384_S512x128) (k0_pay13 (F := Ideal) c) (k0_pay13 (F := Ideal) s)⟩]
    concatenates_S512x128_S512x128_S512x128_S512x128_S512x512_d1 (ix2 r y) * Ideal.ofBits .f32 0x3E0293EE#32 = _
  rw [same_at c, same_at s]
  refine congrArg (· * _) ((side_at r _ _ _ _ (fun h e => turned128 θ (fun e => P (ix2 r ⟨128 * h.val + e.val, by omega⟩)) e)
    (head_at c s θ r hc hs P 0 (by decide) _) (head_at c s θ r hc hs P 128 (by decide) _) (head_at c s θ r hc hs P 256 (by decide) _)
    (head_at c s θ r hc hs P 384 (by decide) _) y).trans (turned128_congr rfl (fun e => (hP _).trans ?_) rfl))
  exact congrArg (dotA X G A r) (Fin.ext (Nat.zero_add _))

/-- A head's keys: the stripe stored by each of the four stores. -/
theorem keys_at (i : Fin 2048) (j : Fin 512) (hj : j.val = i.val / 4) (hjr : j = r) (e : Fin 128) :
    (View.canon (keys (F := Ideal) X G A c s) : FVec Ideal S2048x128 .f32) (ix2 i e)
      = turned128 θ (fun e => dotA X G A r ⟨512 + 128 * (i.val % 4) + e.val, by omega⟩) e := by
  subst hjr
  have hP := prodA X G A j 512 (by decide) inb_S2560x2048_S512x2048_512_0
  have key : ∀ o (ho : o ≤ 384) (h), o = 128 * (i.val % 4) →
      turn (extractStridedSlice S512x128 ![0, o] (k0_pay11 (F := Ideal) (k0_pay4 (F := Ideal) X G) (rowsA A ![512, 0] inb_S2560x2048_S512x2048_512_0)) h) c s (ix2 j e)
        = turned128 θ (fun e => dotA X G A j ⟨512 + 128 * (i.val % 4) + e.val, by omega⟩) e := fun o ho h hi =>
    (head_at c s θ j hc hs _ o ho h e).trans (turned128_congr rfl (fun e => (hP _).trans (congrArg (dotA X G A j) (Fin.ext
      (show 512 + (o + e.val) = 512 + 128 * (i.val % 4) + e.val by omega)))) rfl)
  have hc' : shapeCast S512x128 c shapeCasts_S512x128_S512x128 = c := same_at c
  have hs' : shapeCast S512x128 s shapeCasts_S512x128_S512x128 = s := same_at s
  unfold keys
  by_cases h3 : i.val % 4 = 3
  · refine (stripe_hit 3 _ _ _ _ j e i (by omega)).trans (Eq.trans ?_ (key 384 (by decide) slices_S512x512_o0_384_S512x128 (by omega)))
    unfold k0_pay23
    rw [hc', hs']
    rfl
  refine (stripe_miss 3 (by omega) _ _ _ _ i e h3).trans ?_
  by_cases h2 : i.val % 4 = 2
  · refine (stripe_hit 2 _ _ _ _ j e i (by omega)).trans (Eq.trans ?_ (key 256 (by decide) slices_S512x512_o0_256_S512x128 (by omega)))
    unfold k0_pay21
    rw [hc', hs']
    rfl
  refine (stripe_miss 2 (by omega) _ _ _ _ i e h2).trans ?_
  by_cases h1 : i.val % 4 = 1
  · refine (stripe_hit 1 _ _ _ _ j e i (by omega)).trans (Eq.trans ?_ (key 128 (by decide) slices_S512x512_o0_128_S512x128 (by omega)))
    unfold k0_pay19
    rw [hc', hs']
    rfl
  refine (stripe_miss 1 (by omega) _ _ _ _ i e h1).trans ?_
  refine (stripe_hit 0 _ _ _ _ j e i (by omega)).trans (Eq.trans ?_ (key 0 (by decide) slices_S512x512_o0_0_S512x128 (by omega)))
  unfold k0_pay17
  rw [hc', hs']
  rfl

end

end Cert.Kernel4Ideal.Rest
-- ==== Proof.RestBlk.lean ====
/-
  What the fourth call's windows hold at a point.
-/
module

public import proofs.«01_k».proof.Proof.RestRun
public import proofs.«01_k».proof.Proof.RestMath
public import Idealize.ShloMosaic.Lib.Pointwise
public import Idealize.ShloMosaic.Lib.Pipeline.ValueKit
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.Kernel4Ideal.Rest
open Cert.Kernel4Ideal Cert.Kernel4Ideal.Gen
open _root_.Rest _root_.Mem _root_.Mix Mlstm
open scoped BigOperators

variable (m : (ℓ : Loc nD τ sig) → Buf (Elt Ideal) ℓ) (c : Dev nD)

/-- The angles of a head of 128, position by position. -/
def angles128 : FVec Ideal S2048x64 .f32 :=
  mulf (broadcastInDim S2048x64 ![0, 1] bcast_S2048x1_S2048x64_0_1 (broadcastInDim S2048x1 ![0] bcast_S2048_S2048x1_0
      (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- The angles of a head of 64. -/
def angles64 : FVec Ideal S2048x32 .f32 :=
  mulf (broadcastInDim S2048x32 ![0, 1] bcast_S2048x1_S2048x32_0_1 (broadcastInDim S2048x1 ![0] bcast_S2048_S2048x1_0
      (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- An angle of a head of 128, -/
theorem angles128_at (p : Fin 2048) (j : Fin 64) : angles128 (ix2 p j) = angle 0x42800000#32 p.val j.val := by
  pointwise [angles128]
  rfl

/-- and of a head of 64. -/
theorem angles64_at (p : Fin 2048) (j : Fin 32) : angles64 (ix2 p j) = angle 0x42000000#32 p.val j.val := by
  pointwise [angles64]
  rfl

/-- The host's cosines of a head of 128, -/
theorem host_cos128 : (V m c main_v30 : FVec Ideal S2048x128 .f32)
    = concatenate S2048x128 1 [⟨S2048x64, Host.cos angles128⟩, ⟨S2048x64, Host.cos angles128⟩] concatenates_S2048x64_S2048x64_S2048x128_d1 := by
  entry_read
  rfl

/-- its signed sines, -/
theorem host_sin128 : (V m c main_v32 : FVec Ideal S2048x128 .f32)
    = concatenate S2048x128 1 [⟨S2048x64, Host.negf (Host.sin angles128)⟩, ⟨S2048x64, Host.sin angles128⟩] concatenates_S2048x64_S2048x64_S2048x128_d1 := by
  entry_read
  rfl

/-- Four tables side by side. -/
def four (a b c d : FVec Ideal S2048x32 .f32) : FVec Ideal S2048x128 .f32 :=
  concatenate S2048x128 1 [⟨S2048x32, a⟩, ⟨S2048x32, b⟩, ⟨S2048x32, c⟩, ⟨S2048x32, d⟩] concatenates_S2048x32_S2048x32_S2048x32_S2048x32_S2048x128_d1

theorem four_congr {a b c d a' b' c' d' : FVec Ideal S2048x32 .f32} (ha : a = a') (hb : b = b') (hc : c = c') (hd : d = d') :
    four a b c d = four a' b' c' d' := by rw [ha, hb, hc, hd]

/-- the cosines of a head of 64, -/
theorem host_cos64 : (V m c main_v47 : FVec Ideal S2048x128 .f32) = four (Host.cos angles64) (Host.cos angles64) (Host.cos angles64) (Host.cos angles64) := by
  unfold V
  have h : ∀ σ : Valuation τ sig (Elt Ideal), (StableHlo.upto hostOps0 σ 52 (Proc.devRef .tc main_v45) : FVec Ideal S2048x32 .f32) = Host.cos angles64 := fun σ => by
    after_reads_simp
    rfl
  refine (StableHlo.after_last_write (i := 52) [main_v48, main_v49, main_v50, main_v51] rfl rfl (by decide) _).trans ?_
  refine (StableHlo.nary_result _ _ _ _ _ _).trans ?_
  exact four_congr (h fun b => m (c, b)) (h fun b => m (c, b)) (h fun b => m (c, b)) (h fun b => m (c, b))

/-- and its signed sines. -/
theorem host_sin64 : (V m c main_v50 : FVec Ideal S2048x128 .f32)
    = four (Host.negf (Host.sin angles64)) (Host.sin angles64) (Host.negf (Host.sin angles64)) (Host.sin angles64) := by
  unfold V
  have h0 : ∀ σ : Valuation τ sig (Elt Ideal), (StableHlo.upto hostOps0 σ 55 (Proc.devRef .tc main_v46) : FVec Ideal S2048x32 .f32) = Host.sin angles64 := fun σ => by
    after_reads_simp
    rfl
  have h1 : ∀ σ : Valuation τ sig (Elt Ideal), (StableHlo.upto hostOps0 σ 55 (Proc.devRef .tc main_v48) : FVec Ideal S2048x32 .f32) = Host.negf (Host.sin angles64) := fun σ => by
    after_reads_simp
    rfl
  have h2 : ∀ σ : Valuation τ sig (Elt Ideal), (StableHlo.upto hostOps0 σ 55 (Proc.devRef .tc main_v49) : FVec Ideal S2048x32 .f32) = Host.negf (Host.sin angles64) := fun σ => by
    after_reads_simp
    rfl
  refine (StableHlo.after_last_write (i := 55) [main_v51] rfl rfl (by decide) _).trans ?_
  refine (StableHlo.nary_result _ _ _ _ _ _).trans ?_
  exact four_congr (h1 fun b => m (c, b)) (h0 fun b => m (c, b)) (h2 fun b => m (c, b)) (h0 fun b => m (c, b))

/-- The weights transposed. -/
def turnedW (W : FVec Ideal S1x2048x8784 .f32) : FVec Ideal S8784x2048 .f32 :=
  transpose S8784x2048 [1, 0] (shapeCast _ W shapeCasts_S1x2048x8784_S2048x8784) transposes_S2048x8784_S8784x2048_1_0

/-- Five pieces of the narrow weights, one below the other. -/
def five (a : FVec Ideal S64x2048 .f32) (b c : FVec Ideal S4x2048 .f32) (d : FVec Ideal S8x2048 .f32) (e : FVec Ideal S48x2048 .f32) : FVec Ideal S128x2048 .f32 :=
  concatenate S128x2048 0 [⟨S64x2048, a⟩, ⟨S4x2048, b⟩, ⟨S4x2048, c⟩, ⟨S8x2048, d⟩, ⟨S48x2048, e⟩]
    concatenates_S64x2048_S4x2048_S4x2048_S8x2048_S48x2048_S128x2048_d0

theorem five_congr {a a' : FVec Ideal S64x2048 .f32} {b b' c c' : FVec Ideal S4x2048 .f32} {d d' : FVec Ideal S8x2048 .f32} {e e' : FVec Ideal S48x2048 .f32}
    (ha : a = a') (hb : b = b') (hc : c = c') (hd : d = d') (he : e = e') : five a b c d e = five a' b' c' d' e' := by rw [ha, hb, hc, hd, he]

/-- The narrow weights' rows. -/
def narrowW (W : FVec Ideal S1x2048x8784 .f32) : FVec Ideal S128x2048 .f32 :=
  five (extractStridedSlice S64x2048 ![7688, 0] (turnedW W) slices_S8784x2048_S64x2048_7688_0)
    (extractStridedSlice S4x2048 ![5120, 0] (turnedW W) slices_S8784x2048_S4x2048_5120_0)
    (extractStridedSlice S4x2048 ![5124, 0] (turnedW W) slices_S8784x2048_S4x2048_5124_0)
    (extractStridedSlice S8x2048 ![7752, 0] (turnedW W) slices_S8784x2048_S8x2048_7752_0)
    (broadcastInDim S48x2048 ![] bcast_S_S48x2048 (constant S_ .f32 0x00000000#32))

/-- The host's narrow weights before their cast, -/
theorem host_rows (σ : Valuation τ sig (Elt Ideal)) : (StableHlo.upto hostOps0 σ 14 (Proc.devRef .tc main_v12) : FVec Ideal S128x2048 .f32)
    = narrowW (σ (Proc.devRef .tc main_arg2)) := by
  have h0 : (StableHlo.upto hostOps0 σ 13 (Proc.devRef .tc main_v7) : FVec Ideal S64x2048 .f32)
      = extractStridedSlice S64x2048 ![7688, 0] (turnedW (σ (Proc.devRef .tc main_arg2))) slices_S8784x2048_S64x2048_7688_0 := by
    after_reads_simp
    rfl
  have h1 : (StableHlo.upto hostOps0 σ 13 (Proc.devRef .tc main_v8) : FVec Ideal S4x2048 .f32)
      = extractStridedSlice S4x2048 ![5120, 0] (turnedW (σ (Proc.devRef .tc main_arg2))) slices_S8784x2048_S4x2048_5120_0 := by
    after_reads_simp
    rfl
  have h2 : (StableHlo.upto hostOps0 σ 13 (Proc.devRef .tc main_v9) : FVec Ideal S4x2048 .f32)
      = extractStridedSlice S4x2048 ![5124, 0] (turnedW (σ (Proc.devRef .tc main_arg2))) slices_S8784x2048_S4x2048_5124_0 := by
    after_reads_simp
    rfl
  have h3 : (StableHlo.upto hostOps0 σ 13 (Proc.devRef .tc main_v10) : FVec Ideal S8x2048 .f32)
      = extractStridedSlice S8x2048 ![7752, 0] (turnedW (σ (Proc.devRef .tc main_arg2))) slices_S8784x2048_S8x2048_7752_0 := by
    after_reads_simp
    rfl
  have h4 : (StableHlo.upto hostOps0 σ 13 (Proc.devRef .tc main_v11) : FVec Ideal S48x2048 .f32)
      = (broadcastInDim S48x2048 ![] bcast_S_S48x2048 (constant (F := Ideal) S_ .f32 0x00000000#32) : FVec Ideal S48x2048 .f32) := by
    after_reads_simp
  refine (StableHlo.upto_last_write (n := 14) (i := 13) [] rfl rfl (by decide) _).trans ?_
  refine (StableHlo.nary_result _ _ _ _ _ _).trans ?_
  exact five_congr h0 h1 h2 h3 h4

/-- after it, -/
theorem host_cast (σ : Valuation τ sig (Elt Ideal)) : (StableHlo.upto hostOps0 σ 15 (Proc.devRef .tc main_v13) : FVec Ideal S128x2048 .bf16)
    = truncf (φ := .f32) .bf16 (narrowW (σ (Proc.devRef .tc main_arg2))) bitsLt_bf16_f32 := by
  refine (StableHlo.upto_last_write (n := 15) (i := 14) [] rfl rfl (by decide) _).trans ?_
  refine (StableHlo.unary_result _ _ _ _ _ _).trans ?_
  rw [host_rows]

/-- when the launch starts, -/
theorem host_narrowT : (V m c main_v13 : FVec Ideal S128x2048 .bf16)
    = truncf (φ := .f32) .bf16 (narrowW (m ((c : Thread nD τ).loc main_arg2))) bitsLt_bf16_f32 := by
  unfold V
  refine (StableHlo.after_last_write (i := 14) [main_v14, main_v15, main_v16, main_v17, main_cst_0, main_v18, main_v19, main_cst_1, main_v20, main_v21,
    main_v22, main_v23, main_v24, main_v25, main_v26, main_v27, main_v28, main_v29, main_v30, main_v31, main_v32, main_v33, main_v34, main_cst_2,
    main_v35, main_v36, main_cst_3, main_v37, main_v38, main_v39, main_v40, main_v41, main_v42, main_v43, main_v44, main_v45, main_v46, main_v47,
    main_v48, main_v49, main_v50, main_v51] rfl rfl (by decide) _).trans ?_
  refine (StableHlo.unary_result _ _ _ _ _ _).trans ?_
  rw [host_rows]

/-- and transposed. -/
theorem host_narrow : (V m c main_v14 : FVec Ideal S2048x128 .bf16)
    = transpose S2048x128 [1, 0] (truncf (φ := .f32) .bf16 (narrowW (m ((c : Thread nD τ).loc main_arg2))) bitsLt_bf16_f32) transposes_S128x2048_S2048x128_1_0 := by
  unfold V
  refine (StableHlo.after_last_write (i := 15) [main_v15, main_v16, main_v17, main_cst_0, main_v18, main_v19, main_cst_1, main_v20, main_v21,
    main_v22, main_v23, main_v24, main_v25, main_v26, main_v27, main_v28, main_v29, main_v30, main_v31, main_v32, main_v33, main_v34, main_cst_2,
    main_v35, main_v36, main_cst_3, main_v37, main_v38, main_v39, main_v40, main_v41, main_v42, main_v43, main_v44, main_v45, main_v46, main_v47,
    main_v48, main_v49, main_v50, main_v51] rfl rfl (by decide) _).trans ?_
  refine (StableHlo.unary_result _ _ _ _ _ _).trans ?_
  rw [host_cast]

/-- A narrow weight. -/
theorem narrowW_at (W : FVec Ideal S1x2048x8784 .f32) (y : Fin 128) (d : Fin 2048) : narrowW W (ix2 y d)
    = if h : y.val < 64 then W (ix3 0 d ⟨7688 + y.val, by omega⟩)
      else if h : y.val < 72 then W (ix3 0 d ⟨5120 + (y.val - 64), by omega⟩)
      else if h : y.val < 80 then W (ix3 0 d ⟨7752 + (y.val - 72), by omega⟩) else 0 := by
  pointwise [narrowW, five, turnedW]
  by_cases h1 : y.val < 64
  · rw [dif_pos h1, dif_pos h1]
  rw [dif_neg h1, dif_neg h1]
  by_cases h2 : y.val < 68
  · rw [dif_pos (show y.val - 64 < 4 by omega), dif_pos (show y.val < 72 by omega)]
  rw [dif_neg (show ¬ y.val - 64 < 4 by omega)]
  by_cases h3 : y.val < 72
  · rw [dif_pos (show y.val - 64 - 4 < 4 by omega), dif_pos h3]
    exact congrArg (fun i => W (ix3 0 d i)) (Fin.ext (show 5124 + (y.val - 64 - 4) = 5120 + (y.val - 64) by omega))
  rw [dif_neg (show ¬ y.val - 64 - 4 < 4 by omega), dif_neg h3]
  by_cases h4 : y.val < 80
  · rw [dif_pos (show y.val - 64 - 4 - 4 < 8 by omega), dif_pos h4]
    exact congrArg (fun i => W (ix3 0 d i)) (Fin.ext (show 7752 + (y.val - 64 - 4 - 4) = 7752 + (y.val - 72) by omega))
  rw [dif_neg (show ¬ y.val - 64 - 4 - 4 < 8 by omega), dif_neg h4]

/-- Which block each input's window holds at a point, -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val % 4, 0] ∧ win0_7.index t = ![t.val % 4, 0] ∧ win0_8.index t = ![t.val % 4, 0] ∧ win0_9.index t = ![t.val % 4, 0] :=
  (by decide +kernel : ∀ t : Fin grid0.N, _)

/-- and each output's. -/
theorem idx_out : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![0, t.val] :=
  (by decide +kernel : ∀ t : Fin grid0.N, _)

variable (t : Fin cfg0.N)

/-- A point's rows of the prompt. -/
theorem block_x (r : Fin 512) (d : Fin 2048) (β : Fin 4) (p : Fin 2048) (hi : 2048 * β.val + p.val = 512 * t.val + r.val) :
    (blockAt m c 0 t : FVec Ideal S512x2048 .f32) (ix2 r d)
    = (m ((c : Thread nD τ).loc main_arg0) : FVec Ideal S4x2048x2048 .f32) (ix3 β p d) := by
  blk_simp [blockAt]
  entry_read
  pointwise
  blk_ext [idx t]

/-- The norm's gain. -/
theorem block_g (d : Fin 2048) : (blockAt m c 1 t : FVec Ideal S1x2048 .f32) (ix2 0 d)
    = (m ((c : Thread nD τ).loc main_arg1) : FVec Ideal S1x2048 .f32) (ix2 0 d) := by
  blk_simp [blockAt]
  entry_read
  pointwise
  blk_ext [idx t]

/-- The first weights. -/
theorem block_a (y : Fin 2560) (d : Fin 2048) : (blockAt m c 2 t : FVec Ideal S2560x2048 .bf16) (ix2 y d)
    = (m ((c : Thread nD τ).loc main_arg2) : FVec Ideal S1x2048x8784 .f32) (ix3 0 d ⟨5128 + y.val, by omega⟩) := by
  blk_simp [blockAt]
  entry_read
  pointwise
  blk_ext [idx t]

/-- The memory's weights. -/
theorem block_b (y : Fin 1024) (d : Fin 2048) : (blockAt m c 3 t : FVec Ideal S1024x2048 .bf16) (ix2 y d)
    = (m ((c : Thread nD τ).loc main_arg2) : FVec Ideal S1x2048x8784 .f32) (ix3 0 d ⟨7760 + y.val, by omega⟩) := by
  blk_simp [blockAt]
  entry_read
  pointwise
  blk_ext [idx t]

/-- A row of the tables at a point, as a position. -/
def pos (r : Fin 512) : Fin 2048 := ⟨(512 * t.val + r.val) % 2048, by omega⟩

/-- A point's cosines are the host's, -/
theorem block_6 (r : Fin 512) (e : Fin 128) : (blockAt m c 6 t : FVec Ideal S512x128 .f32) (ix2 r e)
    = (V m c main_v30 : FVec Ideal S2048x128 .f32) (ix2 (pos t r) e) := by
  blk_simp [blockAt]
  generalize V m c main_v30 = x
  unfold pos
  blk_ext [idx t]

/-- its signed sines too, -/
theorem block_7 (r : Fin 512) (e : Fin 128) : (blockAt m c 7 t : FVec Ideal S512x128 .f32) (ix2 r e)
    = (V m c main_v32 : FVec Ideal S2048x128 .f32) (ix2 (pos t r) e) := by
  blk_simp [blockAt]
  generalize V m c main_v32 = x
  unfold pos
  blk_ext [idx t]

/-- for heads of 64 as well, -/
theorem block_8 (r : Fin 512) (e : Fin 128) : (blockAt m c 8 t : FVec Ideal S512x128 .f32) (ix2 r e)
    = (V m c main_v47 : FVec Ideal S2048x128 .f32) (ix2 (pos t r) e) := by
  blk_simp [blockAt]
  generalize V m c main_v47 = x
  unfold pos
  blk_ext [idx t]

/-- cosines and sines. -/
theorem block_9 (r : Fin 512) (e : Fin 128) : (blockAt m c 9 t : FVec Ideal S512x128 .f32) (ix2 r e)
    = (V m c main_v50 : FVec Ideal S2048x128 .f32) (ix2 (pos t r) e) := by
  blk_simp [blockAt]
  generalize V m c main_v50 = x
  unfold pos
  blk_ext [idx t]

/-- The narrow weights are the host's, -/
theorem block_4 (d : Fin 2048) (y : Fin 128) : (blockAt m c 4 t : FVec Ideal S2048x128 .bf16) (ix2 d y)
    = (V m c main_v14 : FVec Ideal S2048x128 .bf16) (ix2 d y) := by
  blk_simp [blockAt]
  generalize V m c main_v14 = x
  blk_ext [idx t]

/-- both ways round. -/
theorem block_5 (y : Fin 128) (d : Fin 2048) : (blockAt m c 5 t : FVec Ideal S128x2048 .bf16) (ix2 y d)
    = (V m c main_v13 : FVec Ideal S128x2048 .bf16) (ix2 y d) := by
  blk_simp [blockAt]
  generalize V m c main_v13 = x
  blk_ext [idx t]

end Cert.Kernel4Ideal.Rest
-- ==== Proof.RestOut.lean ====
/-
  The fourth call's ten result arrays after the run.
-/
module

public import proofs.«01_k».proof.Proof.RestPay
public import proofs.«01_k».proof.Proof.RestBlk

@[expose] public section

set_option maxRecDepth 16384
noncomputable section
open Idealize.ShloMosaic Idealize.ShloMosaic.TcCoe Idealize.SL.Sem
open Idealize.ShloMosaic.Pipeline (Dat)
namespace Cert.Kernel4Ideal.Rest
open Cert.Kernel4Ideal Cert.Kernel4Ideal.Gen
open _root_.Rest _root_.Mem _root_.Mix Mlstm
open scoped BigOperators

/-- A row times the narrow weights. -/
theorem narrow_sum (X : FVec Ideal S4x2048x2048 .f32) (G : FVec Ideal S1x2048 .f32) (W : FVec Ideal S1x2048x8784 .f32) (i : Fin 8192) (y : Fin 128) :
    ∑ d : Fin 2048, row X G i d * narrowW W (ix2 y d) = _root_.Rest.narrow X G W i y := by
  simp only [narrowW_at]
  unfold _root_.Rest.narrow entry
  by_cases h1 : y.val < 64
  · simp only [dif_pos h1]
  simp only [dif_neg h1]
  by_cases h2 : y.val < 72
  · simp only [dif_pos h2]
  simp only [dif_neg h2]
  by_cases h3 : y.val < 80
  · simp only [dif_pos h3]
  simp only [dif_neg h3, mul_zero, Finset.sum_const_zero]

variable (m : (ℓ : Loc nD τ sig) → Buf (Elt Ideal) ℓ) (c : Dev nD)

/-- The prompt, -/
abbrev theX : FVec Ideal S4x2048x2048 .f32 := m ((c : Thread nD τ).loc main_arg0)

/-- the gain -/
abbrev theG : FVec Ideal S1x2048 .f32 := m ((c : Thread nD τ).loc main_arg1)

/-- and the weights. -/
abbrev theW : FVec Ideal S1x2048x8784 .f32 := m ((c : Thread nD τ).loc main_arg2)

section
variable (t : Fin cfg0.N) (r : Fin 512)

/-- A point's row, as a row of the prompt. -/
def rowAt : Fin 8192 := ⟨512 * t.val + r.val, by have ht : t.val < 16 := t.isLt; omega⟩

/-- A point's normalised row is the prompt's. -/
theorem row_eq (d : Fin 2048) : rms (fun d : Fin 2048 => (blockAt m c 0 t : FVec Ideal S512x2048 .f32) (ix2 r d)) d
    * (blockAt m c 1 t : FVec Ideal S1x2048 .f32) (ix2 0 d) = row (theX m c) (theG m c) (rowAt t r) d := by
  have ht : t.val < 16 := t.isLt
  unfold row rowAt
  have hx : ∀ d : Fin 2048, (blockAt m c 0 t : FVec Ideal S512x2048 .f32) (ix2 r d)
      = theX m c (ix3 ⟨(512 * t.val + r.val) / 2048, by omega⟩ ⟨(512 * t.val + r.val) % 2048, by omega⟩ d) :=
    fun d => block_x m c t r d _ _ (by dsimp only; omega)
  simp only [hx, block_g]

/-- A product with the first weights, -/
theorem dotA_eq (y : Fin 2560) : dotA (blockAt m c 0 t) (blockAt m c 1 t) (blockAt m c 2 t) r y
    = entry (theX m c) (theG m c) (theW m c) (rowAt t r) ⟨5128 + y.val, by omega⟩ := by
  unfold dotA entry
  exact Finset.sum_congr rfl fun d _ => congrArg₂ (· * ·) (row_eq m c t r d) (block_a m c t y d)

/-- the memory's -/
theorem dotB_eq (y : Fin 1024) : dotB (blockAt m c 0 t) (blockAt m c 1 t) (blockAt m c 3 t) r y
    = entry (theX m c) (theG m c) (theW m c) (rowAt t r) ⟨7760 + y.val, by omega⟩ := by
  unfold dotB entry
  exact Finset.sum_congr rfl fun d _ => congrArg₂ (· * ·) (row_eq m c t r d) (block_b m c t y d)

/-- and the narrow ones. -/
theorem dotN_eq (y : Fin 128) : dotN (blockAt m c 0 t) (blockAt m c 1 t) (blockAt m c 4 t) r y
    = _root_.Rest.narrow (theX m c) (theG m c) (theW m c) (rowAt t r) y := by
  refine Eq.trans ?_ (narrow_sum _ _ _ _ y)
  unfold dotN
  refine Finset.sum_congr rfl fun d _ => congrArg₂ (· * ·) (row_eq m c t r d) ?_
  rw [block_4, host_narrow]
  show _ = narrowW (theW m c) (ix2 y d)
  generalize narrowW _ = w
  pointwise

/-- A table's cosines, -/
theorem table_6 (e : Fin 128) : (blockAt m c 6 t : FVec Ideal S512x128 .f32) (ix2 r e) = Ideal.cos (angle 0x42800000#32 (pos t r).val (e.val % 64)) := by
  rw [block_6, host_cos128]
  generalize hA : angles128 = A
  pointwise
  by_cases h : e.val < 64
  · rw [dif_pos h, ← hA, angles128_at, show e.val % 64 = e.val by omega]
  · rw [dif_neg h, ← hA, angles128_at, show e.val % 64 = e.val - 64 by omega]

/-- its signed sines, -/
theorem table_7 (e : Fin 128) : (blockAt m c 7 t : FVec Ideal S512x128 .f32) (ix2 r e) = if e.val < 64 then -Ideal.sin (angle 0x42800000#32 (pos t r).val e.val)
    else Ideal.sin (angle 0x42800000#32 (pos t r).val (e.val - 64)) := by
  rw [block_7, host_sin128]
  generalize hA : angles128 = A
  pointwise
  by_cases h : e.val < 64
  · rw [dif_pos h, if_pos h, ← hA, angles128_at]
  · rw [dif_neg h, if_neg h, ← hA, angles128_at]

/-- Four tables side by side, at an entry. -/
theorem four_at (a b c d : FVec Ideal S2048x32 .f32) (p : Fin 2048) (e : Fin 128) : four a b c d (ix2 p e)
    = if e.val < 32 then a (ix2 p ⟨e.val % 32, by omega⟩) else if e.val < 64 then b (ix2 p ⟨e.val % 32, by omega⟩)
      else if e.val < 96 then c (ix2 p ⟨e.val % 32, by omega⟩) else d (ix2 p ⟨e.val % 32, by omega⟩) := by
  pointwise [four]
  by_cases h0 : e.val < 32
  · rw [dif_pos h0, if_pos h0]
    exact congrArg (fun j => a (ix2 p j)) (Fin.ext (show e.val = e.val % 32 by omega))
  rw [dif_neg h0, if_neg h0]
  by_cases h1 : e.val < 64
  · rw [dif_pos (show e.val - 32 < 32 by omega), if_pos h1]
    exact congrArg (fun j => b (ix2 p j)) (Fin.ext (show e.val - 32 = e.val % 32 by omega))
  rw [dif_neg (show ¬ e.val - 32 < 32 by omega), if_neg h1]
  by_cases h2 : e.val < 96
  · rw [dif_pos (show e.val - 32 - 32 < 32 by omega), if_pos h2]
    exact congrArg (fun j => c (ix2 p j)) (Fin.ext (show e.val - 32 - 32 = e.val % 32 by omega))
  rw [dif_neg (show ¬ e.val - 32 - 32 < 32 by omega), if_neg h2]
  exact congrArg (fun j => d (ix2 p j)) (Fin.ext (show e.val - 32 - 32 - 32 = e.val % 32 by omega))

/-- the short heads' cosines -/
theorem table_8 (e : Fin 128) : (blockAt m c 8 t : FVec Ideal S512x128 .f32) (ix2 r e) = Ideal.cos (angle 0x42000000#32 (pos t r).val (e.val % 32)) := by
  rw [block_8, host_cos64, four_at, ite_self, ite_self, ite_self]
  exact congrArg Ideal.cos (angles64_at _ _)

/-- and their signed sines. -/
theorem table_9 (e : Fin 128) : (blockAt m c 9 t : FVec Ideal S512x128 .f32) (ix2 r e)
    = if e.val % 64 < 32 then -Ideal.sin (angle 0x42000000#32 (pos t r).val (e.val % 32)) else Ideal.sin (angle 0x42000000#32 (pos t r).val (e.val % 32)) := by
  have hs : ∀ j : Fin 32, (Host.sin angles64 : FVec Ideal S2048x32 .f32) (ix2 (pos t r) j) = Ideal.sin (angle 0x42000000#32 (pos t r).val j.val) :=
    fun j => congrArg Ideal.sin (angles64_at _ _)
  have hn : ∀ j : Fin 32, (Host.negf (Host.sin angles64) : FVec Ideal S2048x32 .f32) (ix2 (pos t r) j) = -Ideal.sin (angle 0x42000000#32 (pos t r).val j.val) :=
    fun j => congrArg (fun a => -a) (hs j)
  rw [block_9, host_sin64, four_at, hs, hn]
  by_cases h0 : e.val < 32
  · rw [if_pos h0, if_pos (show e.val % 64 < 32 by omega)]
  rw [if_neg h0]
  by_cases h1 : e.val < 64
  · rw [if_pos h1, if_neg (show ¬ e.val % 64 < 32 by omega)]
  rw [if_neg h1]
  by_cases h2 : e.val < 96
  · rw [if_pos h2, if_pos (show e.val % 64 < 32 by omega)]
  rw [if_neg h2, if_neg (show ¬ e.val % 64 < 32 by omega)]

end

/-- The queries after the run, -/
theorem final_q (X : FVec Ideal S8192x512 .bf16)
    (hX : ∀ ρ y, X (ix2 ρ y) = _root_.Rest.queries (theX m c) (theG m c) (theW m c) ρ y) : (dats m 0 c).arrAt 10 cfg0.N = X := by
  refine (dats m 0 c).arrAt_eq_of_covers 10 _ (by decide +kernel) fun t hf y => ?_
  have ht : t.val < 16 := t.isLt
  blk_simp
  rw [after_10]
  idx_vars y
  refine (queries_at _ _ _ _ _ (angle 0x42800000#32 (pos t y0).val) y0 (table_6 m c t y0) (table_7 m c t y0) y1).trans (Eq.trans ?_ ((hX ⟨512 * t.val + y0.val, by omega⟩ y1).symm.trans ?_))
  · unfold _root_.Rest.queries
    refine congrArg (· * _) (turned128_congr (congrArg (angle _) (by first | rfl | omega | (dsimp only [rowAt, pos]; omega))) (fun e => (dotA_eq m c t y0 _).trans ?_) rfl)
    exact entry_congr _ _ _ (by first | rfl | omega | (dsimp only [rowAt, pos]; omega)) (by first | rfl | omega | (dsimp only [rowAt, pos]; omega))
  · blk_ext [idx_out t]

/-- the keys, -/
theorem final_k (X : FVec Ideal S32768x128 .f32)
    (hX : ∀ ρ y, X (ix2 ρ y) = _root_.Rest.keys (theX m c) (theG m c) (theW m c) ρ y) : (dats m 0 c).arrAt 11 cfg0.N = X := by
  refine (dats m 0 c).arrAt_eq_of_covers 11 _ (by decide +kernel) fun t hf y => ?_
  have ht : t.val < 16 := t.isLt
  blk_simp
  rw [after_11]
  idx_vars y
  refine (keys_at _ _ _ _ _ (angle 0x42800000#32 (pos t ⟨y0.val / 4, by omega⟩).val) ⟨y0.val / 4, by omega⟩ (table_6 m c t _) (table_7 m c t _) y0 ⟨y0.val / 4, by omega⟩ rfl rfl y1).trans (Eq.trans ?_ ((hX ⟨2048 * t.val + y0.val, by omega⟩ y1).symm.trans ?_))
  · unfold _root_.Rest.keys
    refine turned128_congr (congrArg (angle _) (by first | rfl | omega | (dsimp only [rowAt, pos]; omega))) (fun e => (dotA_eq m c t _ _).trans ?_) rfl
    exact entry_congr _ _ _ (by first | rfl | omega | (dsimp only [rowAt, pos]; omega)) (by first | rfl | omega | (dsimp only [rowAt, pos]; omega))
  · blk_ext [idx_out t]

/-- the values, -/
theorem final_v (X : FVec Ideal S32768x128 .f32)
    (hX : ∀ ρ y, X (ix2 ρ y) = _root_.Rest.values (theX m c) (theG m c) (theW m c) ρ y) : (dats m 0 c).arrAt 12 cfg0.N = X := by
  refine (dats m 0 c).arrAt_eq_of_covers 12 _ (by decide +kernel) fun t hf y => ?_
  have ht : t.val < 16 := t.isLt
  blk_simp
  rw [after_12]
  idx_vars y
  refine (values_at _ _ _ ⟨y0.val / 4, by omega⟩ y0 rfl y1).trans (Eq.trans ?_ ((hX ⟨2048 * t.val + y0.val, by omega⟩ y1).symm.trans ?_))
  · unfold _root_.Rest.values
    exact (dotA_eq m c t _ _).trans (entry_congr _ _ _ (by first | rfl | omega | (dsimp only [rowAt, pos]; omega)) (by first | rfl | omega | (dsimp only [rowAt, pos]; omega)))
  · blk_ext [idx_out t]

/-- the gates, -/
theorem final_z (X : FVec Ideal S8192x512 .f32)
    (hX : ∀ ρ y, X (ix2 ρ y) = _root_.Rest.gates (theX m c) (theG m c) (theW m c) ρ y) : (dats m 0 c).arrAt 13 cfg0.N = X := by
  refine (dats m 0 c).arrAt_eq_of_covers 13 _ (by decide +kernel) fun t hf y => ?_
  have ht : t.val < 16 := t.isLt
  blk_simp
  rw [after_13]
  idx_vars y
  refine (gates_at _ _ _ y0 y1).trans (Eq.trans ?_ ((hX ⟨512 * t.val + y0.val, by omega⟩ y1).symm.trans ?_))
  · unfold _root_.Rest.gates
    exact (dotA_eq m c t _ _).trans (entry_congr _ _ _ (by first | rfl | omega | (dsimp only [rowAt, pos]; omega)) (by first | rfl | omega | (dsimp only [rowAt, pos]; omega)))
  · blk_ext [idx_out t]

/-- the memory's queries -/
theorem final_mq (X : FVec Ideal S8192x512 .bf16)
    (hX : ∀ ρ y, X (ix2 ρ y) = _root_.Rest.memQueries (theX m c) (theG m c) (theW m c) ρ y) : (dats m 0 c).arrAt 14 cfg0.N = X := by
  refine (dats m 0 c).arrAt_eq_of_covers 14 _ (by decide +kernel) fun t hf y => ?_
  have ht : t.val < 16 := t.isLt
  blk_simp
  rw [after_14]
  idx_vars y
  refine (memQueries_at _ _ _ y0 y1).trans (Eq.trans ?_ ((hX ⟨512 * t.val + y0.val, by omega⟩ y1).symm.trans ?_))
  · unfold _root_.Rest.memQueries
    exact congrArg (· * _) ((dotB_eq m c t _ _).trans (entry_congr _ _ _ (by first | rfl | omega | (dsimp only [rowAt, pos]; omega)) (by first | rfl | omega | (dsimp only [rowAt, pos]; omega))))
  · blk_ext [idx_out t]

/-- and gates, -/
theorem final_mz (X : FVec Ideal S8192x512 .f32)
    (hX : ∀ ρ y, X (ix2 ρ y) = _root_.Rest.memGates (theX m c) (theG m c) (theW m c) ρ y) : (dats m 0 c).arrAt 15 cfg0.N = X := by
  refine (dats m 0 c).arrAt_eq_of_covers 15 _ (by decide +kernel) fun t hf y => ?_
  have ht : t.val < 16 := t.isLt
  blk_simp
  rw [after_15]
  idx_vars y
  refine (memGates_at _ _ _ y0 y1).trans (Eq.trans ?_ ((hX ⟨512 * t.val + y0.val, by omega⟩ y1).symm.trans ?_))
  · unfold _root_.Rest.memGates
    exact (dotB_eq m c t _ _).trans (entry_congr _ _ _ (by first | rfl | omega | (dsimp only [rowAt, pos]; omega)) (by first | rfl | omega | (dsimp only [rowAt, pos]; omega)))
  · blk_ext [idx_out t]

/-- the index queries -/
theorem final_qi (X : FVec Ideal S8192x512 .bf16)
    (hX : ∀ ρ y, X (ix2 ρ y) = _root_.Rest.idxQueries (theX m c) (theG m c) (theW m c) ρ y) : (dats m 0 c).arrAt 16 cfg0.N = X := by
  refine (dats m 0 c).arrAt_eq_of_covers 16 _ (by decide +kernel) fun t hf y => ?_
  have ht : t.val < 16 := t.isLt
  blk_simp
  rw [after_16]
  idx_vars y
  refine (idxQueries_at _ _ _ _ _ (angle 0x42000000#32 (pos t y0).val) y0 (table_8 m c t y0) (table_9 m c t y0) y1).trans (Eq.trans ?_ ((hX ⟨512 * t.val + y0.val, by omega⟩ y1).symm.trans ?_))
  · unfold _root_.Rest.idxQueries
    refine turned64_congr (congrArg (angle _) (by first | rfl | omega | (dsimp only [rowAt, pos]; omega))) (fun e => (dotA_eq m c t y0 _).trans ?_) rfl
    exact entry_congr _ _ _ (by first | rfl | omega | (dsimp only [rowAt, pos]; omega)) (by first | rfl | omega | (dsimp only [rowAt, pos]; omega))
  · blk_ext [idx_out t]

/-- and keys, -/
theorem final_ki (X : FVec Ideal S8192x64 .f32)
    (hX : ∀ ρ y, X (ix2 ρ y) = _root_.Rest.idxKeys (theX m c) (theG m c) (theW m c) ρ y) : (dats m 0 c).arrAt 17 cfg0.N = X := by
  refine (dats m 0 c).arrAt_eq_of_covers 17 _ (by decide +kernel) fun t hf y => ?_
  have ht : t.val < 16 := t.isLt
  blk_simp
  rw [after_17]
  idx_vars y
  refine (idxKeys_at _ _ _ _ _ (angle 0x42000000#32 (pos t y0).val) y0 (table_8 m c t y0) (table_9 m c t y0) y1).trans (Eq.trans ?_ ((hX ⟨512 * t.val + y0.val, by omega⟩ y1).symm.trans ?_))
  · unfold _root_.Rest.idxKeys
    refine turned64_congr (congrArg (angle _) (by first | rfl | omega | (dsimp only [rowAt, pos]; omega))) (fun e => (dotN_eq m c t y0 _).trans ?_) rfl
    unfold _root_.Rest.narrow
    rw [dif_pos (show e.val < 64 from e.isLt)]
    exact entry_congr _ _ _ (by first | rfl | omega | (dsimp only [rowAt, pos]; omega)) (by first | rfl | omega | (dsimp only [rowAt, pos]; omega))
  · blk_ext [idx_out t]

/-- the narrow columns -/
theorem final_small (X : FVec Ideal S8192x128 .f32)
    (hX : ∀ ρ y, X (ix2 ρ y) = _root_.Rest.narrow (theX m c) (theG m c) (theW m c) ρ y) : (dats m 0 c).arrAt 18 cfg0.N = X := by
  refine (dats m 0 c).arrAt_eq_of_covers 18 _ (by decide +kernel) fun t hf y => ?_
  have ht : t.val < 16 := t.isLt
  blk_simp
  rw [after_18]
  idx_vars y
  refine ((narrow_at _ _ _ y0 y1).trans (dotN_eq m c t y0 y1)).trans (Eq.trans ?_ ((hX ⟨512 * t.val + y0.val, by omega⟩ y1).symm.trans ?_))
  · rfl
  · blk_ext [idx_out t]

/-- The narrow weights' rows at a point. -/
theorem rowsN_eq (t : Fin cfg0.N) (r : Fin 512) (y : Fin 128) :
    ∑ d : Fin 2048, rms (fun d : Fin 2048 => (blockAt m c 0 t : FVec Ideal S512x2048 .f32) (ix2 r d)) d
      * (blockAt m c 1 t : FVec Ideal S1x2048 .f32) (ix2 0 d) * (blockAt m c 5 t : FVec Ideal S128x2048 .bf16) (ix2 y d)
    = _root_.Rest.narrow (theX m c) (theG m c) (theW m c) (rowAt t r) y := by
  refine Eq.trans ?_ (narrow_sum _ _ _ _ y)
  refine Finset.sum_congr rfl fun d _ => congrArg₂ (· * ·) (row_eq m c t r d) ?_
  rw [block_5, host_narrowT]
  rfl

/-- and their transpose. -/
theorem final_smallT (X : FVec Ideal S128x8192 .f32)
    (hX : ∀ y ρ, X (ix2 y ρ) = _root_.Rest.narrow (theX m c) (theG m c) (theW m c) ρ y) : (dats m 0 c).arrAt 19 cfg0.N = X := by
  refine (dats m 0 c).arrAt_eq_of_covers 19 _ (by decide +kernel) fun t hf y => ?_
  have ht : t.val < 16 := t.isLt
  blk_simp
  rw [after_19]
  idx_vars y
  refine ((narrowT_at _ _ _ y1 y0).trans (rowsN_eq m c t y1 y0)).trans (Eq.trans ?_ ((hX y0 ⟨512 * t.val + y1.val, by omega⟩).symm.trans ?_))
  · rfl
  · blk_ext [idx_out t]

end Cert.Kernel4Ideal.Rest
-- ==== Proof.RestRef.lean ====
/-
  The fourth call's reference, read at an index.
-/
module

public import proofs.«01_k».proof.Proof.Gen.Reference4Ideal.Run
public import proofs.«01_k».proof.Proof.RestMath
public import Idealize.ShloMosaic.Lib.Pointwise

@[expose] public section

set_option maxRecDepth 16384
noncomputable section
open Idealize.ShloMosaic Idealize.ShloMosaic.TcCoe Idealize.SL.Sem
namespace Cert.Reference4Ideal.Rest
open Cert.Reference4Ideal Cert.Reference4Ideal.Gen Cert.Reference4Ideal.Value
open _root_.Rest _root_.Mix Mlstm
open scoped BigOperators

variable (X : FVec Ideal S4x2048x2048 .f32) (G : FVec Ideal S1x2048 .f32) (W : FVec Ideal S1x2048x8784 .f32)

/-- The prompt normalised. -/
def normed : FVec Ideal S4x2048x2048 .f32 :=
  mulf (mulf X (broadcastInDim S4x2048x2048 ![0, 1, 2] bcast_S4x2048x1_S4x2048x2048_0_1_2 (Host.rsqrt (addf
      (Host.divf (broadcastInDim S4x2048x1 ![0, 1] bcast_S4x2048_S4x2048x1_0_1
        (Host.reduceAdd (mulf X X) (constant S_ .f32 0x00000000#32) reducesTo_S4x2048x2048_S4x2048_d2 h_S_))
        (broadcastInDim S4x2048x1 ![] bcast_S_S4x2048x1 (constant S_ .f32 0x45000000#32)))
      (broadcastInDim S4x2048x1 ![] bcast_S_S4x2048x1 (constant S_ .f32 0x358637BD#32))))))
    (broadcastInDim S4x2048x2048 ![0, 1, 2] bcast_S1x1x2048_S4x2048x2048_0_1_2
      (broadcastInDim S1x1x2048 ![2] bcast_S2048_S1x1x2048_2 (shapeCast _ G shapeCasts_S1x2048_S2048)))

/-- Its product with the weights. -/
def product : FVec Ideal S4x2048x8784 .f32 :=
  Host.dotGeneral (φ₁ := .f32) (φ₂ := .f32) dot_S4x2048x2048_S2048x8784_S4x2048x8784_2_0_01_1_n_n none (normed X G)
    (shapeCast _ W shapeCasts_S1x2048x8784_S2048x8784)

/-- The angles of a head of 128, position by position. -/
def angles128 : FVec Ideal S2048x64 .f32 :=
  mulf (broadcastInDim S2048x64 ![0, 1] bcast_S2048x1_S2048x64_0_1 (broadcastInDim S2048x1 ![0] bcast_S2048_S2048x1_0
      (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- The angles of a head of 64. -/
def angles64 : FVec Ideal S2048x32 .f32 :=
  mulf (broadcastInDim S2048x32 ![0, 1] bcast_S2048x1_S2048x32_0_1 (broadcastInDim S2048x1 ![0] bcast_S2048_S2048x1_0
      (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- An angle of a head of 128, -/
theorem angles128_at (p : Fin 2048) (j : Fin 64) : angles128 (ix2 p j) = angle 0x42800000#32 p.val j.val := by
  pointwise [angles128]
  rfl

/-- and of a head of 64. -/
theorem angles64_at (p : Fin 2048) (j : Fin 32) : angles64 (ix2 p j) = angle 0x42000000#32 p.val j.val := by
  pointwise [angles64]
  rfl

/-- The normalised prompt at an entry. -/
theorem normed_at (β : Fin 4) (r : Fin 2048) (d : Fin 2048) :
    normed X G (ix3 β r d) = rms (fun d : Fin 2048 => X (ix3 β r d)) d * G (ix2 0 d) := by
  pointwise [normed]
  simp only [ofBits_eps, ofBits_2048]
  unfold rms
  norm_num

/-- The product at an entry. -/
theorem product_at (β : Fin 4) (r : Fin 2048) (y : Fin 8784) :
    product X G W (ix3 β r y) = entry X G W ⟨2048 * β.val + r.val, by omega⟩ y := by
  unfold product
  generalize hN : normed X G = N
  pointwise
  unfold entry row
  subst hN
  simp only [normed_at]
  have e0 : (2048 * β.val + r.val) / 2048 = β.val := by omega
  have e1 : (2048 * β.val + r.val) % 2048 = r.val := by omega
  simp only [e0, e1]

/-- Four heads of 128 turned. -/
def rope4 (a : FVec Ideal S4x2048x4x128 .f32) : FVec Ideal S4x2048x4x128 .f32 :=
  concatenate S4x2048x4x128 3
    [⟨S4x2048x4x64, subf
      (mulf (extractStridedSlice S4x2048x4x64 ![0, 0, 0, 0] a slices_S4x2048x4x128_S4x2048x4x64_0_0_0_0)
        (broadcastInDim S4x2048x4x64 ![0, 1, 2, 3] bcast_S1x2048x1x64_S4x2048x4x64_0_1_2_3 (broadcastInDim S1x2048x1x64 ![1, 3] bcast_S2048x64_S1x2048x1x64_1_3 (Host.cos angles128))))
      (mulf (extractStridedSlice S4x2048x4x64 ![0, 0, 0, 64] a slices_S4x2048x4x128_S4x2048x4x64_0_0_0_64)
        (broadcastInDim S4x2048x4x64 ![0, 1, 2, 3] bcast_S1x2048x1x64_S4x2048x4x64_0_1_2_3 (broadcastInDim S1x2048x1x64 ![1, 3] bcast_S2048x64_S1x2048x1x64_1_3 (Host.sin angles128))))⟩,
     ⟨S4x2048x4x64, addf
      (mulf (extractStridedSlice S4x2048x4x64 ![0, 0, 0, 0] a slices_S4x2048x4x128_S4x2048x4x64_0_0_0_0)
        (broadcastInDim S4x2048x4x64 ![0, 1, 2, 3] bcast_S1x2048x1x64_S4x2048x4x64_0_1_2_3 (broadcastInDim S1x2048x1x64 ![1, 3] bcast_S2048x64_S1x2048x1x64_1_3 (Host.sin angles128))))
      (mulf (extractStridedSlice S4x2048x4x64 ![0, 0, 0, 64] a slices_S4x2048x4x128_S4x2048x4x64_0_0_0_64)
        (broadcastInDim S4x2048x4x64 ![0, 1, 2, 3] bcast_S1x2048x1x64_S4x2048x4x64_0_1_2_3 (broadcastInDim S1x2048x1x64 ![1, 3] bcast_S2048x64_S1x2048x1x64_1_3 (Host.cos angles128))))⟩]
    concatenates_S4x2048x4x64_S4x2048x4x64_S4x2048x4x128_d3

/-- … at an entry. -/
theorem rope4_at (a : FVec Ideal S4x2048x4x128 .f32) (β : Fin 4) (p : Fin 2048) (h : Fin 4) (e : Fin 128) :
    rope4 a (ix4 β p h e) = turned128 (angle 0x42800000#32 p.val) (fun e => a (ix4 β p h e)) e := by
  unfold turned128 rope4
  generalize hA : angles128 = A
  by_cases he : e.val < 64
  · rw [dif_pos he]
    pointwise
    rw [dif_pos he]
    subst hA
    simp only [angles128_at]
  · rw [dif_neg he]
    pointwise
    rw [dif_neg he]
    subst hA
    simp only [angles128_at]
    exact congrArg (fun i => _ + a (ix4 β p h i) * _) (Fin.ext (show 64 + (e.val - 64) = e.val by omega))

/-- Eight heads of 64 turned. -/
def rope8 (a : FVec Ideal S4x2048x8x64 .f32) : FVec Ideal S4x2048x8x64 .f32 :=
  concatenate S4x2048x8x64 3
    [⟨S4x2048x8x32, subf
      (mulf (extractStridedSlice S4x2048x8x32 ![0, 0, 0, 0] a slices_S4x2048x8x64_S4x2048x8x32_0_0_0_0)
        (broadcastInDim S4x2048x8x32 ![0, 1, 2, 3] bcast_S1x2048x1x32_S4x2048x8x32_0_1_2_3 (broadcastInDim S1x2048x1x32 ![1, 3] bcast_S2048x32_S1x2048x1x32_1_3 (Host.cos angles64))))
      (mulf (extractStridedSlice S4x2048x8x32 ![0, 0, 0, 32] a slices_S4x2048x8x64_S4x2048x8x32_0_0_0_32)
        (broadcastInDim S4x2048x8x32 ![0, 1, 2, 3] bcast_S1x2048x1x32_S4x2048x8x32_0_1_2_3 (broadcastInDim S1x2048x1x32 ![1, 3] bcast_S2048x32_S1x2048x1x32_1_3 (Host.sin angles64))))⟩,
     ⟨S4x2048x8x32, addf
      (mulf (extractStridedSlice S4x2048x8x32 ![0, 0, 0, 0] a slices_S4x2048x8x64_S4x2048x8x32_0_0_0_0)
        (broadcastInDim S4x2048x8x32 ![0, 1, 2, 3] bcast_S1x2048x1x32_S4x2048x8x32_0_1_2_3 (broadcastInDim S1x2048x1x32 ![1, 3] bcast_S2048x32_S1x2048x1x32_1_3 (Host.sin angles64))))
      (mulf (extractStridedSlice S4x2048x8x32 ![0, 0, 0, 32] a slices_S4x2048x8x64_S4x2048x8x32_0_0_0_32)
        (broadcastInDim S4x2048x8x32 ![0, 1, 2, 3] bcast_S1x2048x1x32_S4x2048x8x32_0_1_2_3 (broadcastInDim S1x2048x1x32 ![1, 3] bcast_S2048x32_S1x2048x1x32_1_3 (Host.cos angles64))))⟩]
    concatenates_S4x2048x8x32_S4x2048x8x32_S4x2048x8x64_d3

/-- … at an entry. -/
theorem rope8_at (a : FVec Ideal S4x2048x8x64 .f32) (β : Fin 4) (p : Fin 2048) (h : Fin 8) (e : Fin 64) :
    rope8 a (ix4 β p h e) = turned64 (angle 0x42000000#32 p.val) (fun e => a (ix4 β p h e)) e := by
  unfold turned64 rope8
  generalize hA : angles64 = A
  by_cases he : e.val < 32
  · rw [dif_pos he]
    pointwise
    rw [dif_pos he]
    subst hA
    simp only [angles64_at]
  · rw [dif_neg he]
    pointwise
    rw [dif_neg he]
    subst hA
    simp only [angles64_at]
    exact congrArg (fun i => _ + a (ix4 β p h i) * _) (Fin.ext (show 32 + (e.val - 32) = e.val by omega))

/-- One head of 64 turned. -/
def rope1 (a : FVec Ideal S4x2048x1x64 .f32) : FVec Ideal S4x2048x1x64 .f32 :=
  concatenate S4x2048x1x64 3
    [⟨S4x2048x1x32, subf
      (mulf (extractStridedSlice S4x2048x1x32 ![0, 0, 0, 0] a slices_S4x2048x1x64_S4x2048x1x32_0_0_0_0)
        (broadcastInDim S4x2048x1x32 ![0, 1, 2, 3] bcast_S1x2048x1x32_S4x2048x1x32_0_1_2_3 (broadcastInDim S1x2048x1x32 ![1, 3] bcast_S2048x32_S1x2048x1x32_1_3 (Host.cos angles64))))
      (mulf (extractStridedSlice S4x2048x1x32 ![0, 0, 0, 32] a slices_S4x2048x1x64_S4x2048x1x32_0_0_0_32)
        (broadcastInDim S4x2048x1x32 ![0, 1, 2, 3] bcast_S1x2048x1x32_S4x2048x1x32_0_1_2_3 (broadcastInDim S1x2048x1x32 ![1, 3] bcast_S2048x32_S1x2048x1x32_1_3 (Host.sin angles64))))⟩,
     ⟨S4x2048x1x32, addf
      (mulf (extractStridedSlice S4x2048x1x32 ![0, 0, 0, 0] a slices_S4x2048x1x64_S4x2048x1x32_0_0_0_0)
        (broadcastInDim S4x2048x1x32 ![0, 1, 2, 3] bcast_S1x2048x1x32_S4x2048x1x32_0_1_2_3 (broadcastInDim S1x2048x1x32 ![1, 3] bcast_S2048x32_S1x2048x1x32_1_3 (Host.sin angles64))))
      (mulf (extractStridedSlice S4x2048x1x32 ![0, 0, 0, 32] a slices_S4x2048x1x64_S4x2048x1x32_0_0_0_32)
        (broadcastInDim S4x2048x1x32 ![0, 1, 2, 3] bcast_S1x2048x1x32_S4x2048x1x32_0_1_2_3 (broadcastInDim S1x2048x1x32 ![1, 3] bcast_S2048x32_S1x2048x1x32_1_3 (Host.cos angles64))))⟩]
    concatenates_S4x2048x1x32_S4x2048x1x32_S4x2048x1x64_d3

/-- … at an entry. -/
theorem rope1_at (a : FVec Ideal S4x2048x1x64 .f32) (β : Fin 4) (p : Fin 2048) (h : Fin 1) (e : Fin 64) :
    rope1 a (ix4 β p h e) = turned64 (angle 0x42000000#32 p.val) (fun e => a (ix4 β p h e)) e := by
  obtain rfl : h = 0 := Subsingleton.elim _ _
  unfold turned64 rope1
  generalize hA : angles64 = A
  by_cases he : e.val < 32
  · rw [dif_pos he]
    pointwise
    rw [dif_pos he]
    subst hA
    simp only [angles64_at]
  · rw [dif_neg he]
    pointwise
    rw [dif_neg he]
    subst hA
    simp only [angles64_at]
    exact congrArg (fun i => _ + a (ix4 β p 0 i) * _) (Fin.ext (show 32 + (e.val - 32) = e.val by omega))

/-- The reference's values. -/
def resValues : FVec Ideal S32768x128 .f32 :=
  shapeCast _ (extractStridedSlice S4x2048x512 ![0, 0, 6152] (product X G W) slices_S4x2048x8784_S4x2048x512_0_0_6152) shapeCasts_S4x2048x512_S32768x128

theorem resValues_at (ρ : Fin 32768) (y : Fin 128) : resValues X G W (ix2 ρ y) = _root_.Rest.values X G W ρ y := by
  unfold resValues
  generalize hP : product X G W = P
  pointwise
  subst hP
  simp only [product_at]
  unfold _root_.Rest.values
  exact entry_congr X G W (by first | rfl | omega | (dsimp only; omega)) (by first | rfl | omega | (dsimp only; omega))

/-- The reference's gates. -/
def resGates : FVec Ideal S8192x512 .f32 :=
  shapeCast _ (extractStridedSlice S4x2048x512 ![0, 0, 6664] (product X G W) slices_S4x2048x8784_S4x2048x512_0_0_6664) shapeCasts_S4x2048x512_S8192x512

theorem resGates_at (ρ : Fin 8192) (y : Fin 512) : resGates X G W (ix2 ρ y) = _root_.Rest.gates X G W ρ y := by
  unfold resGates
  generalize hP : product X G W = P
  pointwise
  subst hP
  simp only [product_at]
  unfold _root_.Rest.gates
  exact entry_congr X G W (by first | rfl | omega | (dsimp only; omega)) (by first | rfl | omega | (dsimp only; omega))

/-- The reference's queries of the memory. -/
def resMemQueries : FVec Ideal S8192x512 .bf16 :=
  truncf .bf16 (shapeCast _ (mulf (extractStridedSlice S4x2048x512 ![0, 0, 7760] (product X G W) slices_S4x2048x8784_S4x2048x512_0_0_7760) (broadcastInDim S4x2048x512 ![] bcast_S_S4x2048x512 (constant S_ .f32 0x3DB504F3#32))) shapeCasts_S4x2048x512_S8192x512) bitsLt_bf16_f32

theorem resMemQueries_at (ρ : Fin 8192) (y : Fin 512) : resMemQueries X G W (ix2 ρ y) = _root_.Rest.memQueries X G W ρ y := by
  unfold resMemQueries
  generalize hP : product X G W = P
  pointwise
  subst hP
  simp only [product_at]
  unfold _root_.Rest.memQueries
  exact congrArg (· * _) (entry_congr X G W (by first | rfl | omega | (dsimp only; omega)) (by first | rfl | omega | (dsimp only; omega)))

/-- The reference's gates of the memory. -/
def resMemGates : FVec Ideal S8192x512 .f32 :=
  shapeCast _ (extractStridedSlice S4x2048x512 ![0, 0, 8272] (product X G W) slices_S4x2048x8784_S4x2048x512_0_0_8272) shapeCasts_S4x2048x512_S8192x512

theorem resMemGates_at (ρ : Fin 8192) (y : Fin 512) : resMemGates X G W (ix2 ρ y) = _root_.Rest.memGates X G W ρ y := by
  unfold resMemGates
  generalize hP : product X G W = P
  pointwise
  subst hP
  simp only [product_at]
  unfold _root_.Rest.memGates
  exact entry_congr X G W (by first | rfl | omega | (dsimp only; omega)) (by first | rfl | omega | (dsimp only; omega))

/-- The reference's queries. -/
def resQueries : FVec Ideal S8192x512 .bf16 :=
  truncf .bf16 (shapeCast _ (mulf (rope4 (shapeCast _ (extractStridedSlice S4x2048x512 ![0, 0, 5128] (product X G W) slices_S4x2048x8784_S4x2048x512_0_0_5128) shapeCasts_S4x2048x512_S4x2048x4x128)) (broadcastInDim S4x2048x4x128 ![] bcast_S_S4x2048x4x128 (constant S_ .f32 0x3E0293EE#32))) shapeCasts_S4x2048x4x128_S8192x512) bitsLt_bf16_f32

theorem resQueries_at (ρ : Fin 8192) (y : Fin 512) : resQueries X G W (ix2 ρ y) = _root_.Rest.queries X G W ρ y := by
  unfold resQueries
  generalize hP : product X G W = P
  generalize hR : rope4 _ = R
  pointwise
  subst hR
  simp only [rope4_at]
  unfold _root_.Rest.queries
  refine congrArg (· * _) (turned128_congr (congrArg (angle _) (by first | rfl | omega | (dsimp only; omega))) (fun e => ?_) (by first | rfl | omega | (dsimp only; omega)))
  pointwise
  subst hP
  simp only [product_at]
  exact entry_congr X G W (by first | rfl | omega | (dsimp only; omega)) (by first | rfl | omega | (dsimp only; omega))

/-- The reference's keys. -/
def resKeys : FVec Ideal S32768x128 .f32 :=
  shapeCast _ (rope4 (shapeCast _ (extractStridedSlice S4x2048x512 ![0, 0, 5640] (product X G W) slices_S4x2048x8784_S4x2048x512_0_0_5640) shapeCasts_S4x2048x512_S4x2048x4x128)) shapeCasts_S4x2048x4x128_S32768x128

theorem resKeys_at (ρ : Fin 32768) (y : Fin 128) : resKeys X G W (ix2 ρ y) = _root_.Rest.keys X G W ρ y := by
  unfold resKeys
  generalize hP : product X G W = P
  generalize hR : rope4 _ = R
  pointwise
  subst hR
  simp only [rope4_at]
  unfold _root_.Rest.keys
  refine turned128_congr (congrArg (angle _) (by first | rfl | omega | (dsimp only; omega))) (fun e => ?_) (by first | rfl | omega | (dsimp only; omega))
  pointwise
  subst hP
  simp only [product_at]
  exact entry_congr X G W (by first | rfl | omega | (dsimp only; omega)) (by first | rfl | omega | (dsimp only; omega))

/-- The reference's index queries. -/
def resIdxQueries : FVec Ideal S8192x512 .bf16 :=
  truncf .bf16 (shapeCast _ (rope8 (shapeCast _ (extractStridedSlice S4x2048x512 ![0, 0, 7176] (product X G W) slices_S4x2048x8784_S4x2048x512_0_0_7176) shapeCasts_S4x2048x512_S4x2048x8x64)) shapeCasts_S4x2048x8x64_S8192x512) bitsLt_bf16_f32

theorem resIdxQueries_at (ρ : Fin 8192) (y : Fin 512) : resIdxQueries X G W (ix2 ρ y) = _root_.Rest.idxQueries X G W ρ y := by
  unfold resIdxQueries
  generalize hP : product X G W = P
  generalize hR : rope8 _ = R
  pointwise
  subst hR
  simp only [rope8_at]
  unfold _root_.Rest.idxQueries
  refine turned64_congr (congrArg (angle _) (by first | rfl | omega | (dsimp only; omega))) (fun e => ?_) (by first | rfl | omega | (dsimp only; omega))
  pointwise
  subst hP
  simp only [product_at]
  exact entry_congr X G W (by first | rfl | omega | (dsimp only; omega)) (by first | rfl | omega | (dsimp only; omega))

/-- The reference's index keys. -/
def resIdxKeys : FVec Ideal S8192x64 .f32 :=
  shapeCast _ (rope1 (broadcastInDim S4x2048x1x64 ![0, 1, 3] bcast_S4x2048x64_S4x2048x1x64_0_1_3 (extractStridedSlice S4x2048x64 ![0, 0, 7688] (product X G W) slices_S4x2048x8784_S4x2048x64_0_0_7688))) shapeCasts_S4x2048x1x64_S8192x64

theorem resIdxKeys_at (ρ : Fin 8192) (y : Fin 64) : resIdxKeys X G W (ix2 ρ y) = _root_.Rest.idxKeys X G W ρ y := by
  unfold resIdxKeys
  generalize hP : product X G W = P
  generalize hR : rope1 _ = R
  pointwise
  subst hR
  simp only [rope1_at]
  unfold _root_.Rest.idxKeys
  refine turned64_congr (congrArg (angle _) (by first | rfl | omega | (dsimp only; omega))) (fun e => ?_) (by first | rfl | omega | (dsimp only; omega))
  pointwise
  subst hP
  simp only [product_at]
  exact entry_congr X G W (by first | rfl | omega | (dsimp only; omega)) (by first | rfl | omega | (dsimp only; omega))

/-- The reference's narrow columns. -/
def resNarrow : FVec Ideal S8192x128 .f32 :=
  shapeCast _ (concatenate S4x2048x128 2
    [⟨S4x2048x64, extractStridedSlice S4x2048x64 ![0, 0, 7688] (product X G W) slices_S4x2048x8784_S4x2048x64_0_0_7688⟩,
     ⟨S4x2048x8, extractStridedSlice S4x2048x8 ![0, 0, 5120] (product X G W) slices_S4x2048x8784_S4x2048x8_0_0_5120⟩,
     ⟨S4x2048x8, extractStridedSlice S4x2048x8 ![0, 0, 7752] (product X G W) slices_S4x2048x8784_S4x2048x8_0_0_7752⟩,
     ⟨S4x2048x48, broadcastInDim S4x2048x48 ![] bcast_S_S4x2048x48 (constant S_ .f32 0x00000000#32)⟩]
    concatenates_S4x2048x64_S4x2048x8_S4x2048x8_S4x2048x48_S4x2048x128_d2) shapeCasts_S4x2048x128_S8192x128

theorem resNarrow_at (ρ : Fin 8192) (y : Fin 128) : resNarrow X G W (ix2 ρ y) = _root_.Rest.narrow X G W ρ y := by
  unfold resNarrow
  generalize hP : product X G W = P
  pointwise
  subst hP
  simp only [product_at]
  unfold _root_.Rest.narrow
  by_cases h1 : y.val < 64
  · rw [dif_pos h1, dif_pos h1]
    exact entry_congr X G W (by first | rfl | omega | (dsimp only; omega)) (by first | rfl | omega | (dsimp only; omega))
  rw [dif_neg h1, dif_neg h1]
  by_cases h2 : y.val < 72
  · rw [dif_pos (show y.val - 64 < 8 by omega), dif_pos h2]
    exact entry_congr X G W (by first | rfl | omega | (dsimp only; omega)) (by first | rfl | omega | (dsimp only; omega))
  rw [dif_neg (show ¬ y.val - 64 < 8 by omega), dif_neg h2]
  by_cases h3 : y.val < 80
  · rw [dif_pos (show y.val - 64 - 8 < 8 by omega), dif_pos h3]
    exact entry_congr X G W (by first | rfl | omega | (dsimp only; omega)) (by first | rfl | omega | (dsimp only; omega))
  rw [dif_neg (show ¬ y.val - 64 - 8 < 8 by omega), dif_neg h3]

/-- … and transposed. -/
def resNarrowT : FVec Ideal S128x8192 .f32 := transpose S128x8192 [1, 0] (resNarrow X G W) transposes_S8192x128_S128x8192_1_0

theorem resNarrowT_at (y : Fin 128) (ρ : Fin 8192) : resNarrowT X G W (ix2 y ρ) = _root_.Rest.narrow X G W ρ y := by
  refine Eq.trans ?_ (resNarrow_at X G W ρ y)
  unfold resNarrowT
  generalize resNarrow X G W = N
  pointwise

end Cert.Reference4Ideal.Rest
-- ==== Proof.RestEnds.lean ====
/-
  Where the fourth call's two programs meet, and what its frames claim.
-/
module

public import proofs.«01_k».proof.Defs
public import proofs.«01_k».proof.Proof.RestOut
public import proofs.«01_k».proof.Proof.RestRef
public import proofs.«01_k».proof.Proof.RestRunBits
public import Idealize.ShloMosaic.Adequacy

@[expose] public section

set_option maxRecDepth 16384
noncomputable section
open Idealize.ShloMosaic Idealize.ShloMosaic.TcCoe Idealize.SL.Sem
namespace Rest

/-- The kernel terminates, keeps its arguments and leaves every counter at zero. -/
theorem frame_bits : Cert.quiescent_Kernel4 (hKernel4 := Cert.Kernel4.Gen.facts) := fun m g _ =>
  (θ_run Cert.Kernel4.defs _ _).mono (fun _ h => ⟨fun c => (h.1 c).2.2.2.2.2.2.2.2.2.2, h.2⟩) (Cert.Kernel4.Rest.ends m g)

/-- So does the idealized one, -/
theorem frame_ideal : Cert.quiescent_Kernel4Ideal (hKernel4Ideal := Cert.Kernel4Ideal.Gen.facts) := fun m g _ =>
  (θ_run Cert.Kernel4Ideal.defs _ _).mono (fun _ h => ⟨fun c => (h.1 c).2.2.2.2.2.2.2.2.2.2, h.2⟩) (Cert.Kernel4Ideal.Rest.ends m g)

/-- and the reference. -/
theorem frame_reference : Cert.quiescent_Reference4Ideal (hReference4Ideal := Cert.Reference4Ideal.Gen.facts) := fun m g _ =>
  (θ_run Cert.Reference4Ideal.defs _ _).mono (fun r h => ⟨fun c => (h c).2.2.2.2.2.2.2.2.2.2, sem_eq_zero_of_no_sems (by decide) r.2⟩)
    (Cert.Reference4Ideal.Value.run m g)

/-- The reference's prompt, -/
abbrev argX (m' : (ℓ : Loc Cert.Reference4Ideal.nD Cert.Reference4Ideal.τ Cert.Reference4Ideal.sig) → Buf (Elt Ideal) ℓ)
    (c : Dev Cert.Kernel4Ideal.nD) : FVec Ideal Cert.Reference4Ideal.S4x2048x2048 .f32 :=
  m' ((c.tc : Thread Cert.Reference4Ideal.nD Cert.Reference4Ideal.τ).loc Cert.Reference4Ideal.main_arg0)

/-- gain -/
abbrev argG (m' : (ℓ : Loc Cert.Reference4Ideal.nD Cert.Reference4Ideal.τ Cert.Reference4Ideal.sig) → Buf (Elt Ideal) ℓ)
    (c : Dev Cert.Kernel4Ideal.nD) : FVec Ideal Cert.Reference4Ideal.S1x2048 .f32 :=
  m' ((c.tc : Thread Cert.Reference4Ideal.nD Cert.Reference4Ideal.τ).loc Cert.Reference4Ideal.main_arg1)

/-- and weights. -/
abbrev argW (m' : (ℓ : Loc Cert.Reference4Ideal.nD Cert.Reference4Ideal.τ Cert.Reference4Ideal.sig) → Buf (Elt Ideal) ℓ)
    (c : Dev Cert.Kernel4Ideal.nD) : FVec Ideal Cert.Reference4Ideal.S1x2048x8784 .f32 :=
  m' ((c.tc : Thread Cert.Reference4Ideal.nD Cert.Reference4Ideal.τ).loc Cert.Reference4Ideal.main_arg2)

set_option maxHeartbeats 4000000 in
/-- The fourth call's ten results are its reference's, at every index. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨_, _, _, _, _, _, _, _, _, _, (θ_run Cert.Kernel4Ideal.defs _ _).mono (fun _ h => h.1) (Cert.Kernel4Ideal.Rest.ends m g), ?_⟩
  refine (θ_run Cert.Reference4Ideal.defs _ _).mono ?_ (Cert.Reference4Ideal.Value.run m' g')
  intro r h c
  obtain ⟨e0, e1, e2⟩ := hagree c
  obtain ⟨hq, hk, hv, hz, hmq, hmz, hqi, hki, hsmall, hsmallT, ha⟩ := h c
  refine ⟨hq.trans ?_, hk.trans ?_, hv.trans ?_, hz.trans ?_, hmq.trans ?_, hmz.trans ?_, hqi.trans ?_, hki.trans ?_, hsmall.trans ?_, hsmallT.trans ?_, ha⟩
  · refine Eq.trans (b := Cert.Reference4Ideal.Rest.resQueries (Rest.argX m' c) (Rest.argG m' c) (Rest.argW m' c)) rfl ?_
    rw [show argX m' c = _ from e0, show argG m' c = _ from e1, show argW m' c = _ from e2]
    exact (Cert.Kernel4Ideal.Rest.final_q m c _ (Cert.Reference4Ideal.Rest.resQueries_at _ _ _)).symm
  · refine Eq.trans (b := Cert.Reference4Ideal.Rest.resKeys (Rest.argX m' c) (Rest.argG m' c) (Rest.argW m' c)) rfl ?_
    rw [show argX m' c = _ from e0, show argG m' c = _ from e1, show argW m' c = _ from e2]
    exact (Cert.Kernel4Ideal.Rest.final_k m c _ (Cert.Reference4Ideal.Rest.resKeys_at _ _ _)).symm
  · refine Eq.trans (b := Cert.Reference4Ideal.Rest.resValues (Rest.argX m' c) (Rest.argG m' c) (Rest.argW m' c)) rfl ?_
    rw [show argX m' c = _ from e0, show argG m' c = _ from e1, show argW m' c = _ from e2]
    exact (Cert.Kernel4Ideal.Rest.final_v m c _ (Cert.Reference4Ideal.Rest.resValues_at _ _ _)).symm
  · refine Eq.trans (b := Cert.Reference4Ideal.Rest.resGates (Rest.argX m' c) (Rest.argG m' c) (Rest.argW m' c)) rfl ?_
    rw [show argX m' c = _ from e0, show argG m' c = _ from e1, show argW m' c = _ from e2]
    exact (Cert.Kernel4Ideal.Rest.final_z m c _ (Cert.Reference4Ideal.Rest.resGates_at _ _ _)).symm
  · refine Eq.trans (b := Cert.Reference4Ideal.Rest.resMemQueries (Rest.argX m' c) (Rest.argG m' c) (Rest.argW m' c)) rfl ?_
    rw [show argX m' c = _ from e0, show argG m' c = _ from e1, show argW m' c = _ from e2]
    exact (Cert.Kernel4Ideal.Rest.final_mq m c _ (Cert.Reference4Ideal.Rest.resMemQueries_at _ _ _)).symm
  · refine Eq.trans (b := Cert.Reference4Ideal.Rest.resMemGates (Rest.argX m' c) (Rest.argG m' c) (Rest.argW m' c)) rfl ?_
    rw [show argX m' c = _ from e0, show argG m' c = _ from e1, show argW m' c = _ from e2]
    exact (Cert.Kernel4Ideal.Rest.final_mz m c _ (Cert.Reference4Ideal.Rest.resMemGates_at _ _ _)).symm
  · refine Eq.trans (b := Cert.Reference4Ideal.Rest.resIdxQueries (Rest.argX m' c) (Rest.argG m' c) (Rest.argW m' c)) rfl ?_
    rw [show argX m' c = _ from e0, show argG m' c = _ from e1, show argW m' c = _ from e2]
    exact (Cert.Kernel4Ideal.Rest.final_qi m c _ (Cert.Reference4Ideal.Rest.resIdxQueries_at _ _ _)).symm
  · refine Eq.trans (b := Cert.Reference4Ideal.Rest.resIdxKeys (Rest.argX m' c) (Rest.argG m' c) (Rest.argW m' c)) rfl ?_
    rw [show argX m' c = _ from e0, show argG m' c = _ from e1, show argW m' c = _ from e2]
    exact (Cert.Kernel4Ideal.Rest.final_ki m c _ (Cert.Reference4Ideal.Rest.resIdxKeys_at _ _ _)).symm
  · refine Eq.trans (b := Cert.Reference4Ideal.Rest.resNarrow (Rest.argX m' c) (Rest.argG m' c) (Rest.argW m' c)) rfl ?_
    rw [show argX m' c = _ from e0, show argG m' c = _ from e1, show argW m' c = _ from e2]
    exact (Cert.Kernel4Ideal.Rest.final_small m c _ (Cert.Reference4Ideal.Rest.resNarrow_at _ _ _)).symm
  · refine Eq.trans (b := Cert.Reference4Ideal.Rest.resNarrowT (Rest.argX m' c) (Rest.argG m' c) (Rest.argW m' c)) rfl ?_
    rw [show argX m' c = _ from e0, show argG m' c = _ from e1, show argW m' c = _ from e2]
    exact (Cert.Kernel4Ideal.Rest.final_smallT m c _ (Cert.Reference4Ideal.Rest.resNarrowT_at _ _ _)).symm

end Rest
-- ==== Proof.lean ====
module

public import proofs.«01_k».proof.Proof.Gen.KernelIdeal.Value
public import proofs.«01_k».proof.Proof.Gen.ReferenceIdeal.Run
public import proofs.«01_k».proof.Defs
public import proofs.«01_k».proof.Proof.Ends
public import proofs.«01_k».proof.Proof.RefEnd
public import proofs.«01_k».proof.Proof.MixEnds
public import proofs.«01_k».proof.Proof.MemEnds
public import proofs.«01_k».proof.Proof.RestEnds
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference terminates, leaves its arguments unchanged and every counter at zero. -/
theorem reference_frame : Cert.quiescent_ReferenceIdeal (hReferenceIdeal := Cert.ReferenceIdeal.Gen.facts) := by
  intro m g _
  refine (θ_run Cert.ReferenceIdeal.defs _ _).mono ?_ (Cert.ReferenceIdeal.Value.run m g)
  intro r h
  exact ⟨fun c => (h c).2.2.2.2, sem_eq_zero_of_no_sems (by decide) r.2⟩

/-- … under the precondition too. -/
theorem reference_frame_finite : Cert.quiescent_ReferenceIdeal_pre_finite (hReferenceIdeal := Cert.ReferenceIdeal.Gen.facts) (hPre_finite := Cert.Pre_finite.facts) :=
  fun m g _ => reference_frame m g trivial

/-- At real arguments the kernel's four results are the reference's, at every index. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨_, _, _, _, Cert.KernelIdeal.Value.run_blocks m g, ?_⟩
  refine (θ_run Cert.ReferenceIdeal.defs _ _).mono ?_ (Cert.ReferenceIdeal.Mlstm.ends m' g')
  intro r h c
  have R := Cert.KernelIdeal.Mlstm.reals c hpre
  obtain ⟨e0, e1, e2, e3, e4⟩ := hagree c
  have hV : Cert.ReferenceIdeal.Mlstm.Holds (Cert.KernelIdeal.Mlstm.inputs m c) (StableHlo.launchContents m' c) :=
    ⟨fun β t d => (congrFun e0 _).trans (R.x β t d), fun d => (congrFun e1 _).trans (R.g d),
      fun d j => (congrFun e2 _).trans (R.w d j), fun l => (congrFun e3 _).trans (R.b l)⟩
  obtain ⟨ho, hc, hn, hm, ha⟩ := h c
  rw [e4] at ho
  exact ⟨ho.trans (Cert.KernelIdeal.Mlstm.same_O R hV).symm, hc.trans (Cert.KernelIdeal.Mlstm.same_C R hV).symm,
    hn.trans (Cert.KernelIdeal.Mlstm.same_N R hV).symm, hm.trans (Cert.KernelIdeal.Mlstm.same_M R hV).symm, ha⟩

/-- The second call's reference terminates, leaves its arguments unchanged and every counter at zero. -/
theorem reference2_frame : Cert.quiescent_Reference2Ideal (hReference2Ideal := Cert.Reference2Ideal.Gen.facts) := by
  intro m g _
  refine (θ_run Cert.Reference2Ideal.defs _ _).mono ?_ (Cert.Reference2Ideal.Value.run m g)
  intro r h
  exact ⟨fun c => (h c).2, sem_eq_zero_of_no_sems (by decide) r.2⟩

/-- … under the precondition too. -/
theorem reference2_frame_finite : Cert.quiescent_Reference2Ideal_pre_finite2 (hReference2Ideal := Cert.Reference2Ideal.Gen.facts)
    (hPre_finite2 := Cert.Pre_finite2.facts) :=
  fun m g _ => reference2_frame m g trivial

/-- At real queries and keys the second call's result is its reference's, at every index. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.facts) := by
  intro m g m' g' hpre hagree
  refine ⟨_, Cert.Kernel2Ideal.Value.run_blocks m g, ?_⟩
  refine (θ_run Cert.Reference2Ideal.defs _ _).mono ?_ (Cert.Reference2Ideal.Value.run m' g')
  intro r h c
  obtain ⟨e0, e1, e2, e3, e4, e5, e6, e7, e8⟩ := hagree c
  obtain ⟨ho, ha⟩ := h c
  refine ⟨ho.trans ((Cert.Reference2Ideal.Mix.res_eq m' c).trans ?_), ha⟩
  rw [e0, e1, e2, e3, e4, e5, e6, e7, e8]
  exact (Cert.Kernel2Ideal.Mix.same m c hpre).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.facts, Cert.Pre_finite2.facts,
  fun m ρ _ => Cert.Kernel.Gen.frame m ρ, fun m ρ _ => Cert.KernelIdeal.Gen.frame m ρ, fun m ρ _ => Cert.KernelIdeal.Gen.frame m ρ,
  reference_frame, reference_frame_finite,
  fun m ρ _ => Cert.Kernel2.Gen.frame m ρ, fun m ρ _ => Cert.Kernel2Ideal.Gen.frame m ρ, fun m ρ _ => Cert.Kernel2Ideal.Gen.frame m ρ,
  reference2_frame, reference2_frame_finite, Mem.frame_bits, Mem.frame_ideal, Mem.frame_reference,
  Rest.frame_bits, Rest.frame_ideal, Rest.frame_reference,
  trivial, algebraic, trivial, algebraic2, trivial, Mem.algebraic, trivial, Rest.algebraic⟩

end Cert.Proof

end
